-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_3)) (v2 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_3) = v1 c
          ∧ r.2.mem ((c.tc : Thread Cert.KernelIdeal.nD Cert.KernelIdeal.τ).loc Cert.KernelIdeal.main_v1_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30_0) = v0 c
          ∧ r.2.mem ((c.tc : Thread Cert.ReferenceIdeal.nD Cert.ReferenceIdeal.τ).loc Cert.ReferenceIdeal.main_v30_3) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x1x7168 : Shape := ⟨3, ![3, 1, 7168]⟩
abbrev S7168x32256 : Shape := ⟨2, ![7168, 32256]⟩
abbrev S32256 : Shape := ⟨1, ![32256]⟩
abbrev S3x1008 : Shape := ⟨2, ![3, 1008]⟩
abbrev S3x1x40 : Shape := ⟨3, ![3, 1, 40]⟩
abbrev S_ : Shape := ⟨0, ![]⟩

class Facts : Prop where
  bcast_S_S3x1x7168 : S_.BroadcastsInDim S3x1x7168 (![] : Fin 0 → Fin S3x1x7168.rank)

variable [Facts]

def fn {F : FTy → Type} [FloatOps F] (main_arg0 : FVec F S3x1x7168 .bf16) (main_arg1 : FVec F S7168x32256 .fp8e4m3) (main_arg2 : FVec F S32256 .f32) (main_arg3 : IVec S3x1008 32) (main_arg4 : IVec S3x1x40 32) : IVec S3x1x7168 1 :=
  let main_v0 : FVec F S3x1x7168 .bf16 := Host.absf main_arg0
  let main_cst : FVec F S_ .bf16 := constant S_ .bf16 0x7F7F#16
  let main_v1 : FVec F S3x1x7168 .bf16 := broadcastInDim S3x1x7168 ![] bcast_S_S3x1x7168 main_cst
  let main_v2 : IVec S3x1x7168 1 := cmpf .ole main_v0 main_v1
  main_v2
-- ==== Kernel.lean ====
abbrev S3x1x7168 : Shape := ⟨3, ![3, 1, 7168]⟩
abbrev S7168x32256 : Shape := ⟨2, ![7168, 32256]⟩
abbrev S32256 : Shape := ⟨1, ![32256]⟩
abbrev S3x1008 : Shape := ⟨2, ![3, 1008]⟩
abbrev S3x1x40 : Shape := ⟨3, ![3, 1, 40]⟩
abbrev S3x7168 : Shape := ⟨2, ![3, 7168]⟩
abbrev S3x1x32256 : Shape := ⟨3, ![3, 1, 32256]⟩
abbrev S1x3 : Shape := ⟨2, ![1, 3]⟩
abbrev S4x7168x512 : Shape := ⟨3, ![4, 7168, 512]⟩
abbrev S1x32256 : Shape := ⟨2, ![1, 32256]⟩
abbrev S8x7168 : Shape := ⟨2, ![8, 7168]⟩
abbrev S32x7168 : Shape := ⟨2, ![32, 7168]⟩
abbrev S8x1024 : Shape := ⟨2, ![8, 1024]⟩
abbrev S3x40x128 : Shape := ⟨3, ![3, 40, 128]⟩
abbrev S8x128 : Shape := ⟨2, ![8, 128]⟩
abbrev S4 : Shape := ⟨1, ![4]⟩
abbrev S5 : Shape := ⟨1, ![5]⟩
abbrev S_ : Shape := ⟨0, ![]⟩
abbrev S3 : Shape := ⟨1, ![3]⟩
abbrev S1 : Shape := ⟨1, ![1]⟩
abbrev S1x7168x512 : Shape := ⟨3, ![1, 7168, 512]⟩
abbrev S7168x512 : Shape := ⟨2, ![7168, 512]⟩
abbrev S8 : Shape := ⟨1, ![8]⟩
abbrev S8x1 : Shape := ⟨2, ![8, 1]⟩
abbrev S24x7168 : Shape := ⟨2, ![24, 7168]⟩
abbrev S128 : Shape := ⟨1, ![128]⟩
abbrev S1x128 : Shape := ⟨2, ![1, 128]⟩
abbrev S40x128 : Shape := ⟨2, ![40, 128]⟩
abbrev S1x1x40 : Shape := ⟨3, ![1, 1, 40]⟩
abbrev S1x40 : Shape := ⟨2, ![1, 40]⟩
abbrev S1x88 : Shape := ⟨2, ![1, 88]⟩
abbrev S40 : Shape := ⟨1, ![40]⟩
abbrev S40x1 : Shape := ⟨2, ![40, 1]⟩
abbrev S1x40x128 : Shape := ⟨3, ![1, 40, 128]⟩
abbrev S32x512 : Shape := ⟨2, ![32, 512]⟩
abbrev S8x512 : Shape := ⟨2, ![8, 512]⟩
abbrev S1x3072x512 : Shape := ⟨3, ![1, 3072, 512]⟩
abbrev S3072x512 : Shape := ⟨2, ![3072, 512]⟩
abbrev S1x2048x512 : Shape := ⟨3, ![1, 2048, 512]⟩
abbrev S2048x512 : Shape := ⟨2, ![2048, 512]⟩
abbrev S1x1280x512 : Shape := ⟨3, ![1, 1280, 512]⟩
abbrev S1280x512 : Shape := ⟨2, ![1280, 512]⟩
abbrev S1x512x512 : Shape := ⟨3, ![1, 512, 512]⟩
abbrev S512x512 : Shape := ⟨2, ![512, 512]⟩
abbrev S1x256x512 : Shape := ⟨3, ![1, 256, 512]⟩
abbrev S256x512 : Shape := ⟨2, ![256, 512]⟩
abbrev S8x128x1 : Shape := ⟨3, ![8, 128, 1]⟩
abbrev S1x512 : Shape := ⟨2, ![1, 512]⟩
abbrev S1x1x512 : Shape := ⟨3, ![1, 1, 512]⟩
abbrev S32x3072 : Shape := ⟨2, ![32, 3072]⟩
abbrev S32x2048 : Shape := ⟨2, ![32, 2048]⟩
abbrev S32x1280 : Shape := ⟨2, ![32, 1280]⟩
abbrev S32x256 : Shape := ⟨2, ![32, 256]⟩
abbrev S1x1 : Shape := ⟨2, ![1, 1]⟩

abbrev nBuf : Space → Nat
  | .hbm => 11
  | .vmem => 19
  | .smem => 0
  | _ => 0

abbrev bufTy : (tb : Table) → Fin (tcTables nBuf tb) → BufTy
  | .hbm, ⟨0, _⟩ => ⟨S3x1x7168, .bf16⟩
  | .hbm, ⟨1, _⟩ => ⟨S7168x32256, .fp8e4m3⟩
  | .hbm, ⟨2, _⟩ => ⟨S32256, .f32⟩
  | .hbm, ⟨3, _⟩ => ⟨S3x1008, .i32⟩
  | .hbm, ⟨4, _⟩ => ⟨S3x1x40, .i32⟩
  | .hbm, ⟨5, _⟩ => ⟨S3x7168, .bf16⟩
  | .hbm, ⟨6, _⟩ => ⟨S3x1x32256, .f32⟩
  | .hbm, ⟨7, _⟩ => ⟨S1x3, .f32⟩
  | .hbm, ⟨8, _⟩ => ⟨S3x1x40, .f32⟩
  | .hbm, ⟨9, _⟩ => ⟨S3x7168, .fp8e4m3⟩
  | .hbm, ⟨10, _⟩ => ⟨S1x3, .f32⟩
  | .local _ .vmem, ⟨0, _⟩ => ⟨S4x7168x512, .fp8e4m3⟩
  | .local _ .vmem, ⟨1, _⟩ => ⟨S3x7168, .bf16⟩
  | .local _ .vmem, ⟨2, _⟩ => ⟨S1x32256, .f32⟩
  | .local _ .vmem, ⟨3, _⟩ => ⟨S3x1008, .i32⟩
  | .local _ .vmem, ⟨4, _⟩ => ⟨S3x1x40, .i32⟩
  | .local _ .vmem, ⟨5, _⟩ => ⟨S3x1x32256, .f32⟩
  | .local _ .vmem, ⟨6, _⟩ => ⟨S1x3, .f32⟩
  | .local _ .vmem, ⟨7, _⟩ => ⟨S3x1x40, .f32⟩
  | .local _ .vmem, ⟨8, _⟩ => ⟨S3x7168, .fp8e4m3⟩
  | .local _ .vmem, ⟨9, _⟩ => ⟨S1x3, .f32⟩
  | .local _ .vmem, ⟨10, _⟩ => ⟨S8x7168, .f32⟩
  | .local _ .vmem, ⟨11, _⟩ => ⟨S32x7168, .fp8e4m3⟩
  | .local _ .vmem, ⟨12, _⟩ => ⟨S8x1024, .i32⟩
  | .local _ .vmem, ⟨13, _⟩ => ⟨S3x40x128, .i32⟩
  | .local _ .vmem, ⟨14, _⟩ => ⟨S3x40x128, .f32⟩
  | .local _ .vmem, ⟨15, _⟩ => ⟨S3x40x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | _, _ => ⟨S3x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩

abbrev nD : Nat := 1
abbrev τ : Topo := Topo.v7x

variable {F : FTy → Type} [FloatOps F]

abbrev grid0 : Pipeline.Grid := .none

def k0_off1 (c0_i32_2 : BitVec 32) : Fin 1 → Nat :=
  let c4_i32 : BitVec 32 := 4#32
  let v8 : BitVec 32 := Scalar.remsi c0_i32_2 c4_i32
  ![v8.toNat]
def k0_off2 (c0_i32_2 : BitVec 32) : Fin 3 → Nat :=
  let c4_i32 : BitVec 32 := 4#32
  let v8 : BitVec 32 := Scalar.remsi c0_i32_2 c4_i32
  let c0_i32_3 : BitVec 32 := 0#32
  let c0_i32_4 : BitVec 32 := 0#32
  ![v8.toNat, 0, 0]
def k0_off3 : Fin 3 → Nat :=
  let c0_i32_535 : BitVec 32 := 0#32
  let c4_i32_536 : BitVec 32 := 4#32
  let v1486 : BitVec 32 := Scalar.remsi c0_i32_535 c4_i32_536
  let v1487 : Index := Scalar.indexCast v1486
  let c0_537 : Index := 0#32
  let c0_538 : Index := 0#32
  ![v1487.toNat, 0, 0]
@[reducible] def k0_t1_loop : Scf.Loop 32 :=
  let c1_i32_540 : BitVec 32 := 1#32
  let c61_i32 : BitVec 32 := 61#32
  let v1492 : BitVec 32 := Scalar.addi c1_i32_540 c61_i32
  let c1_i32_541 : BitVec 32 := 1#32
  ⟨c1_i32_540, v1492, c1_i32_541⟩
def k0_cond1 (k0_t1 : Fin k0_t1_loop.trips) : BitVec 1 :=
  let c1_i32_540 : BitVec 32 := 1#32
  let c1_i32_541 : BitVec 32 := 1#32
  let arg34 : BitVec 32 := Scf.iv c1_i32_540 c1_i32_541 k0_t1
  let c4_i32_922 : BitVec 32 := 4#32
  let v2434 : BitVec 32 := Scalar.addi arg34 c4_i32_922
  let c1_i32_923 : BitVec 32 := 1#32
  let v2435 : BitVec 32 := Scalar.subi v2434 c1_i32_923
  let c62_i32 : BitVec 32 := 62#32
  let v2436 : BitVec 1 := Scalar.cmpi .slt v2435 c62_i32
  let v2437 : BitVec 32 := Scalar.extui v2436
  let c0_i32_924 : BitVec 32 := 0#32
  let v2438 : BitVec 1 := Scalar.cmpi .ne v2437 c0_i32_924
  v2438

def k0_off4 (k0_t1 : Fin k0_t1_loop.trips) : Fin 1 → Nat :=
  let c1_i32_540 : BitVec 32 := 1#32
  let c1_i32_541 : BitVec 32 := 1#32
  let arg34 : BitVec 32 := Scf.iv c1_i32_540 c1_i32_541 k0_t1
  let c4_i32_922 : BitVec 32 := 4#32
  let v2434 : BitVec 32 := Scalar.addi arg34 c4_i32_922
  let c1_i32_923 : BitVec 32 := 1#32
  let v2435 : BitVec 32 := Scalar.subi v2434 c1_i32_923
  let c4_i32_1082 : BitVec 32 := 4#32
  let v2889 : BitVec 32 := Scalar.remsi v2435 c4_i32_1082
  ![v2889.toNat]
def k0_off5 (k0_t1 : Fin k0_t1_loop.trips) : Fin 3 → Nat :=
  let c1_i32_540 : BitVec 32 := 1#32
  let c1_i32_541 : BitVec 32 := 1#32
  let arg34 : BitVec 32 := Scf.iv c1_i32_540 c1_i32_541 k0_t1
  let c4_i32_922 : BitVec 32 := 4#32
  let v2434 : BitVec 32 := Scalar.addi arg34 c4_i32_922
  let c1_i32_923 : BitVec 32 := 1#32
  let v2435 : BitVec 32 := Scalar.subi v2434 c1_i32_923
  let c4_i32_1082 : BitVec 32 := 4#32
  let v2889 : BitVec 32 := Scalar.remsi v2435 c4_i32_1082
  let c0_i32_1084 : BitVec 32 := 0#32
  let c0_i32_1085 : BitVec 32 := 0#32
  ![v2889.toNat, 0, 0]
def k0_off6 (k0_t1 : Fin k0_t1_loop.trips) : Fin 2 → Nat :=
  let c0_i32_1086 : BitVec 32 := 0#32
  let c1_i32_540 : BitVec 32 := 1#32
  let c1_i32_541 : BitVec 32 := 1#32
  let arg34 : BitVec 32 := Scf.iv c1_i32_540 c1_i32_541 k0_t1
  let c4_i32_922 : BitVec 32 := 4#32
  let v2434 : BitVec 32 := Scalar.addi arg34 c4_i32_922
  let c1_i32_923 : BitVec 32 := 1#32
  let v2435 : BitVec 32 := Scalar.subi v2434 c1_i32_923
  let c512_i32_1083 : BitVec 32 := 512#32
  let v2890 : BitVec 32 := Scalar.muli v2435 c512_i32_1083
  ![0, v2890.toNat]
def k0_off7 (k0_t1 : Fin k0_t1_loop.trips) : Fin 1 → Nat :=
  let c1_i32_540 : BitVec 32 := 1#32
  let c1_i32_541 : BitVec 32 := 1#32
  let arg34 : BitVec 32 := Scf.iv c1_i32_540 c1_i32_541 k0_t1
  let c4_i32_927 : BitVec 32 := 4#32
  let v2442 : BitVec 32 := Scalar.remsi arg34 c4_i32_927
  ![v2442.toNat]
def k0_off8 (k0_t1 : Fin k0_t1_loop.trips) : Fin 3 → Nat :=
  let c1_i32_540 : BitVec 32 := 1#32
  let c1_i32_541 : BitVec 32 := 1#32
  let arg34 : BitVec 32 := Scf.iv c1_i32_540 c1_i32_541 k0_t1
  let c4_i32_927 : BitVec 32 := 4#32
  let v2442 : BitVec 32 := Scalar.remsi arg34 c4_i32_927
  let c0_i32_929 : BitVec 32 := 0#32
  let c0_i32_930 : BitVec 32 := 0#32
  ![v2442.toNat, 0, 0]
def k0_off9 (k0_t1 : Fin k0_t1_loop.trips) : Fin 2 → Nat :=
  let c0_i32_931 : BitVec 32 := 0#32
  let c1_i32_540 : BitVec 32 := 1#32
  let c1_i32_541 : BitVec 32 := 1#32
  let arg34 : BitVec 32 := Scf.iv c1_i32_540 c1_i32_541 k0_t1
  let c512_i32_928 : BitVec 32 := 512#32
  let v2443 : BitVec 32 := Scalar.muli arg34 c512_i32_928
  ![0, v2443.toNat]
def k0_off10 (k0_t1 : Fin k0_t1_loop.trips) : Fin 3 → Nat :=
  let c1_i32_540 : BitVec 32 := 1#32
  let c1_i32_541 : BitVec 32 := 1#32
  let arg34 : BitVec 32 := Scf.iv c1_i32_540 c1_i32_541 k0_t1
  let c4_i32_934 : BitVec 32 := 4#32
  let v2450 : BitVec 32 := Scalar.remsi arg34 c4_i32_934
  let v2451 : Index := Scalar.indexCast v2450
  let c0_935 : Index := 0#32
  let c0_936 : Index := 0#32
  ![v2451.toNat, 0, 0]
def k0_mult1 (k0_t1 : Fin k0_t1_loop.trips) : BitVec 32 :=
  let c1_i32_540 : BitVec 32 := 1#32
  let c1_i32_541 : BitVec 32 := 1#32
  let arg34 : BitVec 32 := Scf.iv c1_i32_540 c1_i32_541 k0_t1
  let c1_i32_938 : BitVec 32 := 1#32
  let v2456 : BitVec 32 := Scalar.subi arg34 c1_i32_938
  let c512_i32_939 : BitVec 32 := 512#32
  let v2457 : BitVec 32 := Scalar.muli v2456 c512_i32_939
  v2457
def k0_mult2 (k0_t1 : Fin k0_t1_loop.trips) : BitVec 32 :=
  let c1_i32_540 : BitVec 32 := 1#32
  let c1_i32_541 : BitVec 32 := 1#32
  let arg34 : BitVec 32 := Scf.iv c1_i32_540 c1_i32_541 k0_t1
  let c1_i32_938 : BitVec 32 := 1#32
  let v2456 : BitVec 32 := Scalar.subi arg34 c1_i32_938
  let c512_i32_939 : BitVec 32 := 512#32
  let v2457 : BitVec 32 := Scalar.muli v2456 c512_i32_939
  let v2458 : BitVec 32 := v2457
  let c0_i32_941 : BitVec 32 := 0#32
  let v2460 : BitVec 1 := Scalar.cmpi .sgt v2458 c0_i32_941
  let v2461 : BitVec 32 := Scalar.extui v2460
  let c0_i32_942 : BitVec 32 := 0#32
  let v2462 : BitVec 1 := Scalar.cmpi .slt v2458 c0_i32_942
  let v2463 : BitVec 32 := Scalar.extui v2462
  let v2464 : BitVec 32 := Scalar.subi v2461 v2463
  let c32_i32_940 : BitVec 32 := 32#32
  let c0_i32_943 : BitVec 32 := 0#32
  let v2465 : BitVec 1 := Scalar.cmpi .sgt c32_i32_940 c0_i32_943
  let v2466 : BitVec 32 := Scalar.extui v2465
  let c0_i32_944 : BitVec 32 := 0#32
  let v2467 : BitVec 1 := Scalar.cmpi .slt c32_i32_940 c0_i32_944
  let v2468 : BitVec 32 := Scalar.extui v2467
  let v2469 : BitVec 32 := Scalar.subi v2466 v2468
  let v2470 : BitVec 1 := Scalar.cmpi .ne v2464 v2469
  let v2471 : BitVec 32 := Scalar.remsi v2458 c32_i32_940
  let c0_i32_945 : BitVec 32 := 0#32
  let v2472 : BitVec 1 := Scalar.cmpi .ne v2471 c0_i32_945
  let v2473 : BitVec 1 := Scalar.andi v2470 v2472
  let v2459 : BitVec 32 := Scalar.divsi v2458 c32_i32_940
  let c1_i32_946 : BitVec 32 := 1#32
  let v2474 : BitVec 32 := Scalar.subi v2459 c1_i32_946
  let v2475 : BitVec 32 := Scalar.select v2473 v2474 v2459
  let c128_i32_947 : BitVec 32 := 128#32
  let c0_i32_948 : BitVec 32 := 0#32
  let v2476 : BitVec 1 := Scalar.cmpi .eq c128_i32_947 c0_i32_948
  let c1_i32_949 : BitVec 32 := 1#32
  let v2477 : BitVec 32 := Scalar.select v2476 c1_i32_949 c128_i32_947
  let v2478 : BitVec 32 := Scalar.remsi v2475 v2477
  let c0_i32_951 : BitVec 32 := 0#32
  let v2480 : BitVec 1 := Scalar.cmpi .slt v2478 c0_i32_951
  let c0_i32_952 : BitVec 32 := 0#32
  let v2481 : BitVec 1 := Scalar.cmpi .slt v2477 c0_i32_952
  let v2482 : BitVec 1 := Scalar.xori v2480 v2481
  let c0_i32_950 : BitVec 32 := 0#32
  let v2479 : BitVec 1 := Scalar.cmpi .ne v2478 c0_i32_950
  let v2483 : BitVec 1 := Scalar.andi v2482 v2479
  let v2484 : BitVec 32 := Scalar.addi v2478 v2477
  let v2485 : BitVec 32 := Scalar.select v2483 v2484 v2478
  let v2486 : BitVec 32 := Scalar.subi v2475 v2485
  v2486
def k0_off11 (k0_t1 : Fin k0_t1_loop.trips) : Fin 2 → Nat :=
  let c0_953 : Index := 0#32
  let c1_i32_540 : BitVec 32 := 1#32
  let c1_i32_541 : BitVec 32 := 1#32
  let arg34 : BitVec 32 := Scf.iv c1_i32_540 c1_i32_541 k0_t1
  let c1_i32_938 : BitVec 32 := 1#32
  let v2456 : BitVec 32 := Scalar.subi arg34 c1_i32_938
  let c512_i32_939 : BitVec 32 := 512#32
  let v2457 : BitVec 32 := Scalar.muli v2456 c512_i32_939
  let v2458 : BitVec 32 := v2457
  let c0_i32_941 : BitVec 32 := 0#32
  let v2460 : BitVec 1 := Scalar.cmpi .sgt v2458 c0_i32_941
  let v2461 : BitVec 32 := Scalar.extui v2460
  let c0_i32_942 : BitVec 32 := 0#32
  let v2462 : BitVec 1 := Scalar.cmpi .slt v2458 c0_i32_942
  let v2463 : BitVec 32 := Scalar.extui v2462
  let v2464 : BitVec 32 := Scalar.subi v2461 v2463
  let c32_i32_940 : BitVec 32 := 32#32
  let c0_i32_943 : BitVec 32 := 0#32
  let v2465 : BitVec 1 := Scalar.cmpi .sgt c32_i32_940 c0_i32_943
  let v2466 : BitVec 32 := Scalar.extui v2465
  let c0_i32_944 : BitVec 32 := 0#32
  let v2467 : BitVec 1 := Scalar.cmpi .slt c32_i32_940 c0_i32_944
  let v2468 : BitVec 32 := Scalar.extui v2467
  let v2469 : BitVec 32 := Scalar.subi v2466 v2468
  let v2470 : BitVec 1 := Scalar.cmpi .ne v2464 v2469
  let v2471 : BitVec 32 := Scalar.remsi v2458 c32_i32_940
  let c0_i32_945 : BitVec 32 := 0#32
  let v2472 : BitVec 1 := Scalar.cmpi .ne v2471 c0_i32_945
  let v2473 : BitVec 1 := Scalar.andi v2470 v2472
  let v2459 : BitVec 32 := Scalar.divsi v2458 c32_i32_940
  let c1_i32_946 : BitVec 32 := 1#32
  let v2474 : BitVec 32 := Scalar.subi v2459 c1_i32_946
  let v2475 : BitVec 32 := Scalar.select v2473 v2474 v2459
  let c128_i32_947 : BitVec 32 := 128#32
  let c0_i32_948 : BitVec 32 := 0#32
  let v2476 : BitVec 1 := Scalar.cmpi .eq c128_i32_947 c0_i32_948
  let c1_i32_949 : BitVec 32 := 1#32
  let v2477 : BitVec 32 := Scalar.select v2476 c1_i32_949 c128_i32_947
  let v2478 : BitVec 32 := Scalar.remsi v2475 v2477
  let c0_i32_951 : BitVec 32 := 0#32
  let v2480 : BitVec 1 := Scalar.cmpi .slt v2478 c0_i32_951
  let c0_i32_952 : BitVec 32 := 0#32
  let v2481 : BitVec 1 := Scalar.cmpi .slt v2477 c0_i32_952
  let v2482 : BitVec 1 := Scalar.xori v2480 v2481
  let c0_i32_950 : BitVec 32 := 0#32
  let v2479 : BitVec 1 := Scalar.cmpi .ne v2478 c0_i32_950
  let v2483 : BitVec 1 := Scalar.andi v2482 v2479
  let v2484 : BitVec 32 := Scalar.addi v2478 v2477
  let v2485 : BitVec 32 := Scalar.select v2483 v2484 v2478
  let v2486 : BitVec 32 := Scalar.subi v2475 v2485
  let v2487 : BitVec 32 := v2486
  let v2488 : Index := Scalar.indexCast v2487
  ![0, v2488.toNat]
def k0_off12 (k0_t1 : Fin k0_t1_loop.trips) : Fin 2 → Nat :=
  let c0_1025 : Index := 0#32
  let c1_i32_540 : BitVec 32 := 1#32
  let c1_i32_541 : BitVec 32 := 1#32
  let arg34 : BitVec 32 := Scf.iv c1_i32_540 c1_i32_541 k0_t1
  let c1_i32_938 : BitVec 32 := 1#32
  let v2456 : BitVec 32 := Scalar.subi arg34 c1_i32_938
  let c512_i32_939 : BitVec 32 := 512#32
  let v2457 : BitVec 32 := Scalar.muli v2456 c512_i32_939
  let v2458 : BitVec 32 := v2457
  let v2716 : Index := Scalar.indexCast v2458
  ![0, v2716.toNat]
def k0_off13 (k0_t1 : Fin k0_t1_loop.trips) : Fin 3 → Nat :=
  let c0_1027 : Index := 0#32
  let c0_1028 : Index := 0#32
  let c1_i32_540 : BitVec 32 := 1#32
  let c1_i32_541 : BitVec 32 := 1#32
  let arg34 : BitVec 32 := Scf.iv c1_i32_540 c1_i32_541 k0_t1
  let c1_i32_938 : BitVec 32 := 1#32
  let v2456 : BitVec 32 := Scalar.subi arg34 c1_i32_938
  let c512_i32_939 : BitVec 32 := 512#32
  let v2457 : BitVec 32 := Scalar.muli v2456 c512_i32_939
  let v2458 : BitVec 32 := v2457
  let v2723 : Index := Scalar.indexCast v2458
  ![0, 0, v2723.toNat]
def k0_off14 (k0_t1 : Fin k0_t1_loop.trips) : Fin 3 → Nat :=
  let c1_1029 : Index := 1#32
  let c0_1030 : Index := 0#32
  let c1_i32_540 : BitVec 32 := 1#32
  let c1_i32_541 : BitVec 32 := 1#32
  let arg34 : BitVec 32 := Scf.iv c1_i32_540 c1_i32_541 k0_t1
  let c1_i32_938 : BitVec 32 := 1#32
  let v2456 : BitVec 32 := Scalar.subi arg34 c1_i32_938
  let c512_i32_939 : BitVec 32 := 512#32
  let v2457 : BitVec 32 := Scalar.muli v2456 c512_i32_939
  let v2458 : BitVec 32 := v2457
  let v2728 : Index := Scalar.indexCast v2458
  ![1, 0, v2728.toNat]
def k0_off15 (k0_t1 : Fin k0_t1_loop.trips) : Fin 3 → Nat :=
  let c2_1031 : Index := 2#32
  let c0_1032 : Index := 0#32
  let c1_i32_540 : BitVec 32 := 1#32
  let c1_i32_541 : BitVec 32 := 1#32
  let arg34 : BitVec 32 := Scf.iv c1_i32_540 c1_i32_541 k0_t1
  let c1_i32_938 : BitVec 32 := 1#32
  let v2456 : BitVec 32 := Scalar.subi arg34 c1_i32_938
  let c512_i32_939 : BitVec 32 := 512#32
  let v2457 : BitVec 32 := Scalar.muli v2456 c512_i32_939
  let v2458 : BitVec 32 := v2457
  let v2733 : Index := Scalar.indexCast v2458
  ![2, 0, v2733.toNat]
def k0_mult3 : BitVec 32 :=
  let c896_i32_555 : BitVec 32 := 896#32
  c896_i32_555
def k0_mult4 : BitVec 32 :=
  let c896_i32_687 : BitVec 32 := 896#32
  c896_i32_687
-- ==== ReferenceIdeal.lean ====
abbrev S3x1x7168 : Shape := ⟨3, ![3, 1, 7168]⟩
abbrev S7168x32256 : Shape := ⟨2, ![7168, 32256]⟩
abbrev S32256 : Shape := ⟨1, ![32256]⟩
abbrev S3x1008 : Shape := ⟨2, ![3, 1008]⟩
abbrev S3x1x40 : Shape := ⟨3, ![3, 1, 40]⟩
abbrev S253 : Shape := ⟨1, ![253]⟩
abbrev S3x7168 : Shape := ⟨2, ![3, 7168]⟩
abbrev S_ : Shape := ⟨0, ![]⟩
abbrev S3 : Shape := ⟨1, ![3]⟩
abbrev S3x1 : Shape := ⟨2, ![3, 1]⟩
abbrev S1x253 : Shape := ⟨2, ![1, 253]⟩
abbrev S3x253 : Shape := ⟨2, ![3, 253]⟩
abbrev S3x1008x32 : Shape := ⟨3, ![3, 1008, 32]⟩
abbrev S3x1008x1 : Shape := ⟨3, ![3, 1008, 1]⟩
abbrev S3x32256 : Shape := ⟨2, ![3, 32256]⟩
abbrev S3x40x1 : Shape := ⟨3, ![3, 40, 1]⟩
abbrev S1x3 : Shape := ⟨2, ![1, 3]⟩
abbrev S1x32256 : Shape := ⟨2, ![1, 32256]⟩
abbrev S3x1x32256 : Shape := ⟨3, ![3, 1, 32256]⟩
abbrev S3x40x32256 : Shape := ⟨3, ![3, 40, 32256]⟩
abbrev S3x40 : Shape := ⟨2, ![3, 40]⟩

abbrev nBuf : Space → Nat
  | .hbm => 53
  | .vmem => 10
  | .smem => 0
  | _ => 0

abbrev bufTy : (tb : Table) → Fin (tcTables nBuf tb) → BufTy
  | .hbm, ⟨0, _⟩ => ⟨S3x1x7168, .bf16⟩
  | .hbm, ⟨1, _⟩ => ⟨S7168x32256, .fp8e4m3⟩
  | .hbm, ⟨2, _⟩ => ⟨S32256, .f32⟩
  | .hbm, ⟨3, _⟩ => ⟨S3x1008, .i32⟩
  | .hbm, ⟨4, _⟩ => ⟨S3x1x40, .i32⟩
  | .hbm, ⟨5, _⟩ => ⟨S253, .f32⟩
  | .hbm, ⟨6, _⟩ => ⟨S3x1x7168, .f32⟩
  | .hbm, ⟨7, _⟩ => ⟨S3x7168, .f32⟩
  | .hbm, ⟨8, _⟩ => ⟨S3x7168, .f32⟩
  | .hbm, ⟨9, _⟩ => ⟨S_, .f32⟩
  | .hbm, ⟨10, _⟩ => ⟨S3, .f32⟩
  | .hbm, ⟨11, _⟩ => ⟨S3x1, .f32⟩
  | .hbm, ⟨12, _⟩ => ⟨S_, .f32⟩
  | .hbm, ⟨13, _⟩ => ⟨S3x1, .f32⟩
  | .hbm, ⟨14, _⟩ => ⟨S3x1, .f32⟩
  | .hbm, ⟨15, _⟩ => ⟨S1x253, .f32⟩
  | .hbm, ⟨16, _⟩ => ⟨S3x253, .f32⟩
  | .hbm, ⟨17, _⟩ => ⟨S3x253, .f32⟩
  | .hbm, ⟨18, _⟩ => ⟨S3x253, .i1⟩
  | .hbm, ⟨19, _⟩ => ⟨S_, .f32⟩
  | .hbm, ⟨20, _⟩ => ⟨S_, .f32⟩
  | .hbm, ⟨21, _⟩ => ⟨S3x253, .f32⟩
  | .hbm, ⟨22, _⟩ => ⟨S3x253, .f32⟩
  | .hbm, ⟨23, _⟩ => ⟨S3x253, .f32⟩
  | .hbm, ⟨24, _⟩ => ⟨S_, .f32⟩
  | .hbm, ⟨25, _⟩ => ⟨S3, .f32⟩
  | .hbm, ⟨26, _⟩ => ⟨S3x1, .f32⟩
  | .hbm, ⟨27, _⟩ => ⟨S_, .f32⟩
  | .hbm, ⟨28, _⟩ => ⟨S3x1, .f32⟩
  | .hbm, ⟨29, _⟩ => ⟨S3x1, .i1⟩
  | .hbm, ⟨30, _⟩ => ⟨S_, .f32⟩
  | .hbm, ⟨31, _⟩ => ⟨S_, .f32⟩
  | .hbm, ⟨32, _⟩ => ⟨S3x1, .f32⟩
  | .hbm, ⟨33, _⟩ => ⟨S3x1, .f32⟩
  | .hbm, ⟨34, _⟩ => ⟨S3x1008x32, .i32⟩
  | .hbm, ⟨35, _⟩ => ⟨S3x1008x1, .i32⟩
  | .hbm, ⟨36, _⟩ => ⟨S3x1008x32, .i32⟩
  | .hbm, ⟨37, _⟩ => ⟨S3x1008x32, .i32⟩
  | .hbm, ⟨38, _⟩ => ⟨S_, .i32⟩
  | .hbm, ⟨39, _⟩ => ⟨S3x1008x32, .i32⟩
  | .hbm, ⟨40, _⟩ => ⟨S3x1008x32, .i32⟩
  | .hbm, ⟨41, _⟩ => ⟨S_, .i32⟩
  | .hbm, ⟨42, _⟩ => ⟨S3x1008x32, .i32⟩
  | .hbm, ⟨43, _⟩ => ⟨S3x1008x32, .i1⟩
  | .hbm, ⟨44, _⟩ => ⟨S3x32256, .i1⟩
  | .hbm, ⟨45, _⟩ => ⟨S3x40x1, .i32⟩
  | .hbm, ⟨46, _⟩ => ⟨S1x3, .f32⟩
  | .hbm, ⟨47, _⟩ => ⟨S1x32256, .f32⟩
  | .hbm, ⟨48, _⟩ => ⟨S3x32256, .f32⟩
  | .hbm, ⟨49, _⟩ => ⟨S3x1x32256, .f32⟩
  | .hbm, ⟨50, _⟩ => ⟨S1x3, .f32⟩
  | .hbm, ⟨51, _⟩ => ⟨S3x1x40, .f32⟩
  | .hbm, ⟨52, _⟩ => ⟨S3x7168, .fp8e4m3⟩
  | .local _ .vmem, ⟨0, _⟩ => ⟨S3x7168, .f32⟩
  | .local _ .vmem, ⟨1, _⟩ => ⟨S3x1, .f32⟩
  | .local _ .vmem, ⟨2, _⟩ => ⟨S7168x32256, .fp8e4m3⟩
  | .local _ .vmem, ⟨3, _⟩ => ⟨S1x32256, .f32⟩
  | .local _ .vmem, ⟨4, _⟩ => ⟨S3x32256, .f32⟩
  | .local _ .vmem, ⟨5, _⟩ => ⟨S3x40x1, .i32⟩
  | .local _ .vmem, ⟨6, _⟩ => ⟨S3x1x32256, .f32⟩
  | .local _ .vmem, ⟨7, _⟩ => ⟨S1x3, .f32⟩
  | .local _ .vmem, ⟨8, _⟩ => ⟨S3x1x40, .f32⟩
  | .local _ .vmem, ⟨9, _⟩ => ⟨S3x7168, .fp8e4m3⟩
  | _, _ => ⟨S3x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v30_2 : Ref sig .tc := ⟨.hbm, 51, rfl⟩
abbrev main_v30_3 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x32256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x32256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x40x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x32256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.K.Names.lean ====
/-
  The names of the kernel's run: the four slots of the weight ring, the column blocks of the weight codes, the semaphore
  cells, and the resources that a slot has while it is free and while a block is on its way into it.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameValue
public import Idealize.ShloMosaic.Lib.Pipeline.FrameBody
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
abbrev 𝒱₀ : Variants := Variants.none

/-! ## The whole arrays -/

abbrev aX : Memref sig .tc .hbm S3x7168 .bf16 := Memref.whole main_v0
abbrev aW : Memref sig .tc .hbm S7168x32256 .fp8e4m3 := Memref.whole main_arg1
abbrev aWs : Memref sig .tc .hbm S32256 .f32 := Memref.whole main_arg2
abbrev aBm : Memref sig .tc .hbm S3x1008 .i32 := Memref.whole main_arg3
abbrev aId : Memref sig .tc .hbm S3x1x40 .i32 := Memref.whole main_arg4
abbrev oMl : Memref sig .tc .hbm S3x1x32256 .f32 := Memref.whole main_v1_0
abbrev oLse : Memref sig .tc .hbm S1x3 .f32 := Memref.whole main_v1_1
abbrev oClp : Memref sig .tc .hbm S3x1x40 .f32 := Memref.whole main_v1_2
abbrev oXc : Memref sig .tc .hbm S3x7168 .fp8e4m3 := Memref.whole main_v1_3
abbrev oXs : Memref sig .tc .hbm S1x3 .f32 := Memref.whole main_v1_4
abbrev bRing : Memref sig .tc .vmem S4x7168x512 .fp8e4m3 := Memref.whole cc0_scratch0
abbrev bX : Memref sig .tc .vmem S3x7168 .bf16 := Memref.whole cc0_scratch1
abbrev bWs : Memref sig .tc .vmem S1x32256 .f32 := Memref.whole cc0_scratch2
abbrev bBm : Memref sig .tc .vmem S3x1008 .i32 := Memref.whole cc0_scratch3
abbrev bId : Memref sig .tc .vmem S3x1x40 .i32 := Memref.whole cc0_scratch4
abbrev bMl : Memref sig .tc .vmem S3x1x32256 .f32 := Memref.whole cc0_scratch5
abbrev bLse : Memref sig .tc .vmem S1x3 .f32 := Memref.whole cc0_scratch6
abbrev bClp : Memref sig .tc .vmem S3x1x40 .f32 := Memref.whole cc0_scratch7
abbrev bXc : Memref sig .tc .vmem S3x7168 .fp8e4m3 := Memref.whole cc0_scratch8
abbrev bXs : Memref sig .tc .vmem S1x3 .f32 := Memref.whole cc0_scratch9
abbrev bXf : Memref sig .tc .vmem S8x7168 .f32 := Memref.whole cc0_scratch10
abbrev bXq : Memref sig .tc .vmem S32x7168 .fp8e4m3 := Memref.whole cc0_scratch11
abbrev bWords : Memref sig .tc .vmem S8x1024 .i32 := Memref.whole cc0_scratch12
abbrev bCid : Memref sig .tc .vmem S3x40x128 .i32 := Memref.whole cc0_scratch13
abbrev bCok : Memref sig .tc .vmem S3x40x128 .f32 := Memref.whole cc0_scratch14
abbrev bCacc : Memref sig .tc .vmem S3x40x128 .f32 := Memref.whole cc0_scratch15
abbrev bXsb : Memref sig .tc .vmem S8x128 .f32 := Memref.whole cc0_scratch16
abbrev bM : Memref sig .tc .vmem S8x128 .f32 := Memref.whole cc0_scratch17
abbrev bS : Memref sig .tc .vmem S8x128 .f32 := Memref.whole cc0_scratch18

/-- A buffer of a thread held whole at named contents. -/
abbrev BufOf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf F c M) : sProp 𝕄 :=
  M.view.loc (c : Thread nD τ) ↦[M.view.set]{fullShare} f

/-! ## Slots, blocks and cells -/

abbrev slotOff (s : Fin 4) : Fin 3 → Nat := ![s.val, 0, 0]
theorem slotOff_inb (s : Fin 4) : ∀ a, slotOff s a + S1x7168x512.size a ≤ S4x7168x512.size a := by
  have := s.isLt; intro a; fin_cases a
  · show s.val + 1 ≤ 4; omega
  · show 0 + 7168 ≤ 7168; omega
  · show 0 + 512 ≤ 512; omega
abbrev semOff (s : Fin 4) : Fin 1 → Nat := ![s.val]
theorem semOff_inb (s : Fin 4) : ∀ a, semOff s a + S1.size a ≤ S4.size a := by
  have := s.isLt; intro a; fin_cases a; show s.val + 1 ≤ 4; omega
abbrev blkOff (p : Fin 62) : Fin 2 → Nat := ![0, 512 * p.val]
theorem blkOff_inb (p : Fin 62) : ∀ a, blkOff p a + S7168x512.size a ≤ S7168x32256.size a := by
  have := p.isLt; intro a; fin_cases a
  · show 0 + 7168 ≤ 7168; omega
  · show 512 * p.val + 512 ≤ 32256; omega

/-- Slot `s` of the ring. -/
def rslot (s : Fin 4) : Memref sig .tc .vmem S7168x512 .fp8e4m3 :=
  (bRing.slice (Rect.unit (s := S4x7168x512) (slotOff s) S1x7168x512.size (slotOff_inb s)) (fun _ => rfl)).squeeze S7168x512 squeezes_S1x7168x512_S7168x512
/-- Column block `p` of the weight codes. -/
def wblk (p : Fin 62) : Memref sig .tc .hbm S7168x512 .fp8e4m3 :=
  aW.slice (Rect.unit (s := S7168x32256) (blkOff p) S7168x512.size (blkOff_inb p)) (fun _ => rfl)
/-- Slot `s`'s cell. -/
def csm (s : Fin 4) : DmaSems sig S_ := (cc0_scratch19.slice (Rect.unit (s := S4) (semOff s) S1.size (semOff_inb s))).squeeze S_ squeezes_S1_S_

instance (s : Fin 4) : ClosedOff (slotOff s) := ⟨slotOff s, rfl⟩
instance (p : Fin 62) : ClosedOff (blkOff p) := ⟨blkOff p, rfl⟩

theorem csm_congr {off : Fin 1 → Nat} {s : Fin 4} (e : off = semOff s) (hh) :
    (cc0_scratch19.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (bRing.slice (Rect.unit (s := S4x7168x512) off S1x7168x512.size hh) hs).squeeze S7168x512 squeezes_S1x7168x512_S7168x512 = rslot s :=
  congrArg (fun M : Memref sig .tc .vmem S1x7168x512 .fp8e4m3 => M.squeeze S7168x512 squeezes_S1x7168x512_S7168x512) (Memref.slice_unit_congr _ e _ _ _ _)
theorem wblk_congr {off : Fin 2 → Nat} {p : Fin 62} (e : off = blkOff p) (hh hs) :
    aW.slice (Rect.unit (s := S7168x32256) off S7168x512.size hh) hs = wblk p := Memref.slice_unit_congr _ e _ _ _ (fun _ => rfl)

theorem trips_eq : k0_t1_loop.trips = 61 := by decide
theorem trip_lt (k : Fin k0_t1_loop.trips) : k.val < 61 := Nat.lt_of_lt_of_eq k.isLt trips_eq

theorem sl_off (k : ℕ) : ((Ring.sl 4 k).val) = k % 4 := Ring.sl_val 4 k

/-- The slices of the code before the loop. -/
@[sl_canon] theorem semL0 (hh) : (cc0_scratch19.slice (Rect.unit (s := S4) (k0_off1 0#32) S1.size hh)).squeeze S_ squeezes_S1_S_ = csm 0 := csm_congr (k0_off1_eq 0) _
@[sl_canon] theorem semL1 (hh) : (cc0_scratch19.slice (Rect.unit (s := S4) (k0_off1 1#32) S1.size hh)).squeeze S_ squeezes_S1_S_ = csm 1 := csm_congr (k0_off1_eq 1) _
@[sl_canon] theorem semL2 (hh) : (cc0_scratch19.slice (Rect.unit (s := S4) (k0_off1 2#32) S1.size hh)).squeeze S_ squeezes_S1_S_ = csm 2 := csm_congr (k0_off1_eq 2) _
@[sl_canon] theorem semL3 (hh) : (cc0_scratch19.slice (Rect.unit (s := S4) (k0_off1 3#32) S1.size hh)).squeeze S_ squeezes_S1_S_ = csm 3 := csm_congr (k0_off1_eq 3) _
@[sl_canon] theorem slotL0 (hh hs) : (bRing.slice (Rect.unit (s := S4x7168x512) (k0_off2 0#32) S1x7168x512.size hh) hs).squeeze S7168x512 squeezes_S1x7168x512_S7168x512 = rslot 0 := rslot_congr (k0_off2_eq 0) _ _
@[sl_canon] theorem slotL1 (hh hs) : (bRing.slice (Rect.unit (s := S4x7168x512) (k0_off2 1#32) S1x7168x512.size hh) hs).squeeze S7168x512 squeezes_S1x7168x512_S7168x512 = rslot 1 := rslot_congr (k0_off2_eq 1) _ _
@[sl_canon] theorem slotL2 (hh hs) : (bRing.slice (Rect.unit (s := S4x7168x512) (k0_off2 2#32) S1x7168x512.size hh) hs).squeeze S7168x512 squeezes_S1x7168x512_S7168x512 = rslot 2 := rslot_congr (k0_off2_eq 2) _ _
@[sl_canon] theorem slotL3 (hh hs) : (bRing.slice (Rect.unit (s := S4x7168x512) (k0_off2 3#32) S1x7168x512.size hh) hs).squeeze S7168x512 squeezes_S1x7168x512_S7168x512 = rslot 3 := rslot_congr (k0_off2_eq 3) _ _
@[sl_canon] theorem blkL0 (hh hs) : aW.slice (Rect.unit (s := S7168x32256) ![0, 0] S7168x512.size hh) hs = wblk 0 := wblk_congr (by decide) _ _
@[sl_canon] theorem blkL1 (hh hs) : aW.slice (Rect.unit (s := S7168x32256) ![0, 512] S7168x512.size hh) hs = wblk 1 := wblk_congr (by decide) _ _
@[sl_canon] theorem blkL2 (hh hs) : aW.slice (Rect.unit (s := S7168x32256) ![0, 1024] S7168x512.size hh) hs = wblk 2 := wblk_congr (by decide) _ _
@[sl_canon] theorem blkL3 (hh hs) : aW.slice (Rect.unit (s := S7168x32256) ![0, 1536] S7168x512.size hh) hs = wblk 3 := wblk_congr (by decide) _ _

/-- The slices of trip `k`: block `k + 1` waited in slot `(k + 1) % 4`, block `k + 4` issued into slot `(k + 4) % 4`. -/
theorem off4_eq (k : Fin k0_t1_loop.trips) : k0_off4 k = semOff (Ring.sl 4 (k.val + 4)) := by rw [k0_off4_eq, semOff, sl_off]
theorem off5_eq (k : Fin k0_t1_loop.trips) : k0_off5 k = slotOff (Ring.sl 4 (k.val + 4)) := by rw [k0_off5_eq, slotOff, sl_off]
theorem off6_eq (k : Fin k0_t1_loop.trips) (hk : k.val + 4 < 62) : k0_off6 k = blkOff (Ring.bk 62 (k.val + 4)) := by
  rw [k0_off6_eq, blkOff, Ring.bk_val hk]; congr 1
theorem off7_eq (k : Fin k0_t1_loop.trips) : k0_off7 k = semOff (Ring.sl 4 (k.val + 1)) := by rw [k0_off7_eq, semOff, sl_off]
theorem off8_eq (k : Fin k0_t1_loop.trips) : k0_off8 k = slotOff (Ring.sl 4 (k.val + 1)) := by rw [k0_off8_eq, slotOff, sl_off]
theorem off9_eq (k : Fin k0_t1_loop.trips) : k0_off9 k = blkOff (Ring.bk 62 (k.val + 1)) := by
  have := trip_lt k
  rw [k0_off9_eq, blkOff, Ring.bk_val (by omega)]; congr 1
theorem off10_eq (k : Fin k0_t1_loop.trips) : k0_off10 k = slotOff (Ring.sl 4 (k.val + 1)) := by rw [k0_off10_eq, slotOff, sl_off]

@[sl_canon] theorem semI (k : Fin k0_t1_loop.trips) (hh) :
    (cc0_scratch19.slice (Rect.unit (s := S4) (k0_off4 k) S1.size hh)).squeeze S_ squeezes_S1_S_ = csm (Ring.sl 4 (k.val + 4)) := csm_congr (off4_eq k) _
@[sl_canon] theorem semW (k : Fin k0_t1_loop.trips) (hh) :
    (cc0_scratch19.slice (Rect.unit (s := S4) (k0_off7 k) S1.size hh)).squeeze S_ squeezes_S1_S_ = csm (Ring.sl 4 (k.val + 1)) := csm_congr (off7_eq k) _
@[sl_canon] theorem slotI (k : Fin k0_t1_loop.trips) (hh hs) :
    (bRing.slice (Rect.unit (s := S4x7168x512) (k0_off5 k) S1x7168x512.size hh) hs).squeeze S7168x512 squeezes_S1x7168x512_S7168x512 = rslot (Ring.sl 4 (k.val + 4)) := rslot_congr (off5_eq k) _ _
@[sl_canon] theorem slotW (k : Fin k0_t1_loop.trips) (hh hs) :
    (bRing.slice (Rect.unit (s := S4x7168x512) (k0_off8 k) S1x7168x512.size hh) hs).squeeze S7168x512 squeezes_S1x7168x512_S7168x512 = rslot (Ring.sl 4 (k.val + 1)) := rslot_congr (off8_eq k) _ _
@[sl_canon] theorem blkI (k : Fin k0_t1_loop.trips) (hk : k.val + 4 < 62) (hh hs) :
    aW.slice (Rect.unit (s := S7168x32256) (k0_off6 k) S7168x512.size hh) hs = wblk (Ring.bk 62 (k.val + 4)) := wblk_congr (off6_eq k hk) _ _
@[sl_canon] theorem blkW (k : Fin k0_t1_loop.trips) (hh hs) :
    aW.slice (Rect.unit (s := S7168x32256) (k0_off9 k) S7168x512.size hh) hs = wblk (Ring.bk 62 (k.val + 1)) := wblk_congr (off9_eq k) _ _

instance (k : Fin k0_t1_loop.trips) : ClosedOff (k0_off10 k) := ⟨slotOff (Ring.sl 4 (k.val + 1)), off10_eq k⟩
instance (k : Fin k0_t1_loop.trips) : ClosedOff (k0_off8 k) := ⟨slotOff (Ring.sl 4 (k.val + 1)), off8_eq k⟩
instance (k : Fin k0_t1_loop.trips) : ClosedOff (k0_off5 k) := ⟨slotOff (Ring.sl 4 (k.val + 4)), off5_eq k⟩

/-! ## The states of a slot -/

section States
variable (c : Dev nD) (XW : BufOf F c aW)

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
/-- Block `p` of the weight codes, held at share `q` on its elements. -/
abbrev blkP (q : PosShare TreeShare) (p : Fin 62) : sProp 𝕄 := (wblk p).view.loc (c : Thread nD τ) ↦[(wblk p).view.set]{q} XW
/-- Block `p`'s words as a slot receives them. -/
abbrev payload (p : Fin 62) : S7168x512.Idx → Elt F .fp8e4m3 := ReadAs.same.apply ((wblk p).view.read (Elt F) XW)
/-- What block `p`'s copy leaves in slot `s`. -/
abbrev landed (s : Fin 4) (p : Fin 62) (f : Buf (Elt F) ((rslot s).view.loc (c : Thread nD τ))) : Buf (Elt F) ((rslot s).view.loc (c : Thread nD τ)) :=
  (rslot s).view.writes (Elt F) f [⟨Rect.whole S7168x512, payload c XW p⟩]
/-- Block `p` on its way into slot `s`. -/
abbrev flightP (q : PosShare TreeShare) (s : Fin 4) (p : Fin 62) (f : Buf (Elt F) ((rslot s).view.loc (c : Thread nD τ))) : sProp 𝕄 :=
  Transfers.Flight countersEmb (c : Thread nD τ) (SemLoc.dma (csm s).sem) () 114688 iprop(slotP c s (landed c XW s p f) ∗ blkP c XW q p)

end States

end Cert.Kernel.Hand

end
-- ==== Proof.K.Vals.lean ====
/-
  The values the loop works with: the raw product of a column block, the mask of a block, the logits, and the running
  state (per-lane maximum and sum, candidate logits).
-/
module

public import proofs.«01_k».proof.Proof.K.Names
public import Idealize.ShloMosaic.Lib.Pointwise
public import Idealize.ShloMosaic.Lib.WritesUnit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

/-- The product of the quantised rows with a block of weight codes, in the eight rows kept. -/
def dotBlk (xq : Vec F S32x7168 .fp8e4m3) (B : Vec F S7168x512 .fp8e4m3) : FVec F S8x512 .f32 :=
  extractStridedSlice S8x512 ![0, 0] (matmul dot_S32x7168_S7168x512_S32x512_1_0_0_1_n_n none xq B (constant S32x512 .f32 0x00000000#32)) slices_S32x512_o0_0_S8x512

/-- The first column of block `p`. -/
def colW (p : ℕ) : BitVec 32 := BitVec.ofNat 32 (512 * p)
/-- The word, within its tile of 128 words, that holds the bit of block `p`'s first column. -/
def baseW (p : ℕ) : BitVec 32 := BitVec.ofNat 32 (16 * p % 128)

/-- The mask of a block whose bits begin at word `b` of the tile `w`: the bit of each of its 512 columns. -/
def maskOf (v27 : IVec S8x128 32) (b : BitVec 32) (w : IVec S8x128 32) : IVec S8x512 1 :=
  let v2525 := k0_pay7 (F := F) b w (k0_pay4 v27) (k0_pay5 v27) (k0_pay6 v27) 0#32
  let v2561 := k0_pay11 (F := F) w (k0_pay8 v27 b) (k0_pay9 v27 b) k0_pay10
  let v2597 := k0_pay12 (F := F) v27 b w
  let v2633 := k0_pay16 (F := F) b w (k0_pay13 v27) 32#32 (k0_pay14 v27) (k0_pay15 v27)
  k0_pay21 v27 v2633 (k0_pay18 (k0_pay17 v27 v2525)) (k0_pay19 v27 v2561) (k0_pay20 v27 v2597) 32#32

/-- The masked logits of a block. -/
def mlBlk (mk : IVec S8x512 1) (lg : FVec F S8x512 .f32) : FVec F S8x512 .f32 :=
  select mk lg (broadcast S8x512 (Scalar.ofBits .f32 0x00000000#32))

theorem off11_eq : ∀ k : Fin k0_t1_loop.trips, k0_off11 k = ![0, 128 * (k.val / 8)] := by decide +kernel

/-- The running state: per-lane maximum and sum, and the candidate logits of the three rows. -/
structure St (F : FTy → Type) where
  m : Vec F S8x128 .f32
  s : Vec F S8x128 .f32
  c0 : Vec F S1x40x128 .f32
  c1 : Vec F S1x40x128 .f32
  c2 : Vec F S1x40x128 .f32

/-- One block's effect on the running state. -/
def stStep (v173 : IVec S40x128 32) (n : BitVec 32) (mk : IVec S8x512 1) (lg : FVec F S8x512 .f32) (i0 i1 i2 : Vec F S1x40x128 .i32) (st : St F) : St F where
  m := k0_pay34 mk lg st.m
  s := k0_pay35 mk lg st.m st.s
  c0 := k0_pay39 v173 n lg (k0_pay36 st.c0) (k0_pay37 i0) (k0_pay38 lg)
  c1 := k0_pay44 v173 n lg (k0_pay40 st.c1) (k0_pay41 i1) (k0_pay42 lg) (k0_pay43 v173 n i1)
  c2 := k0_pay182 v173 n lg (k0_pay45 i2) (k0_pay46 v173 n lg st.c2 i2) (k0_pay47 lg) (k0_pay48 n)

/-! ## What the buffers read -/

abbrev R88 : Rect S8x128 := Rect.unit (s := S8x128) ![0, 0] S8x128.size inb_S8x128_S8x128_0_0
abbrev Rc0 : Rect S3x40x128 := Rect.unit (s := S3x40x128) ![0, 0, 0] S1x40x128.size inb_S3x40x128_S1x40x128_0_0_0
abbrev Rc1 : Rect S3x40x128 := Rect.unit (s := S3x40x128) ![1, 0, 0] S1x40x128.size inb_S3x40x128_S1x40x128_1_0_0
abbrev Rc2 : Rect S3x40x128 := Rect.unit (s := S3x40x128) ![2, 0, 0] S1x40x128.size inb_S3x40x128_S1x40x128_2_0_0

section
variable (c : Dev nD)
abbrev rdXq (fa : BufOf F c bXq) : Vec F S32x7168 .fp8e4m3 := bXq.view.readAt (Elt F) (Rect.unit (s := S32x7168) ![0, 0] S32x7168.size inb_S32x7168_S32x7168_0_0).toLoadRect fa
abbrev rdXsb (fs : BufOf F c bXsb) : Vec F S8x128 .f32 := bXsb.view.readAt (Elt F) R88.toLoadRect fs
abbrev rdM (f : BufOf F c bM) : Vec F S8x128 .f32 := bM.view.readAt (Elt F) R88.toLoadRect f
abbrev rdS (f : BufOf F c bS) : Vec F S8x128 .f32 := bS.view.readAt (Elt F) R88.toLoadRect f
/-- The tile of 128 mask words that block `p`'s bits lie in. -/
def rdWords (p : ℕ) (fw : BufOf F c bWords) : Vec F S8x128 .i32 := fun x => bWords.view.read (Elt F) fw (ix2 (x 0) (Fin.ofNat 1024 (128 * (p / 8) + (x 1).val)))
/-- The column scales of block `p`. -/
def rdWs (p : ℕ) (fws : BufOf F c bWs) : Vec F S1x512 .f32 := fun x => bWs.view.read (Elt F) fws (ix2 (x 0) (Fin.ofNat 32256 (512 * p + (x 1).val)))
abbrev rdCid (R : Rect S3x40x128) (f : BufOf F c bCid) := bCid.view.readAt (Elt F) R.toLoadRect f
abbrev rdCacc (R : Rect S3x40x128) (f : BufOf F c bCacc) := bCacc.view.readAt (Elt F) R.toLoadRect f

variable (XW : BufOf F c aW) (v27 : IVec S8x128 32) (v173 : IVec S40x128 32)
  (fa : BufOf F c bXq) (fw : BufOf F c bWords) (fs : BufOf F c bXsb) (fws : BufOf F c bWs) (fcid : BufOf F c bCid)

variable (raw : ℕ → FVec F S8x512 .f32)

/-- The raw product of block `p`. -/
def rawV (p : ℕ) : FVec F S8x512 .f32 := dotBlk (rdXq c fa) (payload c XW (Ring.bk 62 p))
/-- The mask and the logits of block `p`. -/
def maskV (p : ℕ) : IVec S8x512 1 := maskOf (F := F) v27 (baseW p) (rdWords c p fw)
def lgV (p : ℕ) : FVec F S8x512 .f32 := k0_pay22 (raw p) (rdXsb c fs) (rdWs c p fws)

/-- The running state before block `p`. -/
def stV (st0 : St F) : ℕ → St F
  | 0 => st0
  | p + 1 => stStep v173 (colW p) (maskV c v27 fw p) (lgV c fs fws raw p) (rdCid c Rc0 fcid) (rdCid c Rc1 fcid) (rdCid c Rc2 fcid) (stV st0 p)

theorem rdWords_eq (p : ℕ) {off : Fin 2 → Nat} (e : off = ![0, 128 * (p / 8)]) (h) (hp : p < 64) :
    bWords.view.readAt (Elt F) (Rect.unit (s := S8x1024) off S8x128.size h).toLoadRect fw = rdWords c p fw := by
  subst e
  funext x
  refine congrArg (bWords.view.read (Elt F) fw) (funext fun a => Fin.ext ?_)
  have hx : (x 1).val < 128 := (x 1).isLt
  fin_cases a
  · show 0 + 1 * (x 0).val = (x 0).val; omega
  · show 128 * (p / 8) + 1 * (x 1).val = (128 * (p / 8) + (x 1).val) % 1024
    rw [Nat.mod_eq_of_lt (by omega)]; omega

theorem rdWs_eq (p : ℕ) {off : Fin 2 → Nat} (e : off = ![0, 512 * p]) (h) (hp : p < 63) :
    bWs.view.readAt (Elt F) (Rect.unit (s := S1x32256) off S1x512.size h).toLoadRect fws = rdWs c p fws := by
  subst e
  funext x
  refine congrArg (bWs.view.read (Elt F) fws) (funext fun a => Fin.ext ?_)
  have hx : (x 1).val < 512 := (x 1).isLt
  fin_cases a
  · show 0 + 1 * (x 0).val = (x 0).val; omega
  · show 512 * p + 1 * (x 1).val = (512 * p + (x 1).val) % 32256
    rw [Nat.mod_eq_of_lt (by omega)]; omega

/-- The buffers of the running state hold it. -/
def caFact (f : BufOf F c bCacc) (st : St F) : Prop := rdCacc c Rc0 f = st.c0 ∧ rdCacc c Rc1 f = st.c1 ∧ rdCacc c Rc2 f = st.c2

theorem col_lt {p : ℕ} (hp : p < 63) (j : Fin 512) : 512 * p + j.val < 32256 := by have := j.isLt; omega

/-- The first `k` column blocks of the masked logits are written. -/
def mlFact (mk : ℕ → IVec S8x512 1) (lg : ℕ → FVec F S8x512 .f32) (k : ℕ) (f : BufOf F c bMl) : Prop :=
  ∀ (b : Fin 3) (p : ℕ) (hp : p < 63) (j : Fin 512), p < k →
    bMl.view.read (Elt F) f (ix3 b 0 ⟨512 * p + j.val, col_lt hp j⟩) = mlBlk (mk p) (lg p) (ix2 (b.castLE (by decide)) j)

omit [FloatOps F] in
theorem caFact_step (f : BufOf F c bCacc) (w0 w1 w2 : Vec F S1x40x128 .f32) (st : St F) (h0 : w0 = st.c0) (h1 : w1 = st.c1) (h2 : w2 = st.c2) :
    caFact c (bCacc.view.writes (Elt F) f [⟨Rc2, w2⟩, ⟨Rc1, w1⟩, ⟨Rc0, w0⟩]) st := by
  subst h0; subst h1; subst h2
  refine ⟨?_, ?_, ?_⟩
  · funext j
    refine (View.read_writes_cons_unit_of_not_mem bCacc.view f _ _ _ _ rfl (0 : Fin 3) (.inl ?_)).trans ?_
    · have : (j 0).val < 1 := (j 0).isLt
      show 0 + 1 * (j 0).val < 2; omega
    refine (View.read_writes_cons_unit_of_not_mem bCacc.view f _ _ _ _ rfl (0 : Fin 3) (.inl ?_)).trans ?_
    · have : (j 0).val < 1 := (j 0).isLt
      show 0 + 1 * (j 0).val < 1; omega
    exact View.read_writes_cons_emb bCacc.view f Rc0 _ _ j
  · funext j
    refine (View.read_writes_cons_unit_of_not_mem bCacc.view f _ _ _ _ rfl (0 : Fin 3) (.inl ?_)).trans ?_
    · have : (j 0).val < 1 := (j 0).isLt
      show 1 + 1 * (j 0).val < 2; omega
    exact View.read_writes_cons_emb bCacc.view f Rc1 _ _ j
  · funext j
    exact View.read_writes_cons_emb bCacc.view f Rc2 _ _ j

omit [FloatOps F] in
theorem row_at0 (v : FVec F S8x512 .f32) (x : S1x1x512.Idx) :
    shapeCast S1x1x512 (extractStridedSlice S1x512 ![0, 0] v slices_S8x512_o0_0_S1x512) shapeCasts_S1x512_S1x1x512 x = v (ix2 0 (x 2)) := by
  idx_vars x; pointwise
omit [FloatOps F] in
theorem row_at1 (v : FVec F S8x512 .f32) (x : S1x1x512.Idx) :
    shapeCast S1x1x512 (extractStridedSlice S1x512 ![1, 0] v slices_S8x512_o1_0_S1x512) shapeCasts_S1x512_S1x1x512 x = v (ix2 1 (x 2)) := by
  idx_vars x; pointwise
omit [FloatOps F] in
theorem row_at2 (v : FVec F S8x512 .f32) (x : S1x1x512.Idx) :
    shapeCast S1x1x512 (extractStridedSlice S1x512 ![2, 0] v slices_S8x512_o2_0_S1x512) shapeCasts_S1x512_S1x1x512 x = v (ix2 2 (x 2)) := by
  idx_vars x; pointwise

/-- One more block written: the three rows' stores at column `512 * k`. -/
theorem mlFact_step (mk : ℕ → IVec S8x512 1) (lg : ℕ → FVec F S8x512 .f32) (k : ℕ) (f : BufOf F c bMl) (h : mlFact c mk lg k f) (hk : k < 63)
    {o0 o1 o2 : Fin 3 → Nat} (e0 : o0 = ![0, 0, 512 * k]) (e1 : o1 = ![1, 0, 512 * k]) (e2 : o2 = ![2, 0, 512 * k])
    (i0 i1 i2) (w0 w1 w2 : Vec F S1x1x512 .f32)
    (h0 : ∀ x, w0 x = mlBlk (mk k) (lg k) (ix2 0 (x 2))) (h1 : ∀ x, w1 x = mlBlk (mk k) (lg k) (ix2 1 (x 2))) (h2 : ∀ x, w2 x = mlBlk (mk k) (lg k) (ix2 2 (x 2))) :
    mlFact c mk lg (k + 1) (bMl.view.writes (Elt F) f [⟨Rect.unit (s := S3x1x32256) o2 S1x1x512.size i2, w2⟩,
      ⟨Rect.unit (s := S3x1x32256) o1 S1x1x512.size i1, w1⟩, ⟨Rect.unit (s := S3x1x32256) o0 S1x1x512.size i0, w0⟩]) := by
  subst e0; subst e1; subst e2
  intro b p hp j hpk
  have hj := j.isLt
  by_cases hp' : p = k
  · subst hp'
    fin_cases b
    · refine (View.read_writes_cons_unit_of_not_mem bMl.view f _ _ _ _ rfl (0 : Fin 3) (.inl ?_)).trans ?_
      · show 0 < 2; omega
      refine (View.read_writes_cons_unit_of_not_mem bMl.view f _ _ _ _ rfl (0 : Fin 3) (.inl ?_)).trans ?_
      · show 0 < 1; omega
      refine (View.read_writes_cons_unit_of_mem bMl.view f _ _ _ _ (ix3 0 0 j) rfl ?_).trans (h0 _)
      intro a; fin_cases a
      · show 0 = 0 + 0; rfl
      · show 0 = 0 + 0; rfl
      · show 512 * p + j.val = 512 * p + j.val; rfl
    · refine (View.read_writes_cons_unit_of_not_mem bMl.view f _ _ _ _ rfl (0 : Fin 3) (.inl ?_)).trans ?_
      · show 1 < 2; omega
      refine (View.read_writes_cons_unit_of_mem bMl.view f _ _ _ _ (ix3 0 0 j) rfl ?_).trans (h1 _)
      intro a; fin_cases a
      · show 1 = 1 + 0; rfl
      · show 0 = 0 + 0; rfl
      · show 512 * p + j.val = 512 * p + j.val; rfl
    · refine (View.read_writes_cons_unit_of_mem bMl.view f _ _ _ _ (ix3 0 0 j) rfl ?_).trans (h2 _)
      intro a; fin_cases a
      · show 2 = 2 + 0; rfl
      · show 0 = 0 + 0; rfl
      · show 512 * p + j.val = 512 * p + j.val; rfl
  · have hlt : p < k := by omega
    refine (View.read_writes_cons_unit_of_not_mem bMl.view f _ _ _ _ rfl (2 : Fin 3) (.inl ?_)).trans ?_
    · show 512 * p + j.val < 512 * k; omega
    refine (View.read_writes_cons_unit_of_not_mem bMl.view f _ _ _ _ rfl (2 : Fin 3) (.inl ?_)).trans ?_
    · show 512 * p + j.val < 512 * k; omega
    refine (View.read_writes_cons_unit_of_not_mem bMl.view f _ _ _ _ rfl (2 : Fin 3) (.inl ?_)).trans ?_
    · show 512 * p + j.val < 512 * k; omega
    exact h b p hp j hlt

end

/-- A load of slot `s` through the whole ring, where the slot has received block `p`. -/
theorem slotRead (c : Dev nD) (XW : BufOf F c aW) (s : Fin 4) (p : Fin 62) (f) {off : Fin 3 → Nat} (e : off = slotOff s) (h) :
    shapeCast S7168x512 (bRing.view.readAt (Elt F) (Rect.unit (s := S4x7168x512) off S1x7168x512.size h).toLoadRect (landed c XW s p f)) shapeCasts_S1x7168x512_S7168x512
      = payload c XW p := by
  subst e
  exact ((Memref.read_squeeze_slice bRing (Rect.unit (s := S4x7168x512) (slotOff s) S1x7168x512.size h) (fun _ => rfl)
    squeezes_S1x7168x512_S7168x512 shapeCasts_S1x7168x512_S7168x512 _).symm).trans (View.read_writes_whole (rslot s).view f _)

end Cert.Kernel.Hand

end
-- ==== Proof.K.Tail.lean ====
/-
  The last column block of the weight codes: five row pieces, each copied into its own rows of slot 2 on its own cell.
-/
module

public import proofs.«01_k».proof.Proof.K.Names

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (XW : BufOf F c aW)

/-- Piece 0: rows 0 to 3071 of the last block. -/
def ts0 : Memref sig .tc .vmem S3072x512 .fp8e4m3 :=
  (bRing.slice (Rect.unit (s := S4x7168x512) ![2, 0, 0] S1x3072x512.size inb_S4x7168x512_S1x3072x512_2_0_0) (fun _ => rfl)).squeeze S3072x512 squeezes_S1x3072x512_S3072x512
def tw0 : Memref sig .tc .hbm S3072x512 .fp8e4m3 :=
  aW.slice (Rect.unit (s := S7168x32256) ![0, 31744] S3072x512.size inb_S7168x32256_S3072x512_0_31744) (fun _ => rfl)
def tc0 : DmaSems sig S_ := (cc0_scratch20.slice (Rect.unit (s := S5) ![0] S1.size inb_S5_S1_0)).squeeze S_ squeezes_S1_S_
@[sl_canon] theorem tsL0 (hh hs) : (bRing.slice (Rect.unit (s := S4x7168x512) ![2, 0, 0] S1x3072x512.size hh) hs).squeeze S3072x512 squeezes_S1x3072x512_S3072x512 = ts0 := rfl
@[sl_canon] theorem twL0 (hh hs) : aW.slice (Rect.unit (s := S7168x32256) ![0, 31744] S3072x512.size hh) hs = tw0 := rfl
@[sl_canon] theorem tcL0 (hh) : (cc0_scratch20.slice (Rect.unit (s := S5) ![0] S1.size hh)).squeeze S_ squeezes_S1_S_ = tc0 := rfl
abbrev tcellP0 : sProp 𝕄 := semVal ((c : Thread nD τ), SemLoc.dma (tc0).sem) 0
abbrev tslotP0 (f : Buf (Elt F) (ts0.view.loc (c : Thread nD τ))) : sProp 𝕄 := ts0.view.loc (c : Thread nD τ) ↦[ts0.view.set]{fullShare} f
abbrev tblkP0 (q : PosShare TreeShare) : sProp 𝕄 := tw0.view.loc (c : Thread nD τ) ↦[tw0.view.set]{q} XW
abbrev tpay0 : S3072x512.Idx → Elt F .fp8e4m3 := ReadAs.same.apply (tw0.view.read (Elt F) XW)
abbrev tflightP0 (q : PosShare TreeShare) (f : Buf (Elt F) (ts0.view.loc (c : Thread nD τ))) : sProp 𝕄 :=
  Transfers.Flight countersEmb (c : Thread nD τ) (SemLoc.dma (tc0).sem) () 49152
    iprop(tslotP0 c (ts0.view.writes (Elt F) f [⟨Rect.whole S3072x512, tpay0 c XW⟩]) ∗ tblkP0 c XW q)

/-- Piece 1: rows 3072 to 5119 of the last block. -/
def ts1 : Memref sig .tc .vmem S2048x512 .fp8e4m3 :=
  (bRing.slice (Rect.unit (s := S4x7168x512) ![2, 3072, 0] S1x2048x512.size inb_S4x7168x512_S1x2048x512_2_3072_0) (fun _ => rfl)).squeeze S2048x512 squeezes_S1x2048x512_S2048x512
def tw1 : Memref sig .tc .hbm S2048x512 .fp8e4m3 :=
  aW.slice (Rect.unit (s := S7168x32256) ![3072, 31744] S2048x512.size inb_S7168x32256_S2048x512_3072_31744) (fun _ => rfl)
def tc1 : DmaSems sig S_ := (cc0_scratch20.slice (Rect.unit (s := S5) ![1] S1.size inb_S5_S1_1)).squeeze S_ squeezes_S1_S_
@[sl_canon] theorem tsL1 (hh hs) : (bRing.slice (Rect.unit (s := S4x7168x512) ![2, 3072, 0] S1x2048x512.size hh) hs).squeeze S2048x512 squeezes_S1x2048x512_S2048x512 = ts1 := rfl
@[sl_canon] theorem twL1 (hh hs) : aW.slice (Rect.unit (s := S7168x32256) ![3072, 31744] S2048x512.size hh) hs = tw1 := rfl
@[sl_canon] theorem tcL1 (hh) : (cc0_scratch20.slice (Rect.unit (s := S5) ![1] S1.size hh)).squeeze S_ squeezes_S1_S_ = tc1 := rfl
abbrev tcellP1 : sProp 𝕄 := semVal ((c : Thread nD τ), SemLoc.dma (tc1).sem) 0
abbrev tslotP1 (f : Buf (Elt F) (ts1.view.loc (c : Thread nD τ))) : sProp 𝕄 := ts1.view.loc (c : Thread nD τ) ↦[ts1.view.set]{fullShare} f
abbrev tblkP1 (q : PosShare TreeShare) : sProp 𝕄 := tw1.view.loc (c : Thread nD τ) ↦[tw1.view.set]{q} XW
abbrev tpay1 : S2048x512.Idx → Elt F .fp8e4m3 := ReadAs.same.apply (tw1.view.read (Elt F) XW)
abbrev tflightP1 (q : PosShare TreeShare) (f : Buf (Elt F) (ts1.view.loc (c : Thread nD τ))) : sProp 𝕄 :=
  Transfers.Flight countersEmb (c : Thread nD τ) (SemLoc.dma (tc1).sem) () 32768
    iprop(tslotP1 c (ts1.view.writes (Elt F) f [⟨Rect.whole S2048x512, tpay1 c XW⟩]) ∗ tblkP1 c XW q)

/-- Piece 2: rows 5120 to 6399 of the last block. -/
def ts2 : Memref sig .tc .vmem S1280x512 .fp8e4m3 :=
  (bRing.slice (Rect.unit (s := S4x7168x512) ![2, 5120, 0] S1x1280x512.size inb_S4x7168x512_S1x1280x512_2_5120_0) (fun _ => rfl)).squeeze S1280x512 squeezes_S1x1280x512_S1280x512
def tw2 : Memref sig .tc .hbm S1280x512 .fp8e4m3 :=
  aW.slice (Rect.unit (s := S7168x32256) ![5120, 31744] S1280x512.size inb_S7168x32256_S1280x512_5120_31744) (fun _ => rfl)
def tc2 : DmaSems sig S_ := (cc0_scratch20.slice (Rect.unit (s := S5) ![2] S1.size inb_S5_S1_2)).squeeze S_ squeezes_S1_S_
@[sl_canon] theorem tsL2 (hh hs) : (bRing.slice (Rect.unit (s := S4x7168x512) ![2, 5120, 0] S1x1280x512.size hh) hs).squeeze S1280x512 squeezes_S1x1280x512_S1280x512 = ts2 := rfl
@[sl_canon] theorem twL2 (hh hs) : aW.slice (Rect.unit (s := S7168x32256) ![5120, 31744] S1280x512.size hh) hs = tw2 := rfl
@[sl_canon] theorem tcL2 (hh) : (cc0_scratch20.slice (Rect.unit (s := S5) ![2] S1.size hh)).squeeze S_ squeezes_S1_S_ = tc2 := rfl
abbrev tcellP2 : sProp 𝕄 := semVal ((c : Thread nD τ), SemLoc.dma (tc2).sem) 0
abbrev tslotP2 (f : Buf (Elt F) (ts2.view.loc (c : Thread nD τ))) : sProp 𝕄 := ts2.view.loc (c : Thread nD τ) ↦[ts2.view.set]{fullShare} f
abbrev tblkP2 (q : PosShare TreeShare) : sProp 𝕄 := tw2.view.loc (c : Thread nD τ) ↦[tw2.view.set]{q} XW
abbrev tpay2 : S1280x512.Idx → Elt F .fp8e4m3 := ReadAs.same.apply (tw2.view.read (Elt F) XW)
abbrev tflightP2 (q : PosShare TreeShare) (f : Buf (Elt F) (ts2.view.loc (c : Thread nD τ))) : sProp 𝕄 :=
  Transfers.Flight countersEmb (c : Thread nD τ) (SemLoc.dma (tc2).sem) () 20480
    iprop(tslotP2 c (ts2.view.writes (Elt F) f [⟨Rect.whole S1280x512, tpay2 c XW⟩]) ∗ tblkP2 c XW q)

/-- Piece 3: rows 6400 to 6911 of the last block. -/
def ts3 : Memref sig .tc .vmem S512x512 .fp8e4m3 :=
  (bRing.slice (Rect.unit (s := S4x7168x512) ![2, 6400, 0] S1x512x512.size inb_S4x7168x512_S1x512x512_2_6400_0) (fun _ => rfl)).squeeze S512x512 squeezes_S1x512x512_S512x512
def tw3 : Memref sig .tc .hbm S512x512 .fp8e4m3 :=
  aW.slice (Rect.unit (s := S7168x32256) ![6400, 31744] S512x512.size inb_S7168x32256_S512x512_6400_31744) (fun _ => rfl)
def tc3 : DmaSems sig S_ := (cc0_scratch20.slice (Rect.unit (s := S5) ![3] S1.size inb_S5_S1_3)).squeeze S_ squeezes_S1_S_
@[sl_canon] theorem tsL3 (hh hs) : (bRing.slice (Rect.unit (s := S4x7168x512) ![2, 6400, 0] S1x512x512.size hh) hs).squeeze S512x512 squeezes_S1x512x512_S512x512 = ts3 := rfl
@[sl_canon] theorem twL3 (hh hs) : aW.slice (Rect.unit (s := S7168x32256) ![6400, 31744] S512x512.size hh) hs = tw3 := rfl
@[sl_canon] theorem tcL3 (hh) : (cc0_scratch20.slice (Rect.unit (s := S5) ![3] S1.size hh)).squeeze S_ squeezes_S1_S_ = tc3 := rfl
abbrev tcellP3 : sProp 𝕄 := semVal ((c : Thread nD τ), SemLoc.dma (tc3).sem) 0
abbrev tslotP3 (f : Buf (Elt F) (ts3.view.loc (c : Thread nD τ))) : sProp 𝕄 := ts3.view.loc (c : Thread nD τ) ↦[ts3.view.set]{fullShare} f
abbrev tblkP3 (q : PosShare TreeShare) : sProp 𝕄 := tw3.view.loc (c : Thread nD τ) ↦[tw3.view.set]{q} XW
abbrev tpay3 : S512x512.Idx → Elt F .fp8e4m3 := ReadAs.same.apply (tw3.view.read (Elt F) XW)
abbrev tflightP3 (q : PosShare TreeShare) (f : Buf (Elt F) (ts3.view.loc (c : Thread nD τ))) : sProp 𝕄 :=
  Transfers.Flight countersEmb (c : Thread nD τ) (SemLoc.dma (tc3).sem) () 8192
    iprop(tslotP3 c (ts3.view.writes (Elt F) f [⟨Rect.whole S512x512, tpay3 c XW⟩]) ∗ tblkP3 c XW q)

/-- Piece 4: rows 6912 to 7167 of the last block. -/
def ts4 : Memref sig .tc .vmem S256x512 .fp8e4m3 :=
  (bRing.slice (Rect.unit (s := S4x7168x512) ![2, 6912, 0] S1x256x512.size inb_S4x7168x512_S1x256x512_2_6912_0) (fun _ => rfl)).squeeze S256x512 squeezes_S1x256x512_S256x512
def tw4 : Memref sig .tc .hbm S256x512 .fp8e4m3 :=
  aW.slice (Rect.unit (s := S7168x32256) ![6912, 31744] S256x512.size inb_S7168x32256_S256x512_6912_31744) (fun _ => rfl)
def tc4 : DmaSems sig S_ := (cc0_scratch20.slice (Rect.unit (s := S5) ![4] S1.size inb_S5_S1_4)).squeeze S_ squeezes_S1_S_
@[sl_canon] theorem tsL4 (hh hs) : (bRing.slice (Rect.unit (s := S4x7168x512) ![2, 6912, 0] S1x256x512.size hh) hs).squeeze S256x512 squeezes_S1x256x512_S256x512 = ts4 := rfl
@[sl_canon] theorem twL4 (hh hs) : aW.slice (Rect.unit (s := S7168x32256) ![6912, 31744] S256x512.size hh) hs = tw4 := rfl
@[sl_canon] theorem tcL4 (hh) : (cc0_scratch20.slice (Rect.unit (s := S5) ![4] S1.size hh)).squeeze S_ squeezes_S1_S_ = tc4 := rfl
abbrev tcellP4 : sProp 𝕄 := semVal ((c : Thread nD τ), SemLoc.dma (tc4).sem) 0
abbrev tslotP4 (f : Buf (Elt F) (ts4.view.loc (c : Thread nD τ))) : sProp 𝕄 := ts4.view.loc (c : Thread nD τ) ↦[ts4.view.set]{fullShare} f
abbrev tblkP4 (q : PosShare TreeShare) : sProp 𝕄 := tw4.view.loc (c : Thread nD τ) ↦[tw4.view.set]{q} XW
abbrev tpay4 : S256x512.Idx → Elt F .fp8e4m3 := ReadAs.same.apply (tw4.view.read (Elt F) XW)
abbrev tflightP4 (q : PosShare TreeShare) (f : Buf (Elt F) (ts4.view.loc (c : Thread nD τ))) : sProp 𝕄 :=
  Transfers.Flight countersEmb (c : Thread nD τ) (SemLoc.dma (tc4).sem) () 4096
    iprop(tslotP4 c (ts4.view.writes (Elt F) f [⟨Rect.whole S256x512, tpay4 c XW⟩]) ∗ tblkP4 c XW q)

end Cert.Kernel.Hand

end
-- ==== Proof.K.Trip.lean ====
/-
  One trip of the kernel's loop.
-/
module

public import proofs.«01_k».proof.Proof.K.Vals
public import proofs.«01_k».proof.Proof.K.Tail

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tripG (v27 : IVec S8x128 32) (v173 : IVec S40x128 32) (v1491 : FVec F S8x512 .f32) (c1 : BitVec 32) (k : Fin k0_t1_loop.trips) (acc : FVec F S8x512 .f32) :
    Prog (TpuEff nD τ sig (Elt F) Λ₀ .tc) (FVec F S8x512 .f32) :=
  k0_t1_body (F := F) aX (Memref.isWhole_whole _) aW (Memref.isWhole_whole _) aWs (Memref.isWhole_whole _) aBm (Memref.isWhole_whole _)
    aId (Memref.isWhole_whole _) oMl (Memref.isWhole_whole _) oLse (Memref.isWhole_whole _) oClp (Memref.isWhole_whole _)
    oXc (Memref.isWhole_whole _) oXs (Memref.isWhole_whole _) bRing (Memref.isWhole_whole _) bX (Memref.isWhole_whole _)
    bWs (Memref.isWhole_whole _) bBm (Memref.isWhole_whole _) bId (Memref.isWhole_whole _) bMl (Memref.isWhole_whole _)
    bLse (Memref.isWhole_whole _) bClp (Memref.isWhole_whole _) bXc (Memref.isWhole_whole _) bXs (Memref.isWhole_whole _)
    bXf (Memref.isWhole_whole _) bXq (Memref.isWhole_whole _) bWords (Memref.isWhole_whole _) bCid (Memref.isWhole_whole _)
    bCok (Memref.isWhole_whole _) bCacc (Memref.isWhole_whole _) bXsb (Memref.isWhole_whole _) bM (Memref.isWhole_whole _)
    bS (Memref.isWhole_whole _) cc0_scratch19 cc0_scratch20 cc0_scratch21 cc0_scratch22 cc0_scratch23 v27 v173 v1491 c1 k acc

theorem cond1_of : ∀ k : Fin k0_t1_loop.trips, k.val + 4 < 62 → k0_cond1 k = 1#1 := by decide +kernel
theorem cond1_not : ∀ k : Fin k0_t1_loop.trips, 62 ≤ k.val + 4 → ¬ k0_cond1 k = 1#1 := by decide +kernel
theorem cond2_of : ∀ k : Fin k0_t1_loop.trips, k.val + 4 ≠ 62 →
    ¬ (Scalar.cmpi .ne (Scalar.extui (Scalar.cmpi .eq (Scalar.subi (Scalar.addi (Scf.iv 1#32 1#32 k.val) 4#32) 1#32) 62#32)) 0#32 = (1#1 : BitVec 1)) := by decide +kernel
theorem cond2_at : ∀ k : Fin k0_t1_loop.trips, k.val + 4 = 62 →
    (Scalar.cmpi .ne (Scalar.extui (Scalar.cmpi .eq (Scalar.subi (Scalar.addi (Scf.iv 1#32 1#32 k.val) 4#32) 1#32) 62#32)) 0#32 = (1#1 : BitVec 1)) := by decide +kernel

section
variable (c : Dev nD) (XW : BufOf F c aW) (v27 : IVec S8x128 32) (v173 : IVec S40x128 32)
  (fa : BufOf F c bXq) (fw : BufOf F c bWords) (fs : BufOf F c bXsb) (fws : BufOf F c bWs) (fcid : BufOf F c bCid)
  (raw : ℕ → FVec F S8x512 .f32) (st0 : St F)

/-- The buffers the loop only reads. -/
abbrev FixP : sProp 𝕄 := iprop(pt c bXq fa ∗ pt c bWords fw ∗ pt c bXsb fs ∗ pt c bWs fws ∗ pt c bCid fcid)

/-- The buffers of the running state and the masked logits, before block `k`. -/
abbrev AccP (k : ℕ) : sProp 𝕄 :=
  iprop((∃ fml, ⌜mlFact c (maskV c v27 fw) (lgV c fs fws raw) k fml⌝ ∗ pt c bMl fml)
    ∗ (∃ fm, ⌜rdM c fm = (stV c v27 v173 fw fs fws fcid raw st0 k).m⌝ ∗ pt c bM fm)
    ∗ (∃ fm, ⌜rdS c fm = (stV c v27 v173 fw fs fws fcid raw st0 k).s⌝ ∗ pt c bS fm)
    ∗ (∃ fm, ⌜caFact c fm (stV c v27 v173 fw fs fws fcid raw st0 k)⌝ ∗ pt c bCacc fm))

set_option maxHeartbeats 2000000 in
/-- A trip that sends off another whole block. -/
theorem tripA (v1491 : FVec F S8x512 .f32) (c1 : BitVec 32) (k : Fin k0_t1_loop.trips) (acc : FVec F S8x512 .f32)
    (hk : k.val + 4 < 62) (hc : c1 = 1#32) (hacc : acc = raw k.val) (hraw : rawV c XW fa (k.val + 1) = raw (k.val + 1))
    (q q' : PosShare TreeShare) (f0) (f1) :
   (iprop(flightP c XW q (Ring.sl 4 (k.val+1)) (Ring.bk 62 (k.val+1)) f0
      ∗ slotP c (Ring.sl 4 (k.val+4)) f1 ∗ cellP c (Ring.sl 4 (k.val+4)) ∗ blkP c XW q' (Ring.bk 62 (k.val+4))
      ∗ FixP c fa fw fs fws fcid ∗ AccP c v27 v173 fw fs fws fcid raw st0 k.val
      ∗ (∃ W, owes (c : Thread nD τ) 0 W)) : sProp 𝕄)
   ⊢ wp frame (wpE (defs₀ (F := F)) 𝒱₀ (c : Thread nD τ) none) Set.univ (tripG v27 v173 v1491 c1 k acc)
      (fun y => iprop(⌜y = raw (k.val + 1)⌝ ∗ (∃ f, slotP c (Ring.sl 4 (k.val+1)) f) ∗ cellP c (Ring.sl 4 (k.val+1)) ∗ blkP c XW q (Ring.bk 62 (k.val+1))
        ∗ (∃ f, flightP c XW q' (Ring.sl 4 (k.val+4)) (Ring.bk 62 (k.val+4)) f) ∗ FixP c fa fw fs fws fcid ∗ AccP c v27 v173 fw fs fws fcid raw st0 (k.val + 1)
        ∗ (∃ W, owes (c : Thread nD τ) 0 W))) := by
  subst hc; subst hacc
  iintro ⟨HF0, HR1, HC1, HB1, ⟨HA, HWd, HXs, HWs, HCid⟩, ⟨⟨%fml, %hml, HMl⟩, ⟨%fm, %hm, HM⟩, ⟨%fss, %hs, HS⟩, ⟨%fca, %hca, HCa⟩⟩, ⟨%W, HW⟩⟩
  dsimp only [tripG]
  have h1 := cond1_of k hk
  have h2 := cond2_of k (by omega)
  have hlt := trip_lt k
  have eW : bWords.view.readAt (Elt F) (Rect.unit (s := S8x1024) (k0_off11 k) S8x128.size (k0_off11_inb k)).toLoadRect fw = rdWords c k.val fw := rdWords_eq c fw k.val (off11_eq k) _ (by omega)
  have eS : bWs.view.readAt (Elt F) (Rect.unit (s := S1x32256) (k0_off12 k) S1x512.size (k0_off12_inb k)).toLoadRect fws = rdWs c k.val fws := rdWs_eq c fws k.val (k0_off12_eq k) _ (by omega)
  sl_unfold [k0_t1_body]
  sl_exec
  sl_step
  have eB : ∀ k, tripA.sl.v2485 k = baseW k.val := by decide +kernel
  have eC : ∀ k, tripA.sl.v2457 k = colW k.val := by decide +kernel
  have eM : tripA.sl.r_2 (F := F) c v27 fw k = maskV c v27 fw k.val := by rw [maskV, ← eB]; rfl
  isplitr
  · ipureintro
    exact (congrArg (dotBlk (rdXq c fa)) (slotRead c XW _ _ _ (off10_eq k) _)).trans hraw
  isplitl [HF0_dst]; · iexists _; iexact HF0_dst
  isplitl [HF0]; · iexact HF0
  isplitl [HF0_src]; · iexact HF0_src
  isplitl [HC1]; · iexists _; iexact HC1
  isplitl [HA HWd HXs HWs HCid]
  · isplitl [HA]; · iexact HA
    isplitl [HWd]; · iexact HWd
    isplitl [HXs]; · iexact HXs
    isplitl [HWs]; · iexact HWs
    iexact HCid
  isplitl [HMl HM HS HCa]
  · isplitl [HMl]
    · iexists _
      isplitr
      swap; · iexact HMl
      ipureintro
      refine mlFact_step c _ _ k.val fml hml (by omega) (k0_off13_eq k) (k0_off14_eq k) (k0_off15_eq k) _ _ _ _ _ _ ?_ ?_ ?_
      · intro x; rw [← eM]; exact (row_at0 (mlBlk (tripA.sl.r_2 (F := F) c v27 fw k) (lgV c fs fws raw k.val)) x)
      · intro x; rw [← eM]; exact (row_at1 (mlBlk (tripA.sl.r_2 (F := F) c v27 fw k) (lgV c fs fws raw k.val)) x)
      · intro x; rw [← eM]; exact (row_at2 (mlBlk (tripA.sl.r_2 (F := F) c v27 fw k) (lgV c fs fws raw k.val)) x)
    isplitl [HM]
    · iexists _
      isplitr
      swap; · iexact HM
      ipureintro
      rw [stV]
      refine (funext fun j => View.read_writes_cons_emb bM.view fm R88 _ _ j).trans ?_
      show _ = k0_pay34 _ _ _
      rw [← hm, ← eM]; rfl
    isplitl [HS]
    · iexists _
      isplitr
      swap; · iexact HS
      ipureintro
      rw [stV]
      refine (funext fun j => View.read_writes_cons_emb bS.view fss R88 _ _ j).trans ?_
      show _ = k0_pay35 _ _ _ _
      rw [← hm, ← hs, ← eM]; rfl
    · iexists _
      isplitr
      swap; · iexact HCa
      ipureintro
      obtain ⟨hc0, hc1, hc2⟩ := hca
      rw [stV]
      refine caFact_step c fca _ _ _ _ ?_ ?_ ?_
      · show _ = k0_pay39 _ _ _ _ _ _
        rw [← hc0, ← eC]; rfl
      · show _ = k0_pay44 _ _ _ _ _ _ _
        rw [← hc1, ← eC]; rfl
      · show _ = k0_pay182 _ _ _ _ _ _ _
        rw [← hc2, ← eC]; rfl
  iexists _; iexact HW

set_option maxHeartbeats 2000000 in
/-- The trip that sends off the five row pieces of the last block. -/
theorem tripT (v1491 : FVec F S8x512 .f32) (c1 : BitVec 32) (k : Fin k0_t1_loop.trips) (acc : FVec F S8x512 .f32)
    (hk : k.val + 4 = 62) (hc : c1 = 1#32) (hacc : acc = raw k.val) (hraw : rawV c XW fa (k.val + 1) = raw (k.val + 1))
    (q q' : PosShare TreeShare) (f0) (Q : Fin 5 → PosShare TreeShare) (g0) (g1) (g2) (g3) (g4)  :
   (iprop(flightP c XW q (Ring.sl 4 (k.val+1)) (Ring.bk 62 (k.val+1)) f0
      ∗ tslotP0 c g0 ∗ tcellP0 c ∗ tblkP0 c XW (Q 0) ∗ tslotP1 c g1 ∗ tcellP1 c ∗ tblkP1 c XW (Q 1) ∗ tslotP2 c g2 ∗ tcellP2 c ∗ tblkP2 c XW (Q 2) ∗ tslotP3 c g3 ∗ tcellP3 c ∗ tblkP3 c XW (Q 3) ∗ tslotP4 c g4 ∗ tcellP4 c ∗ tblkP4 c XW (Q 4) ∗ FixP c fa fw fs fws fcid ∗ AccP c v27 v173 fw fs fws fcid raw st0 k.val
      ∗ (∃ W, owes (c : Thread nD τ) 0 W)) : sProp 𝕄)
   ⊢ wp frame (wpE (defs₀ (F := F)) 𝒱₀ (c : Thread nD τ) none) Set.univ (tripG v27 v173 v1491 c1 k acc)
      (fun y => iprop(⌜y = raw (k.val + 1)⌝ ∗ (∃ f, slotP c (Ring.sl 4 (k.val+1)) f) ∗ cellP c (Ring.sl 4 (k.val+1)) ∗ blkP c XW q (Ring.bk 62 (k.val+1))
        ∗ (∃ f, tflightP0 c XW (Q 0) f) ∗ (∃ f, tflightP1 c XW (Q 1) f) ∗ (∃ f, tflightP2 c XW (Q 2) f) ∗ (∃ f, tflightP3 c XW (Q 3) f) ∗ (∃ f, tflightP4 c XW (Q 4) f) ∗ FixP c fa fw fs fws fcid ∗ AccP c v27 v173 fw fs fws fcid raw st0 (k.val + 1)
        ∗ (∃ W, owes (c : Thread nD τ) 0 W))) := by
  subst hc; subst hacc
  iintro ⟨HF0, HT0, HC0, HB0, HT1, HC1, HB1, HT2, HC2, HB2, HT3, HC3, HB3, HT4, HC4, HB4, ⟨HA, HWd, HXs, HWs, HCid⟩, ⟨⟨%fml, %hml, HMl⟩, ⟨%fm, %hm, HM⟩, ⟨%fss, %hs, HS⟩, ⟨%fca, %hca, HCa⟩⟩, ⟨%W, HW⟩⟩
  dsimp only [tripG]
  have h1 := cond1_not k (by omega)
  have h2 := cond2_at k hk
  have hlt := trip_lt k
  have eW : bWords.view.readAt (Elt F) (Rect.unit (s := S8x1024) (k0_off11 k) S8x128.size (k0_off11_inb k)).toLoadRect fw = rdWords c k.val fw := rdWords_eq c fw k.val (off11_eq k) _ (by omega)
  have eS : bWs.view.readAt (Elt F) (Rect.unit (s := S1x32256) (k0_off12 k) S1x512.size (k0_off12_inb k)).toLoadRect fws = rdWs c k.val fws := rdWs_eq c fws k.val (k0_off12_eq k) _ (by omega)
  sl_unfold [k0_t1_body]
  sl_exec
  sl_step
  have eB : ∀ k, tripT.sl.v2485 k = baseW k.val := by decide +kernel
  have eC : ∀ k, tripT.sl.v2457 k = colW k.val := by decide +kernel
  have eM : tripT.sl.r_2 (F := F) c v27 fw k = maskV c v27 fw k.val := by rw [maskV, ← eB]; rfl
  isplitr
  · ipureintro
    exact (congrArg (dotBlk (rdXq c fa)) (slotRead c XW _ _ _ (off10_eq k) _)).trans hraw
  isplitl [HF0_dst]; · iexists _; iexact HF0_dst
  isplitl [HF0]; · iexact HF0
  isplitl [HF0_src]; · iexact HF0_src
  isplitl [HC0]; · iexists _; iexact HC0
  isplitl [HC1]; · iexists _; iexact HC1
  isplitl [HC2]; · iexists _; iexact HC2
  isplitl [HC3]; · iexists _; iexact HC3
  isplitl [HC4]; · iexists _; iexact HC4
  isplitl [HA HWd HXs HWs HCid]
  · isplitl [HA]; · iexact HA
    isplitl [HWd]; · iexact HWd
    isplitl [HXs]; · iexact HXs
    isplitl [HWs]; · iexact HWs
    iexact HCid
  isplitl [HMl HM HS HCa]
  · isplitl [HMl]
    · iexists _
      isplitr
      swap; · iexact HMl
      ipureintro
      refine mlFact_step c _ _ k.val fml hml (by omega) (k0_off13_eq k) (k0_off14_eq k) (k0_off15_eq k) _ _ _ _ _ _ ?_ ?_ ?_
      · intro x; rw [← eM]; exact (row_at0 (mlBlk (tripT.sl.r_2 (F := F) c v27 fw k) (lgV c fs fws raw k.val)) x)
      · intro x; rw [← eM]; exact (row_at1 (mlBlk (tripT.sl.r_2 (F := F) c v27 fw k) (lgV c fs fws raw k.val)) x)
      · intro x; rw [← eM]; exact (row_at2 (mlBlk (tripT.sl.r_2 (F := F) c v27 fw k) (lgV c fs fws raw k.val)) x)
    isplitl [HM]
    · iexists _
      isplitr
      swap; · iexact HM
      ipureintro
      rw [stV]
      refine (funext fun j => View.read_writes_cons_emb bM.view fm R88 _ _ j).trans ?_
      show _ = k0_pay34 _ _ _
      rw [← hm, ← eM]; rfl
    isplitl [HS]
    · iexists _
      isplitr
      swap; · iexact HS
      ipureintro
      rw [stV]
      refine (funext fun j => View.read_writes_cons_emb bS.view fss R88 _ _ j).trans ?_
      show _ = k0_pay35 _ _ _ _
      rw [← hm, ← hs, ← eM]; rfl
    · iexists _
      isplitr
      swap; · iexact HCa
      ipureintro
      obtain ⟨hc0, hc1, hc2⟩ := hca
      rw [stV]
      refine caFact_step c fca _ _ _ _ ?_ ?_ ?_
      · show _ = k0_pay39 _ _ _ _ _ _
        rw [← hc0, ← eC]; rfl
      · show _ = k0_pay44 _ _ _ _ _ _ _
        rw [← hc1, ← eC]; rfl
      · show _ = k0_pay182 _ _ _ _ _ _ _
        rw [← hc2, ← eC]; rfl
  iexists _; iexact HW

set_option maxHeartbeats 2000000 in
/-- A trip that sends nothing off. -/
theorem tripE (v1491 : FVec F S8x512 .f32) (c1 : BitVec 32) (k : Fin k0_t1_loop.trips) (acc : FVec F S8x512 .f32)
    (hk : 62 < k.val + 4) (hc : c1 = 1#32) (hacc : acc = raw k.val) (hraw : rawV c XW fa (k.val + 1) = raw (k.val + 1))
    (q q' : PosShare TreeShare) (f0)  :
   (iprop(flightP c XW q (Ring.sl 4 (k.val+1)) (Ring.bk 62 (k.val+1)) f0
      ∗ FixP c fa fw fs fws fcid ∗ AccP c v27 v173 fw fs fws fcid raw st0 k.val
      ∗ (∃ W, owes (c : Thread nD τ) 0 W)) : sProp 𝕄)
   ⊢ wp frame (wpE (defs₀ (F := F)) 𝒱₀ (c : Thread nD τ) none) Set.univ (tripG v27 v173 v1491 c1 k acc)
      (fun y => iprop(⌜y = raw (k.val + 1)⌝ ∗ (∃ f, slotP c (Ring.sl 4 (k.val+1)) f) ∗ cellP c (Ring.sl 4 (k.val+1)) ∗ blkP c XW q (Ring.bk 62 (k.val+1))
        ∗ FixP c fa fw fs fws fcid ∗ AccP c v27 v173 fw fs fws fcid raw st0 (k.val + 1)
        ∗ (∃ W, owes (c : Thread nD τ) 0 W))) := by
  subst hc; subst hacc
  iintro ⟨HF0, ⟨HA, HWd, HXs, HWs, HCid⟩, ⟨⟨%fml, %hml, HMl⟩, ⟨%fm, %hm, HM⟩, ⟨%fss, %hs, HS⟩, ⟨%fca, %hca, HCa⟩⟩, ⟨%W, HW⟩⟩
  dsimp only [tripG]
  have h1 := cond1_not k (by omega)
  have h2 := cond2_of k (by omega)
  have hlt := trip_lt k
  have eW : bWords.view.readAt (Elt F) (Rect.unit (s := S8x1024) (k0_off11 k) S8x128.size (k0_off11_inb k)).toLoadRect fw = rdWords c k.val fw := rdWords_eq c fw k.val (off11_eq k) _ (by omega)
  have eS : bWs.view.readAt (Elt F) (Rect.unit (s := S1x32256) (k0_off12 k) S1x512.size (k0_off12_inb k)).toLoadRect fws = rdWs c k.val fws := rdWs_eq c fws k.val (k0_off12_eq k) _ (by omega)
  sl_unfold [k0_t1_body]
  sl_exec
  sl_step
  have eB : ∀ k, tripE.sl.v2485 k = baseW k.val := by decide +kernel
  have eC : ∀ k, tripE.sl.v2457 k = colW k.val := by decide +kernel
  have eM : tripE.sl.r_2 (F := F) c v27 fw k = maskV c v27 fw k.val := by rw [maskV, ← eB]; rfl
  isplitr
  · ipureintro
    exact (congrArg (dotBlk (rdXq c fa)) (slotRead c XW _ _ _ (off10_eq k) _)).trans hraw
  isplitl [HF0_dst]; · iexists _; iexact HF0_dst
  isplitl [HF0]; · iexact HF0
  isplitl [HF0_src]; · iexact HF0_src
  isplitl [HA HWd HXs HWs HCid]
  · isplitl [HA]; · iexact HA
    isplitl [HWd]; · iexact HWd
    isplitl [HXs]; · iexact HXs
    isplitl [HWs]; · iexact HWs
    iexact HCid
  isplitl [HMl HM HS HCa]
  · isplitl [HMl]
    · iexists _
      isplitr
      swap; · iexact HMl
      ipureintro
      refine mlFact_step c _ _ k.val fml hml (by omega) (k0_off13_eq k) (k0_off14_eq k) (k0_off15_eq k) _ _ _ _ _ _ ?_ ?_ ?_
      · intro x; rw [← eM]; exact (row_at0 (mlBlk (tripE.sl.r_2 (F := F) c v27 fw k) (lgV c fs fws raw k.val)) x)
      · intro x; rw [← eM]; exact (row_at1 (mlBlk (tripE.sl.r_2 (F := F) c v27 fw k) (lgV c fs fws raw k.val)) x)
      · intro x; rw [← eM]; exact (row_at2 (mlBlk (tripE.sl.r_2 (F := F) c v27 fw k) (lgV c fs fws raw k.val)) x)
    isplitl [HM]
    · iexists _
      isplitr
      swap; · iexact HM
      ipureintro
      rw [stV]
      refine (funext fun j => View.read_writes_cons_emb bM.view fm R88 _ _ j).trans ?_
      show _ = k0_pay34 _ _ _
      rw [← hm, ← eM]; rfl
    isplitl [HS]
    · iexists _
      isplitr
      swap; · iexact HS
      ipureintro
      rw [stV]
      refine (funext fun j => View.read_writes_cons_emb bS.view fss R88 _ _ j).trans ?_
      show _ = k0_pay35 _ _ _ _
      rw [← hm, ← hs, ← eM]; rfl
    · iexists _
      isplitr
      swap; · iexact HCa
      ipureintro
      obtain ⟨hc0, hc1, hc2⟩ := hca
      rw [stV]
      refine caFact_step c fca _ _ _ _ ?_ ?_ ?_
      · show _ = k0_pay39 _ _ _ _ _ _
        rw [← hc0, ← eC]; rfl
      · show _ = k0_pay44 _ _ _ _ _ _ _
        rw [← hc1, ← eC]; rfl
      · show _ = k0_pay182 _ _ _ _ _ _ _
        rw [← hc2, ← eC]; rfl
  iexists _; iexact HW

end

end Cert.Kernel.Hand

end
-- ==== Proof.K.Split.lean ====
/-
  The ring buffer as its four slots, slot 2 as the five row pieces of the last block, and the weight codes as nine read
  tokens (one for each slot, one for each row piece).
-/
module

public import proofs.«01_k».proof.Proof.K.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Slots of the ring -/

def Sl (s : Fin 4) : Finset S4x7168x512.Idx := (Rect.unit (s := S4x7168x512) (slotOff s) S1x7168x512.size (slotOff_inb s)).set
theorem rslot_set (s : Fin 4) : (rslot s).view.set = Sl s := (View.set_reshape _ _).trans (View.set_slice_whole _ _)
theorem mem_Sl (s : Fin 4) (y : S4x7168x512.Idx) : y ∈ Sl s ↔ (y 0).val = s.val := by
  rw [Sl, Rect.mem_set_unit]
  have h1 : (y 1).val < 7168 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 7168; omega
    · show 0 ≤ (y 2).val ∧ (y 2).val < 0 + 512; omega
theorem Sl_disjoint : ∀ s s' : Fin 4, s ≠ s' → Disjoint (Sl s) (Sl s') := by
  intro s s' hne; rw [Finset.disjoint_left]; intro y hy hy'; rw [mem_Sl] at hy hy'; exact hne (Fin.ext (hy.symm.trans hy'))
theorem Sl_cover : (Finset.univ : Finset (Fin 4)).biUnion Sl = Finset.univ := by
  ext y; simp only [Finset.mem_biUnion, Finset.mem_univ, true_and, iff_true]; exact ⟨(y 0).cast (by decide), by rw [mem_Sl]; rfl⟩

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

omit [FloatOps F] in
theorem slotP_eq (c : Dev nD) (s : Fin 4) (f) : slotP c s f = (((c : Thread nD τ).loc cc0_scratch0) ↦[Sl s]{fullShare} f : sProp 𝕄) :=
  congrArg (fun S => (_ ↦[S]{fullShare} f : sProp 𝕄)) (rslot_set s)

omit [FloatOps F] in
/-- The ring whole is its four slots, and back. -/
theorem ring_split (c : Dev nD) (f : Buf (Elt F) ((c : Thread nD τ).loc cc0_scratch0)) :
    (((c : Thread nD τ).loc cc0_scratch0) ↦{fullShare} f : sProp 𝕄) ⊢ iprop(slotP c 0 f ∗ slotP c 1 f ∗ slotP c 2 f ∗ slotP c 3 f) := by
  iintro H
  ihave H2 := (Entails.of_eq ((Ring.pointsTo_blocks (Ix := Unit) (Name := ℕ) (U := Pipeline.UD sig nD τ) (Lvl := ℕ) (q := fullShare) (ℓ := (c : Thread nD τ).loc cc0_scratch0) Sl Sl_disjoint Sl_cover f).trans (bigSep_fin4 _))) $$ H
  icases H2 with ⟨H0, H1, H2, H3⟩
  isplitl [H0]
  · iapply (Entails.of_eq (slotP_eq c 0 f).symm); iexact H0
  isplitl [H1]
  · iapply (Entails.of_eq (slotP_eq c 1 f).symm); iexact H1
  isplitl [H2]
  · iapply (Entails.of_eq (slotP_eq c 2 f).symm); iexact H2
  iapply (Entails.of_eq (slotP_eq c 3 f).symm); iexact H3
omit [FloatOps F] in
theorem ring_join (c : Dev nD) :
    (iprop((∃ f, slotP c 0 f) ∗ (∃ f, slotP c 1 f) ∗ (∃ f, slotP c 2 f) ∗ ∃ f, slotP c 3 f) : sProp 𝕄)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) Sl Sl_disjoint Sl_cover f0)
  irw [bigSep_fin4]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  iexists f3; iapply (Entails.of_eq (slotP_eq c 3 f3)); iexact H3

/-! ## The row pieces of slot 2 -/

def rs : Fin 5 → ℕ := ![0, 3072, 5120, 6400, 6912]
def rn : Fin 5 → ℕ := ![3072, 2048, 1280, 512, 256]
theorem rs_inb (j : Fin 5) : ∀ a, (![2, rs j, 0] : Fin 3 → ℕ) a + (![1, rn j, 512] : Fin 3 → ℕ) a ≤ S4x7168x512.size a := by
  revert j; decide
def Tl (j : Fin 5) : Finset S4x7168x512.Idx := (Rect.unit (s := S4x7168x512) ![2, rs j, 0] ![1, rn j, 512] (rs_inb j)).set
theorem mem_Tl (j : Fin 5) (y : S4x7168x512.Idx) : y ∈ Tl j ↔ (y 0).val = 2 ∧ rs j ≤ (y 1).val ∧ (y 1).val < rs j + rn j := by
  rw [Tl, Rect.mem_set_unit]
  have h2 : (y 2).val < 512 := (y 2).isLt
  constructor
  · intro H
    have a0 : 2 ≤ (y 0).val ∧ (y 0).val < 2 + 1 := H 0
    have a1 : rs j ≤ (y 1).val ∧ (y 1).val < rs j + rn j := H 1
    exact ⟨by omega, a1⟩
  · rintro ⟨H, H1⟩ i; fin_cases i
    · show 2 ≤ (y 0).val ∧ (y 0).val < 2 + 1; omega
    · exact H1
    · show 0 ≤ (y 2).val ∧ (y 2).val < 0 + 512; omega
theorem rs_sep : ∀ j j' : Fin 5, j ≠ j' → rs j + rn j ≤ rs j' ∨ rs j' + rn j' ≤ rs j := by decide
theorem Tl_disjoint : ∀ j j' : Fin 5, j ≠ j' → Disjoint (Tl j) (Tl j') := by
  intro j j' hne; rw [Finset.disjoint_left]; intro y hy hy'; rw [mem_Tl] at hy hy'
  have := rs_sep j j' hne; omega
theorem Tl_cover : (Finset.univ : Finset (Fin 5)).biUnion Tl = Sl 2 := by
  ext y
  simp only [Finset.mem_biUnion, Finset.mem_univ, true_and, mem_Tl, mem_Sl]
  have h1 : (y 1).val < 7168 := (y 1).isLt
  constructor
  · rintro ⟨j, h, -⟩; exact h
  · intro h
    have h' : (y 0).val = 2 := h
    by_cases a : (y 1).val < 3072
    · exact ⟨0, h', Nat.zero_le _, by show _ < 0 + 3072; omega⟩
    by_cases b : (y 1).val < 5120
    · exact ⟨1, h', by show 3072 ≤ _; omega, by show _ < 3072 + 2048; omega⟩
    by_cases d : (y 1).val < 6400
    · exact ⟨2, h', by show 5120 ≤ _; omega, by show _ < 5120 + 1280; omega⟩
    by_cases e : (y 1).val < 6912
    · exact ⟨3, h', by show 6400 ≤ _; omega, by show _ < 6400 + 512; omega⟩
    · exact ⟨4, h', by show 6912 ≤ _; omega, by show _ < 6912 + 256; omega⟩

theorem ts0_set : ts0.view.set = Tl 0 := (View.set_reshape _ _).trans (View.set_slice_whole _ _)
theorem ts1_set : ts1.view.set = Tl 1 := (View.set_reshape _ _).trans (View.set_slice_whole _ _)
theorem ts2_set : ts2.view.set = Tl 2 := (View.set_reshape _ _).trans (View.set_slice_whole _ _)
theorem ts3_set : ts3.view.set = Tl 3 := (View.set_reshape _ _).trans (View.set_slice_whole _ _)
theorem ts4_set : ts4.view.set = Tl 4 := (View.set_reshape _ _).trans (View.set_slice_whole _ _)

section
variable (c : Dev nD)
omit [FloatOps F]
theorem tslotP0_eq (f) : tslotP0 c f = (((c : Thread nD τ).loc cc0_scratch0) ↦[Tl 0]{fullShare} f : sProp 𝕄) := congrArg (fun S => (_ ↦[S]{fullShare} f : sProp 𝕄)) ts0_set
theorem tslotP1_eq (f) : tslotP1 c f = (((c : Thread nD τ).loc cc0_scratch0) ↦[Tl 1]{fullShare} f : sProp 𝕄) := congrArg (fun S => (_ ↦[S]{fullShare} f : sProp 𝕄)) ts1_set
theorem tslotP2_eq (f) : tslotP2 c f = (((c : Thread nD τ).loc cc0_scratch0) ↦[Tl 2]{fullShare} f : sProp 𝕄) := congrArg (fun S => (_ ↦[S]{fullShare} f : sProp 𝕄)) ts2_set
theorem tslotP3_eq (f) : tslotP3 c f = (((c : Thread nD τ).loc cc0_scratch0) ↦[Tl 3]{fullShare} f : sProp 𝕄) := congrArg (fun S => (_ ↦[S]{fullShare} f : sProp 𝕄)) ts3_set
theorem tslotP4_eq (f) : tslotP4 c f = (((c : Thread nD τ).loc cc0_scratch0) ↦[Tl 4]{fullShare} f : sProp 𝕄) := congrArg (fun S => (_ ↦[S]{fullShare} f : sProp 𝕄)) ts4_set

/-- Slot 2 is its five row pieces, and back. -/
theorem slot2_split (f : Buf (Elt F) ((c : Thread nD τ).loc cc0_scratch0)) :
    (slotP c 2 f : sProp 𝕄) ⊢ iprop(tslotP0 c f ∗ tslotP1 c f ∗ tslotP2 c f ∗ tslotP3 c f ∗ tslotP4 c f) := by
  iintro H'
  ihave H := (Entails.of_eq (slotP_eq c 2 f)) $$ H'
  ihave H2 := (Entails.of_eq ((Ring.pointsTo_sub_blocks (Ix := Unit) (Name := ℕ) (U := Pipeline.UD sig nD τ) (Lvl := ℕ) (q := fullShare) (ℓ := (c : Thread nD τ).loc cc0_scratch0) Tl Tl_disjoint (Sl 2) Tl_cover f).trans (bigSep_fin5 _))) $$ H
  icases H2 with ⟨H0, H1, H2, H3, H4⟩
  isplitl [H0]
  · iapply (Entails.of_eq (tslotP0_eq c f).symm); iexact H0
  isplitl [H1]
  · iapply (Entails.of_eq (tslotP1_eq c f).symm); iexact H1
  isplitl [H2]
  · iapply (Entails.of_eq (tslotP2_eq c f).symm); iexact H2
  isplitl [H3]
  · iapply (Entails.of_eq (tslotP3_eq c f).symm); iexact H3
  iapply (Entails.of_eq (tslotP4_eq c f).symm); iexact H4
theorem slot2_some : (iprop(∃ f : Buf (Elt F) ((c : Thread nD τ).loc cc0_scratch0), ((c : Thread nD τ).loc cc0_scratch0) ↦[Sl 2]{fullShare} f) : sProp 𝕄) ⊢ iprop(∃ f, slotP c 2 f) := by
  iintro ⟨%f, H⟩; iexists f; iapply (Entails.of_eq (slotP_eq c 2 f).symm); iexact H
theorem slot2_join :
    (iprop((∃ f, tslotP0 c f) ∗ (∃ f, tslotP1 c f) ∗ (∃ f, tslotP2 c f) ∗ (∃ f, tslotP3 c f) ∗ ∃ f, tslotP4 c f) : sProp 𝕄) ⊢ iprop(∃ f, slotP c 2 f) := by
  iintro ⟨⟨%f0, H0⟩, ⟨%f1, H1⟩, ⟨%f2, H2⟩, ⟨%f3, H3⟩, ⟨%f4, H4⟩⟩
  iapply ((Ring.pointsTo_sub_blocks_join_exists (ℓ := (c : Thread nD τ).loc cc0_scratch0) Tl Tl_disjoint (Sl 2) Tl_cover f0).trans (slot2_some c))
  irw [bigSep_fin5]
  isplitl [H0]
  · iexists f0; iapply (Entails.of_eq (tslotP0_eq c f0)); iexact H0
  isplitl [H1]
  · iexists f1; iapply (Entails.of_eq (tslotP1_eq c f1)); iexact H1
  isplitl [H2]
  · iexists f2; iapply (Entails.of_eq (tslotP2_eq c f2)); iexact H2
  isplitl [H3]
  · iexists f3; iapply (Entails.of_eq (tslotP3_eq c f3)); iexact H3
  iexists f4; iapply (Entails.of_eq (tslotP4_eq c f4)); iexact H4
end

end Cert.Kernel.Hand

end
-- ==== Proof.K.Loop.lean ====
/-
  The loop's invariant: three blocks on their way, one slot free, the running state of the blocks finished.
-/
module

public import proofs.«01_k».proof.Proof.K.Split

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (XW : BufOf F c aW) (Q : Fin 9 → PosShare TreeShare)

/-- Read token `i` of the weight codes, whole; and what is left of it when a piece is lent. -/
def wTok (i : Fin 9) : sProp 𝕄 := aW.view.loc (c : Thread nD τ) ↦[aW.view.set]{Q i} XW
/-- What is left of a token of which block `p` is lent. -/
def wRest (i : Fin 9) (p : Fin 62) : sProp 𝕄 := aW.view.loc (c : Thread nD τ) ↦[aW.view.set \ (wblk p).view.set]{Q i} XW
def tokS (s : Fin 4) : Fin 9 := s.castLE (by decide)

omit [FloatOps F] in
theorem blk_lend (i : Fin 9) (p : Fin 62) : (wTok c XW Q i : sProp 𝕄) ⊣⊢ iprop(blkP c XW (Q i) p ∗ wRest c XW Q i p) := by
  unfold wTok wRest
  exact pointsTo_split_subset (by rw [View.set_whole]; exact Finset.subset_univ _)
/-- What is left of row piece 0's token while the piece is lent. -/
def tRest0 : sProp 𝕄 := aW.view.loc (c : Thread nD τ) ↦[aW.view.set \ tw0.view.set]{Q 4} XW
omit [FloatOps F] in
theorem tail_lend0 : (wTok c XW Q 4 : sProp 𝕄) ⊣⊢ iprop(tblkP0 c XW (Q 4) ∗ tRest0 c XW Q) := by
  unfold wTok tRest0
  exact pointsTo_split_subset (by rw [View.set_whole]; exact Finset.subset_univ _)
/-- What is left of row piece 1's token while the piece is lent. -/
def tRest1 : sProp 𝕄 := aW.view.loc (c : Thread nD τ) ↦[aW.view.set \ tw1.view.set]{Q 5} XW
omit [FloatOps F] in
theorem tail_lend1 : (wTok c XW Q 5 : sProp 𝕄) ⊣⊢ iprop(tblkP1 c XW (Q 5) ∗ tRest1 c XW Q) := by
  unfold wTok tRest1
  exact pointsTo_split_subset (by rw [View.set_whole]; exact Finset.subset_univ _)
/-- What is left of row piece 2's token while the piece is lent. -/
def tRest2 : sProp 𝕄 := aW.view.loc (c : Thread nD τ) ↦[aW.view.set \ tw2.view.set]{Q 6} XW
omit [FloatOps F] in
theorem tail_lend2 : (wTok c XW Q 6 : sProp 𝕄) ⊣⊢ iprop(tblkP2 c XW (Q 6) ∗ tRest2 c XW Q) := by
  unfold wTok tRest2
  exact pointsTo_split_subset (by rw [View.set_whole]; exact Finset.subset_univ _)
/-- What is left of row piece 3's token while the piece is lent. -/
def tRest3 : sProp 𝕄 := aW.view.loc (c : Thread nD τ) ↦[aW.view.set \ tw3.view.set]{Q 7} XW
omit [FloatOps F] in
theorem tail_lend3 : (wTok c XW Q 7 : sProp 𝕄) ⊣⊢ iprop(tblkP3 c XW (Q 7) ∗ tRest3 c XW Q) := by
  unfold wTok tRest3
  exact pointsTo_split_subset (by rw [View.set_whole]; exact Finset.subset_univ _)
/-- What is left of row piece 4's token while the piece is lent. -/
def tRest4 : sProp 𝕄 := aW.view.loc (c : Thread nD τ) ↦[aW.view.set \ tw4.view.set]{Q 8} XW
omit [FloatOps F] in
theorem tail_lend4 : (wTok c XW Q 8 : sProp 𝕄) ⊣⊢ iprop(tblkP4 c XW (Q 8) ∗ tRest4 c XW Q) := by
  unfold wTok tRest4
  exact pointsTo_split_subset (by rw [View.set_whole]; exact Finset.subset_univ _)

/-- A free slot, with its cell at zero and its token home. -/
def FreeP (s : Fin 4) : sProp 𝕄 := iprop((∃ f, slotP c s f) ∗ cellP c s ∗ wTok c XW Q (tokS s))
/-- Block `p` on its way into its slot. -/
def FlyP (p : ℕ) : sProp 𝕄 :=
  iprop((∃ f, flightP c XW (Q (tokS (Ring.sl 4 p))) (Ring.sl 4 p) (Ring.bk 62 p) f) ∗ wRest c XW Q (tokS (Ring.sl 4 p)) (Ring.bk 62 p))
/-- The tail cells at zero with their tokens home. -/
def TailFree : sProp 𝕄 := iprop((tcellP0 c ∗ wTok c XW Q 4) ∗ (tcellP1 c ∗ wTok c XW Q 5) ∗ (tcellP2 c ∗ wTok c XW Q 6) ∗ (tcellP3 c ∗ wTok c XW Q 7) ∗ (tcellP4 c ∗ wTok c XW Q 8))
/-- The five row pieces of the last block on their way, slot 2's own cell and token idle. -/
def TailFly : sProp 𝕄 := iprop(((∃ f, tflightP0 c XW (Q 4) f) ∗ tRest0 c XW Q) ∗ ((∃ f, tflightP1 c XW (Q 5) f) ∗ tRest1 c XW Q) ∗ ((∃ f, tflightP2 c XW (Q 6) f) ∗ tRest2 c XW Q) ∗ ((∃ f, tflightP3 c XW (Q 7) f) ∗ tRest3 c XW Q) ∗ ((∃ f, tflightP4 c XW (Q 8) f) ∗ tRest4 c XW Q) ∗ cellP c 2 ∗ wTok c XW Q 2)
/-- What is held for block `p`: on its way, the last block's pieces on their way, or (no such block) its slot free. -/
def RoleP (p : ℕ) : sProp 𝕄 := if p < 62 then FlyP c XW Q p else if p = 62 then TailFly c XW Q else FreeP c XW Q (Ring.sl 4 p)
theorem RoleP_fly {p : ℕ} (h : p < 62) : RoleP (F := F) c XW Q p = FlyP c XW Q p := if_pos h
theorem RoleP_tail : RoleP (F := F) c XW Q 62 = TailFly c XW Q := rfl
theorem RoleP_free {p : ℕ} (h : 62 < p) : RoleP (F := F) c XW Q p = FreeP c XW Q (Ring.sl 4 p) := by
  rw [RoleP, if_neg (by omega), if_neg (by omega)]
/-- The tail cells, while the last block has not been sent off. -/
def TailP (k : ℕ) : sProp 𝕄 := if k ≤ 58 then TailFree c XW Q else iprop(emp)
theorem TailP_le {k : ℕ} (h : k ≤ 58) : TailP (F := F) c XW Q k = TailFree c XW Q := if_pos h
theorem TailP_gt {k : ℕ} (h : 58 < k) : TailP (F := F) c XW Q k = iprop(emp) := if_neg (by omega)

variable (v27 : IVec S8x128 32) (v173 : IVec S40x128 32)
  (fa : BufOf F c bXq) (fw : BufOf F c bWords) (fs : BufOf F c bXsb) (fws : BufOf F c bWs) (fcid : BufOf F c bCid)
  (raw : ℕ → FVec F S8x512 .f32) (st0 : St F)

/-- Before trip `k`: the product of block `k` in hand, blocks `k + 1 .. k + 3` on their way. -/
def InvP (k : ℕ) (acc : FVec F S8x512 .f32) : sProp 𝕄 :=
  iprop(⌜∀ p, p < 62 → rawV c XW fa p = raw p⌝ ∗ ⌜acc = raw k⌝ ∗ RoleP c XW Q (k + 1) ∗ RoleP c XW Q (k + 2) ∗ RoleP c XW Q (k + 3) ∗ FreeP c XW Q (Ring.sl 4 (k + 4)) ∗ TailP c XW Q k
    ∗ FixP c fa fw fs fws fcid ∗ AccP c v27 v173 fw fs fws fcid raw st0 k ∗ (∃ W, owes (c : Thread nD τ) 0 W))

theorem sl_wrap (k : ℕ) : Ring.sl 4 (k + 1 + 4) = Ring.sl 4 (k + 1) := Fin.ext (by rw [sl_off, sl_off]; omega)
theorem sl_62 : Ring.sl 4 62 = 2 := Fin.ext (by rw [sl_off]; rfl)

theorem stepA (v1491 : FVec F S8x512 .f32) (k : Fin k0_t1_loop.trips) (hk : k.val + 4 < 62) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  have hlt := trip_lt k
  unfold InvP
  rw [RoleP_fly c XW Q (show k.val + 1 < 62 by omega), sl_wrap, show k.val + 1 + 1 = k.val + 2 from rfl, show k.val + 1 + 2 = k.val + 3 from rfl,
    show k.val + 1 + 3 = k.val + 4 from rfl]
  rw [RoleP_fly c XW Q (show k.val + 4 < 62 by omega), TailP_le c XW Q (show k.val ≤ 58 by omega), TailP_le c XW Q (show k.val + 1 ≤ 58 by omega)]
  unfold FlyP FreeP
  iintro ⟨%hraw, %hacc, ⟨⟨%f0, HF⟩, HFr⟩, HR2, HR3, ⟨⟨%f1, HS⟩, HC, HT⟩, HTail, HFix, HAcc, HW⟩
  ihave HTs := (blk_lend c XW Q (tokS (Ring.sl 4 (k.val + 4))) (Ring.bk 62 (k.val + 4))).1 $$ HT
  icases HTs with ⟨HB, HBr⟩
  iapply (wp_wand_r Idealize.ShloMosaic.frame (wpE (defs₀ (F := F)) 𝒱₀ (c : Thread nD τ) none) Set.univ)
  isplitl [HF HFix HAcc HW HS HC HB]
  · iapply (tripA c XW v27 v173 fa fw fs fws fcid raw st0 v1491 1#32 k acc hk rfl hacc (hraw _ (by omega)) _ (Q (tokS (Ring.sl 4 (k.val + 4)))) f0 f1)
    isplitl [HF]; · iexact HF
    isplitl [HS]; · iexact HS
    isplitl [HC]; · iexact HC
    isplitl [HB]; · iexact HB
    isplitl [HFix]; · iexact HFix
    isplitl [HAcc]; · iexact HAcc
    iexact HW
  iintro %y ⟨%hy, HS1, HC1, HB1, HF4, HFix', HAcc', HW'⟩
  isplitr; · ipureintro; exact hraw
  isplitr; · ipureintro; exact hy
  isplitl [HR2]; · iexact HR2
  isplitl [HR3]; · iexact HR3
  isplitl [HF4 HBr]
  · isplitl [HF4]; · iexact HF4
    iexact HBr
  isplitl [HS1 HC1 HB1 HFr]
  · isplitl [HS1]; · iexact HS1
    isplitl [HC1]; · iexact HC1
    iapply (blk_lend c XW Q (tokS (Ring.sl 4 (k.val + 1))) (Ring.bk 62 (k.val + 1))).2
    isplitl [HB1]; · iexact HB1
    iexact HFr
  isplitl [HTail]; · iexact HTail
  isplitl [HFix']; · iexact HFix'
  isplitl [HAcc']; · iexact HAcc'
  iexact HW'

theorem stepT (v1491 : FVec F S8x512 .f32) (k : Fin k0_t1_loop.trips) (hk : k.val + 4 = 62) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  have hlt := trip_lt k
  unfold InvP
  rw [RoleP_fly c XW Q (show k.val + 1 < 62 by omega), sl_wrap, show k.val + 1 + 1 = k.val + 2 from rfl, show k.val + 1 + 2 = k.val + 3 from rfl,
    show k.val + 1 + 3 = k.val + 4 from rfl]
  rw [hk, RoleP_tail, TailP_le c XW Q (show k.val ≤ 58 by omega), TailP_gt c XW Q (show 58 < k.val + 1 by omega), sl_62]
  unfold TailFree TailFly
  unfold FlyP FreeP
  iintro ⟨%hraw, %hacc, ⟨⟨%f0, HF⟩, HFr⟩, HR2, HR3, ⟨⟨%f1, HS⟩, HC, HT⟩, HTail, HFix, HAcc, HW⟩
  ihave HSs := (slot2_split c f1) $$ HS
  icases HSs with ⟨HS0, HS1, HS2, HS3, HS4⟩
  icases HTail with ⟨⟨HC0, HT0⟩, ⟨HC1, HT1⟩, ⟨HC2, HT2⟩, ⟨HC3, HT3⟩, ⟨HC4, HT4⟩⟩
  ihave HTs0 := (tail_lend0 c XW Q).1 $$ HT0
  icases HTs0 with ⟨HB0, HBr0⟩
  ihave HTs1 := (tail_lend1 c XW Q).1 $$ HT1
  icases HTs1 with ⟨HB1, HBr1⟩
  ihave HTs2 := (tail_lend2 c XW Q).1 $$ HT2
  icases HTs2 with ⟨HB2, HBr2⟩
  ihave HTs3 := (tail_lend3 c XW Q).1 $$ HT3
  icases HTs3 with ⟨HB3, HBr3⟩
  ihave HTs4 := (tail_lend4 c XW Q).1 $$ HT4
  icases HTs4 with ⟨HB4, HBr4⟩
  iapply (wp_wand_r Idealize.ShloMosaic.frame (wpE (defs₀ (F := F)) 𝒱₀ (c : Thread nD τ) none) Set.univ)
  isplitl [HF HFix HAcc HW HS0 HC0 HB0 HS1 HC1 HB1 HS2 HC2 HB2 HS3 HC3 HB3 HS4 HC4 HB4]
  · iapply (tripT c XW v27 v173 fa fw fs fws fcid raw st0 v1491 1#32 k acc hk rfl hacc (hraw _ (by omega)) _ fullShare f0 (fun j => Q (j.natAdd 4)) f1 f1 f1 f1 f1)
    isplitl [HF]; · iexact HF
    isplitl [HS0]; · iexact HS0
    isplitl [HC0]; · iexact HC0
    isplitl [HB0]; · iexact HB0
    isplitl [HS1]; · iexact HS1
    isplitl [HC1]; · iexact HC1
    isplitl [HB1]; · iexact HB1
    isplitl [HS2]; · iexact HS2
    isplitl [HC2]; · iexact HC2
    isplitl [HB2]; · iexact HB2
    isplitl [HS3]; · iexact HS3
    isplitl [HC3]; · iexact HC3
    isplitl [HB3]; · iexact HB3
    isplitl [HS4]; · iexact HS4
    isplitl [HC4]; · iexact HC4
    isplitl [HB4]; · iexact HB4
    isplitl [HFix]; · iexact HFix
    isplitl [HAcc]; · iexact HAcc
    iexact HW
  iintro %y ⟨%hy, HSx, HCx, HBx, HF0, HF1, HF2, HF3, HF4, HFix', HAcc', HW'⟩
  isplitr; · ipureintro; exact hraw
  isplitr; · ipureintro; exact hy
  isplitl [HR2]; · iexact HR2
  isplitl [HR3]; · iexact HR3
  isplitl [HF0 HBr0 HF1 HBr1 HF2 HBr2 HF3 HBr3 HF4 HBr4 HC HT]
  · isplitl [HF0 HBr0]
    · isplitl [HF0]; · iexact HF0
      iexact HBr0
    isplitl [HF1 HBr1]
    · isplitl [HF1]; · iexact HF1
      iexact HBr1
    isplitl [HF2 HBr2]
    · isplitl [HF2]; · iexact HF2
      iexact HBr2
    isplitl [HF3 HBr3]
    · isplitl [HF3]; · iexact HF3
      iexact HBr3
    isplitl [HF4 HBr4]
    · isplitl [HF4]; · iexact HF4
      iexact HBr4
    isplitl [HC]; · iexact HC
    iexact HT
  isplitl [HSx HCx HBx HFr]
  · isplitl [HSx]; · iexact HSx
    isplitl [HCx]; · iexact HCx
    iapply (blk_lend c XW Q (tokS (Ring.sl 4 (k.val + 1))) (Ring.bk 62 (k.val + 1))).2
    isplitl [HBx]; · iexact HBx
    iexact HFr
  isplitr; · iempintro
  isplitl [HFix']; · iexact HFix'
  isplitl [HAcc']; · iexact HAcc'
  iexact HW'

theorem stepE (v1491 : FVec F S8x512 .f32) (k : Fin k0_t1_loop.trips) (hk : 62 < k.val + 4) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  have hlt := trip_lt k
  unfold InvP
  rw [RoleP_fly c XW Q (show k.val + 1 < 62 by omega), sl_wrap, show k.val + 1 + 1 = k.val + 2 from rfl, show k.val + 1 + 2 = k.val + 3 from rfl,
    show k.val + 1 + 3 = k.val + 4 from rfl]
  rw [RoleP_free c XW Q hk, TailP_gt c XW Q (show 58 < k.val by omega), TailP_gt c XW Q (show 58 < k.val + 1 by omega)]
  unfold FlyP FreeP
  iintro ⟨%hraw, %hacc, ⟨⟨%f0, HF⟩, HFr⟩, HR2, HR3, ⟨⟨%f1, HS⟩, HC, HT⟩, HTail, HFix, HAcc, HW⟩
  iapply (wp_wand_r Idealize.ShloMosaic.frame (wpE (defs₀ (F := F)) 𝒱₀ (c : Thread nD τ) none) Set.univ)
  isplitl [HF HFix HAcc HW ]
  · iapply (tripE c XW v27 v173 fa fw fs fws fcid raw st0 v1491 1#32 k acc hk rfl hacc (hraw _ (by omega)) _ fullShare f0)
    isplitl [HF]; · iexact HF
    isplitl [HFix]; · iexact HFix
    isplitl [HAcc]; · iexact HAcc
    iexact HW
  iintro %y ⟨%hy, HS1, HC1, HB1, HFix', HAcc', HW'⟩
  isplitr; · ipureintro; exact hraw
  isplitr; · ipureintro; exact hy
  isplitl [HR2]; · iexact HR2
  isplitl [HR3]; · iexact HR3
  isplitl [HS HC HT]
  · isplitl [HS]; · iexists f1; iexact HS
    isplitl [HC]; · iexact HC
    iexact HT
  isplitl [HS1 HC1 HB1 HFr]
  · isplitl [HS1]; · iexact HS1
    isplitl [HC1]; · iexact HC1
    iapply (blk_lend c XW Q (tokS (Ring.sl 4 (k.val + 1))) (Ring.bk 62 (k.val + 1))).2
    isplitl [HB1]; · iexact HB1
    iexact HFr
  isplitl [HTail]; · iexact HTail
  isplitl [HFix']; · iexact HFix'
  isplitl [HAcc']; · iexact HAcc'
  iexact HW'

set_option maxHeartbeats 4000000 in
theorem stepAll (v1491 : FVec F S8x512 .f32) (k : Fin k0_t1_loop.trips) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  rcases Nat.lt_trichotomy (k.val + 4) 62 with h | h | h
  · exact stepA c XW Q v27 v173 fa fw fs fws fcid raw st0 v1491 k h acc
  · exact stepT c XW Q v27 v173 fa fw fs fws fcid raw st0 v1491 k h acc
  · exact stepE c XW Q v27 v173 fa fw fs fws fcid raw st0 v1491 k h acc

set_option maxHeartbeats 4000000 in
set_option warn.classDefReducibility false in
/-- The loop's invariant, for the run to find. -/
@[sl_loop] def loopInv1 (c1 : BitVec 32) (hc : c1 = 1#32) (v1491 : FVec F S8x512 .f32) :
    LoopInvTy_k0_t1 (F := F) Unit ℕ (Pipeline.UD sig nD τ) ℕ 𝒱₀ c none Set.univ aX (Memref.isWhole_whole _) aW (Memref.isWhole_whole _) aWs (Memref.isWhole_whole _) aBm (Memref.isWhole_whole _)
    aId (Memref.isWhole_whole _) oMl (Memref.isWhole_whole _) oLse (Memref.isWhole_whole _) oClp (Memref.isWhole_whole _)
    oXc (Memref.isWhole_whole _) oXs (Memref.isWhole_whole _) bRing (Memref.isWhole_whole _) bX (Memref.isWhole_whole _)
    bWs (Memref.isWhole_whole _) bBm (Memref.isWhole_whole _) bId (Memref.isWhole_whole _) bMl (Memref.isWhole_whole _)
    bLse (Memref.isWhole_whole _) bClp (Memref.isWhole_whole _) bXc (Memref.isWhole_whole _) bXs (Memref.isWhole_whole _)
    bXf (Memref.isWhole_whole _) bXq (Memref.isWhole_whole _) bWords (Memref.isWhole_whole _) bCid (Memref.isWhole_whole _)
    bCok (Memref.isWhole_whole _) bCacc (Memref.isWhole_whole _) bXsb (Memref.isWhole_whole _) bM (Memref.isWhole_whole _)
    bS (Memref.isWhole_whole _) cc0_scratch19 cc0_scratch20 cc0_scratch21 cc0_scratch22 cc0_scratch23 v27 v173 v1491 c1 v1491 where
  inv k acc := InvP c XW Q v27 v173 fa fw fs fws fcid raw st0 k acc
  step k acc := by
    subst hc
    iintro H
    iapply (stepAll c XW Q v27 v173 fa fw fs fws fcid raw st0 v1491 k acc)
    iexact H

end

end Cert.Kernel.Hand

end
-- ==== Proof.K.Body.lean ====
/-
  The kernel's body, run: the code before the loop, the loop, the last two blocks, the copies out.
-/
module

public import proofs.«01_k».proof.Proof.K.Loop

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The cells of the single copies -/

def cX : DmaSems sig S_ := cc0_scratch21
def cS0 : DmaSems sig S_ := (cc0_scratch22.slice (Rect.unit (s := S3) ![0] S1.size inb_S3_S1_0)).squeeze S_ squeezes_S1_S_
@[sl_canon] theorem cSL0 (hh) : (cc0_scratch22.slice (Rect.unit (s := S3) ![0] S1.size hh)).squeeze S_ squeezes_S1_S_ = cS0 := rfl
def cS1 : DmaSems sig S_ := (cc0_scratch22.slice (Rect.unit (s := S3) ![1] S1.size inb_S3_S1_1)).squeeze S_ squeezes_S1_S_
@[sl_canon] theorem cSL1 (hh) : (cc0_scratch22.slice (Rect.unit (s := S3) ![1] S1.size hh)).squeeze S_ squeezes_S1_S_ = cS1 := rfl
def cS2 : DmaSems sig S_ := (cc0_scratch22.slice (Rect.unit (s := S3) ![2] S1.size inb_S3_S1_2)).squeeze S_ squeezes_S1_S_
@[sl_canon] theorem cSL2 (hh) : (cc0_scratch22.slice (Rect.unit (s := S3) ![2] S1.size hh)).squeeze S_ squeezes_S1_S_ = cS2 := rfl
def cO0 : DmaSems sig S_ := (cc0_scratch23.slice (Rect.unit (s := S5) ![0] S1.size inb_S5_S1_0)).squeeze S_ squeezes_S1_S_
@[sl_canon] theorem cOL0 (hh) : (cc0_scratch23.slice (Rect.unit (s := S5) ![0] S1.size hh)).squeeze S_ squeezes_S1_S_ = cO0 := rfl
def cO1 : DmaSems sig S_ := (cc0_scratch23.slice (Rect.unit (s := S5) ![1] S1.size inb_S5_S1_1)).squeeze S_ squeezes_S1_S_
@[sl_canon] theorem cOL1 (hh) : (cc0_scratch23.slice (Rect.unit (s := S5) ![1] S1.size hh)).squeeze S_ squeezes_S1_S_ = cO1 := rfl
def cO2 : DmaSems sig S_ := (cc0_scratch23.slice (Rect.unit (s := S5) ![2] S1.size inb_S5_S1_2)).squeeze S_ squeezes_S1_S_
@[sl_canon] theorem cOL2 (hh) : (cc0_scratch23.slice (Rect.unit (s := S5) ![2] S1.size hh)).squeeze S_ squeezes_S1_S_ = cO2 := rfl
def cO3 : DmaSems sig S_ := (cc0_scratch23.slice (Rect.unit (s := S5) ![3] S1.size inb_S5_S1_3)).squeeze S_ squeezes_S1_S_
@[sl_canon] theorem cOL3 (hh) : (cc0_scratch23.slice (Rect.unit (s := S5) ![3] S1.size hh)).squeeze S_ squeezes_S1_S_ = cO3 := rfl
def cO4 : DmaSems sig S_ := (cc0_scratch23.slice (Rect.unit (s := S5) ![4] S1.size inb_S5_S1_4)).squeeze S_ squeezes_S1_S_
@[sl_canon] theorem cOL4 (hh) : (cc0_scratch23.slice (Rect.unit (s := S5) ![4] S1.size hh)).squeeze S_ squeezes_S1_S_ = cO4 := rfl

abbrev cellD (c : Dev nD) (s : DmaSems sig S_) : sProp 𝕄 := semVal ((c : Thread nD τ), SemLoc.dma s.sem) 0

section
variable (c : Dev nD) (XW : BufOf F c aW) (Q : Fin 9 → PosShare TreeShare)
  (xX : BufOf F c aX) (xWs : BufOf F c aWs) (xBm : BufOf F c aBm) (xId : BufOf F c aId)

/-- The product of the last block, its five row pieces added up from zero. -/
def rawLast (fa : BufOf F c bXq) : FVec F S8x512 .f32 :=
  k0_pay243 (k0_pay242 (k0_pay183 (bXq.view.readAt (Elt F) (Rect.unit (s := S32x7168) ![0, 0] S32x3072.size inb_S32x7168_S32x3072_0_0).toLoadRect fa) (shapeCast S1x3072x512 (tpay0 c XW) (by decide)))
    (bXq.view.readAt (Elt F) (Rect.unit (s := S32x7168) ![0, 3072] S32x2048.size inb_S32x7168_S32x2048_0_3072).toLoadRect fa) (shapeCast S1x2048x512 (tpay1 c XW) (by decide)))
    (bXq.view.readAt (Elt F) (Rect.unit (s := S32x7168) ![0, 5120] S32x1280.size inb_S32x7168_S32x1280_0_5120).toLoadRect fa) (shapeCast S1x1280x512 (tpay2 c XW) (by decide))
    (bXq.view.readAt (Elt F) (Rect.unit (s := S32x7168) ![0, 6400] S32x512.size inb_S32x7168_S32x512_0_6400).toLoadRect fa) (shapeCast S1x512x512 (tpay3 c XW) (by decide))
    (bXq.view.readAt (Elt F) (Rect.unit (s := S32x7168) ![0, 6912] S32x256.size inb_S32x7168_S32x256_0_6912).toLoadRect fa) (shapeCast S1x256x512 (tpay4 c XW) (by decide))
/-- The product of every block. -/
def rawAll (fa : BufOf F c bXq) (p : ℕ) : FVec F S8x512 .f32 := if p < 62 then rawV c XW fa p else rawLast c XW fa
/-- The running state that three buffers hold. -/
def st0Of (fm : BufOf F c bM) (fs : BufOf F c bS) (fca : BufOf F c bCacc) : St F :=
  ⟨rdM c fm, rdS c fs, rdCacc c Rc0 fca, rdCacc c Rc1 fca, rdCacc c Rc2 fca⟩

/-- What the loop leaves: the last block's pieces on their way into slot 2, the other slots free. -/
theorem InvExit (v27 : IVec S8x128 32) (v173 : IVec S40x128 32)
  (fa : BufOf F c bXq) (fw : BufOf F c bWords) (fs : BufOf F c bXsb) (fws : BufOf F c bWs) (fcid : BufOf F c bCid)
  (raw : ℕ → FVec F S8x512 .f32) (st0 : St F) (acc : FVec F S8x512 .f32) :
    (InvP c XW Q v27 v173 fa fw fs fws fcid raw st0 k0_t1_loop.trips acc : sProp 𝕄)
      ⊢ iprop(⌜acc = raw 61⌝ ∗ TailFly c XW Q ∗ FreeP c XW Q 3 ∗ FreeP c XW Q 0 ∗ FreeP c XW Q 1
        ∗ FixP c fa fw fs fws fcid ∗ AccP c v27 v173 fw fs fws fcid raw st0 61 ∗ (∃ W, owes (c : Thread nD τ) 0 W)) := by
  rw [trips_eq]
  unfold InvP
  rw [show 61 + 1 = 62 from rfl, RoleP_tail, RoleP_free c XW Q (show 62 < 61 + 2 by omega), RoleP_free c XW Q (show 62 < 61 + 3 by omega),
    show Ring.sl 4 (61 + 2) = 3 from rfl, show Ring.sl 4 (61 + 3) = 0 from rfl, show Ring.sl 4 (61 + 4) = 1 from rfl]
  iintro ⟨-, H1, H2, H3, H4, H5, -, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

abbrev bodyG : Prog (TpuEff nD τ sig (Elt F) Λ₀ .tc) PUnit :=
  cc0__body (F := F) aX (Memref.isWhole_whole _) aW (Memref.isWhole_whole _) aWs (Memref.isWhole_whole _) aBm (Memref.isWhole_whole _)
    aId (Memref.isWhole_whole _) oMl (Memref.isWhole_whole _) oLse (Memref.isWhole_whole _) oClp (Memref.isWhole_whole _)
    oXc (Memref.isWhole_whole _) oXs (Memref.isWhole_whole _) bRing (Memref.isWhole_whole _) bX (Memref.isWhole_whole _)
    bWs (Memref.isWhole_whole _) bBm (Memref.isWhole_whole _) bId (Memref.isWhole_whole _) bMl (Memref.isWhole_whole _)
    bLse (Memref.isWhole_whole _) bClp (Memref.isWhole_whole _) bXc (Memref.isWhole_whole _) bXs (Memref.isWhole_whole _)
    bXf (Memref.isWhole_whole _) bXq (Memref.isWhole_whole _) bWords (Memref.isWhole_whole _) bCid (Memref.isWhole_whole _)
    bCok (Memref.isWhole_whole _) bCacc (Memref.isWhole_whole _) bXsb (Memref.isWhole_whole _) bM (Memref.isWhole_whole _)
    bS (Memref.isWhole_whole _) cc0_scratch19 cc0_scratch20 cc0_scratch21 cc0_scratch22 cc0_scratch23

def FactMl (c : Dev nD) (f : BufOf F c oMl) : Prop := True
def FactLse (c : Dev nD) (f : BufOf F c oLse) : Prop := True
def FactClp (c : Dev nD) (f : BufOf F c oClp) : Prop := True
def FactXc (c : Dev nD) (f : BufOf F c oXc) : Prop := True
def FactXs (c : Dev nD) (f : BufOf F c oXs) : Prop := True
/-- What the body is handed: the operands, every buffer at anything, every cell at zero, nine read tokens of the weight codes. -/
def bodyPre : sProp 𝕄 := iprop(pt c aX xX ∗ pt c aWs xWs ∗ pt c aBm xBm ∗ pt c aId xId
      ∗ (∃ f, pt c oMl f) ∗ (∃ f, pt c oLse f) ∗ (∃ f, pt c oClp f) ∗ (∃ f, pt c oXc f) ∗ (∃ f, pt c oXs f) ∗ (∃ f, pt c bX f) ∗ (∃ f, pt c bWs f) ∗ (∃ f, pt c bBm f) ∗ (∃ f, pt c bId f) ∗ (∃ f, pt c bMl f) ∗ (∃ f, pt c bLse f) ∗ (∃ f, pt c bClp f) ∗ (∃ f, pt c bXc f) ∗ (∃ f, pt c bXs f) ∗ (∃ f, pt c bXf f) ∗ (∃ f, pt c bXq f) ∗ (∃ f, pt c bWords f) ∗ (∃ f, pt c bCid f) ∗ (∃ f, pt c bCok f) ∗ (∃ f, pt c bCacc f) ∗ (∃ f, pt c bXsb f) ∗ (∃ f, pt c bM f) ∗ (∃ f, pt c bS f)
      ∗ cellD c cX ∗ cellD c cS0 ∗ cellD c cS1 ∗ cellD c cS2 ∗ cellD c cO0 ∗ cellD c cO1 ∗ cellD c cO2 ∗ cellD c cO3 ∗ cellD c cO4
      ∗ (∃ f, slotP c 0 f) ∗ (∃ f, slotP c 1 f) ∗ (∃ f, slotP c 2 f) ∗ (∃ f, slotP c 3 f) ∗ cellP c 0 ∗ cellP c 1 ∗ cellP c 2 ∗ cellP c 3
      ∗ wTok c XW Q 0 ∗ wTok c XW Q 1 ∗ wTok c XW Q 2 ∗ wTok c XW Q 3
      ∗ TailFree c XW Q ∗ (∃ W, owes (c : Thread nD τ) 0 W))
/-- What it hands back: the same, the results holding what they should. -/
def bodyPost : sProp 𝕄 := iprop(pt c aX xX ∗ pt c aWs xWs ∗ pt c aBm xBm ∗ pt c aId xId
      ∗ (∃ f, ⌜FactMl c f⌝ ∗ pt c oMl f) ∗ (∃ f, ⌜FactLse c f⌝ ∗ pt c oLse f) ∗ (∃ f, ⌜FactClp c f⌝ ∗ pt c oClp f) ∗ (∃ f, ⌜FactXc c f⌝ ∗ pt c oXc f) ∗ (∃ f, ⌜FactXs c f⌝ ∗ pt c oXs f)
      ∗ (∃ f, pt c bX f) ∗ (∃ f, pt c bWs f) ∗ (∃ f, pt c bBm f) ∗ (∃ f, pt c bId f) ∗ (∃ f, pt c bMl f) ∗ (∃ f, pt c bLse f) ∗ (∃ f, pt c bClp f) ∗ (∃ f, pt c bXc f) ∗ (∃ f, pt c bXs f) ∗ (∃ f, pt c bXf f) ∗ (∃ f, pt c bXq f) ∗ (∃ f, pt c bWords f) ∗ (∃ f, pt c bCid f) ∗ (∃ f, pt c bCok f) ∗ (∃ f, pt c bCacc f) ∗ (∃ f, pt c bXsb f) ∗ (∃ f, pt c bM f) ∗ (∃ f, pt c bS f)
      ∗ cellD c cX ∗ cellD c cS0 ∗ cellD c cS1 ∗ cellD c cS2 ∗ cellD c cO0 ∗ cellD c cO1 ∗ cellD c cO2 ∗ cellD c cO3 ∗ cellD c cO4
      ∗ (∃ f, slotP c 0 f) ∗ (∃ f, slotP c 1 f) ∗ (∃ f, slotP c 2 f) ∗ (∃ f, slotP c 3 f) ∗ cellP c 0 ∗ cellP c 1 ∗ cellP c 2 ∗ cellP c 3
      ∗ wTok c XW Q 0 ∗ wTok c XW Q 1 ∗ wTok c XW Q 2 ∗ wTok c XW Q 3
      ∗ TailFree c XW Q ∗ (∃ W, owes (c : Thread nD τ) 0 W))

set_option maxHeartbeats 8000000 in
theorem bodyRun (K : PUnit → sProp 𝕄) :
    (iprop(bodyPre c XW Q xX xWs xBm xId ∗ (bodyPost c XW Q xX xWs xBm xId -∗ K ⟨⟩)) : sProp 𝕄)
      ⊢ wp frame (wpE (defs₀ (F := F)) 𝒱₀ (c : Thread nD τ) none) Set.univ (bodyG (F := F)) K := by
  unfold bodyPre bodyPost
  iintro ⟨⟨HaX, HaWs, HaBm, HaId, ⟨%foMl, HoMl⟩, ⟨%foLse, HoLse⟩, ⟨%foClp, HoClp⟩, ⟨%foXc, HoXc⟩, ⟨%foXs, HoXs⟩, ⟨%fbX, HbX⟩, ⟨%fbWs, HbWs⟩, ⟨%fbBm, HbBm⟩, ⟨%fbId, HbId⟩, ⟨%fbMl, HbMl⟩, ⟨%fbLse, HbLse⟩, ⟨%fbClp, HbClp⟩, ⟨%fbXc, HbXc⟩, ⟨%fbXs, HbXs⟩, ⟨%fbXf, HbXf⟩, ⟨%fbXq, HbXq⟩, ⟨%fbWords, HbWords⟩, ⟨%fbCid, HbCid⟩, ⟨%fbCok, HbCok⟩, ⟨%fbCacc, HbCacc⟩, ⟨%fbXsb, HbXsb⟩, ⟨%fbM, HbM⟩, ⟨%fbS, HbS⟩, HcX, HcS0, HcS1, HcS2, HcO0, HcO1, HcO2, HcO3, HcO4, ⟨%fs0, Hsl0⟩, ⟨%fs1, Hsl1⟩, ⟨%fs2, Hsl2⟩, ⟨%fs3, Hsl3⟩, Hce0, Hce1, Hce2, Hce3, Htk0, Htk1, Htk2, Htk3, HTail, ⟨%W, HW⟩⟩, HK⟩
  ihave Hl0 := (blk_lend c XW Q 0 0).1 $$ Htk0
  icases Hl0 with ⟨Hbl0, Hbr0⟩
  ihave Hl1 := (blk_lend c XW Q 1 1).1 $$ Htk1
  icases Hl1 with ⟨Hbl1, Hbr1⟩
  ihave Hl2 := (blk_lend c XW Q 2 2).1 $$ Htk2
  icases Hl2 with ⟨Hbl2, Hbr2⟩
  ihave Hl3 := (blk_lend c XW Q 3 3).1 $$ Htk3
  icases Hl3 with ⟨Hbl3, Hbr3⟩
  dsimp only [bodyG]
  simp only [cc0__body_eq_skeleton]
  sl_unfold [cc0__body_skel]
  sl_exec
  ihave HT0 := (blk_lend c XW Q 0 0).2 $$ [Hbl0 Hbr0]
  · isplitl [Hbl0]; · iexact Hbl0
    iexact Hbr0
  sl_for (InvP c XW Q bodyRun.sl.v27 bodyRun.sl.v173 (bXq.view.writes (Elt F) bXq.view.junk (bodyRun.sl.HbXq_1 c xX)) (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3))) $$ [HbXq HbWords HbXsb HbWs HbCid HbMl HbM HbS HbCacc Hsl0 Hce0 HT0 Hce1 Hbr1 Hce2 Hbr2 Hce3 Hbr3 HTail HW]
  · intro k acc; exact (loopInv1 c XW Q bodyRun.sl.v27 bodyRun.sl.v173 _ _ _ _ _ _ _ 1#32 rfl (bodyRun.sl.r_15 c XW xX)).step k acc
  · unfold InvP
    isplitr
    swap
    isplitr
    swap
    isplitl [Hce1 Hbr1]
    · rw [RoleP_fly c XW Q (show 0 + 1 < 62 by omega)]
      unfold FlyP
      isplitl [Hce1]
      · iexists fs1; iexact Hce1
      iexact Hbr1
    isplitl [Hce2 Hbr2]
    · rw [RoleP_fly c XW Q (show 0 + 2 < 62 by omega)]
      unfold FlyP
      isplitl [Hce2]
      · iexists fs2; iexact Hce2
      iexact Hbr2
    isplitl [Hce3 Hbr3]
    · rw [RoleP_fly c XW Q (show 0 + 3 < 62 by omega)]
      unfold FlyP
      isplitl [Hce3]
      · iexists fs3; iexact Hce3
      iexact Hbr3
    isplitl [Hsl0 Hce0 HT0]
    · unfold FreeP
      isplitl [Hsl0]; · iexists _; iexact Hsl0
      isplitl [Hce0]; · iexact Hce0
      iexact HT0
    isplitl [HTail]
    · rw [TailP_le c XW Q (show 0 ≤ 58 by omega)]; iexact HTail
    isplitl [HbXq HbWords HbXsb HbWs HbCid]
    · isplitl [HbXq]; · iexact HbXq
      isplitl [HbWords]; · iexact HbWords
      isplitl [HbXsb]; · iexact HbXsb
      isplitl [HbWs]; · iexact HbWs
      iexact HbCid
    isplitl [HbMl HbM HbS HbCacc]
    · isplitl [HbMl]
      · iexists fbMl; isplitr
        · ipureintro; intro b p hp j h; omega
        · iexact HbMl
      isplitl [HbM]
      · iexists _; isplitr; swap; · iexact HbM
        ipureintro; exact rfl
      isplitl [HbS]
      · iexists _; isplitr; swap; · iexact HbS
        ipureintro; exact rfl
      · iexists _; isplitr; swap; · iexact HbCacc
        ipureintro; exact ⟨rfl, rfl, rfl⟩
    iexists _; iexact HW
    · ipureintro
      refine (congrArg (dotBlk _) (slotRead c XW 0 0 _ rfl _)).trans ?_
      exact (if_pos (by omega)).symm
    · ipureintro; intro p hp; exact (if_pos hp).symm
  iintro %acc HI
  ihave HI2 := (InvExit c XW Q bodyRun.sl.v27 bodyRun.sl.v173 _ _ _ _ _ _ _ acc) $$ HI
  icases HI2 with ⟨%hacc, HTF, HF3, HF0, HF1, ⟨HbXq, HbWords, HbXsb, HbWs, HbCid⟩, ⟨⟨%fml, %hml, HbMl⟩, ⟨%fm, %hm, HbM⟩, ⟨%fss, %hs, HbS⟩, ⟨%fca, %hca, HbCacc⟩⟩, ⟨%W2, HW⟩⟩
  unfold TailFly
  icases HTF with ⟨⟨⟨%g0, HG0⟩, HR0⟩, ⟨⟨%g1, HG1⟩, HR1⟩, ⟨⟨%g2, HG2⟩, HR2⟩, ⟨⟨%g3, HG3⟩, HR3⟩, ⟨⟨%g4, HG4⟩, HR4⟩, HC2, HT2⟩
  sl_exec
  unfold FreeP
  icases HF0 with ⟨Hsl0, Hce0, Htk0⟩
  icases HF1 with ⟨Hsl1, Hce1, Htk1⟩
  icases HF3 with ⟨Hsl3, Hce3, Htk3⟩
  ihave Hsl2 := (slot2_join c) $$ [HG0_dst HG1_dst HG2_dst HG3_dst HG4_dst]
  · isplitl [HG0_dst]; · iexists _; iexact HG0_dst
    isplitl [HG1_dst]; · iexists _; iexact HG1_dst
    isplitl [HG2_dst]; · iexists _; iexact HG2_dst
    isplitl [HG3_dst]; · iexists _; iexact HG3_dst
    iexists _; iexact HG4_dst
  ihave HQ0 := (tail_lend0 c XW Q).2 $$ [HG0_src HR0]
  · isplitl [HG0_src]; · iexact HG0_src
    iexact HR0
  ihave HQ1 := (tail_lend1 c XW Q).2 $$ [HG1_src HR1]
  · isplitl [HG1_src]; · iexact HG1_src
    iexact HR1
  ihave HQ2 := (tail_lend2 c XW Q).2 $$ [HG2_src HR2]
  · isplitl [HG2_src]; · iexact HG2_src
    iexact HR2
  ihave HQ3 := (tail_lend3 c XW Q).2 $$ [HG3_src HR3]
  · isplitl [HG3_src]; · iexact HG3_src
    iexact HR3
  ihave HQ4 := (tail_lend4 c XW Q).2 $$ [HG4_src HR4]
  · isplitl [HG4_src]; · iexact HG4_src
    iexact HR4
  sl_step
  iapply HK
  isplitl [HaX]; · iexact HaX
  isplitl [HaWs]; · iexact HaWs
  isplitl [HaBm]; · iexact HaBm
  isplitl [HaId]; · iexact HaId
  isplitl [HoMl]
  · iexists _; isplitr; swap; · iexact HoMl
    ipureintro; trivial
  isplitl [HoLse]
  · iexists _; isplitr; swap; · iexact HoLse
    ipureintro; trivial
  isplitl [HoClp]
  · iexists _; isplitr; swap; · iexact HoClp
    ipureintro; trivial
  isplitl [HoXc]
  · iexists _; isplitr; swap; · iexact HoXc
    ipureintro; trivial
  isplitl [HoXs]
  · iexists _; isplitr; swap; · iexact HoXs
    ipureintro; trivial
  isplitl [HbX]; · iexists _; iexact HbX
  isplitl [HbWs]; · iexists _; iexact HbWs
  isplitl [HbBm]; · iexists _; iexact HbBm
  isplitl [HbId]; · iexists _; iexact HbId
  isplitl [HbMl]; · iexists _; iexact HbMl
  isplitl [HbLse]; · iexists _; iexact HbLse
  isplitl [HbClp]; · iexists _; iexact HbClp
  isplitl [HbXc]; · iexists _; iexact HbXc
  isplitl [HbXs]; · iexists _; iexact HbXs
  isplitl [HbXf]; · iexists _; iexact HbXf
  isplitl [HbXq]; · iexists _; iexact HbXq
  isplitl [HbWords]; · iexists _; iexact HbWords
  isplitl [HbCid]; · iexists _; iexact HbCid
  isplitl [HbCok]; · iexists _; iexact HbCok
  isplitl [HbCacc]; · iexists _; iexact HbCacc
  isplitl [HbXsb]; · iexists _; iexact HbXsb
  isplitl [HbM]; · iexists _; iexact HbM
  isplitl [HbS]; · iexists _; iexact HbS
  isplitl [HcX]; · iexact HcX
  isplitl [HcS0]; · iexact HcS0
  isplitl [HcS1]; · iexact HcS1
  isplitl [HcS2]; · iexact HcS2
  isplitl [HcO0]; · iexact HcO0
  isplitl [HcO1]; · iexact HcO1
  isplitl [HcO2]; · iexact HcO2
  isplitl [HcO3]; · iexact HcO3
  isplitl [HcO4]; · iexact HcO4
  isplitl [Hsl0]; · iexact Hsl0
  isplitl [Hsl1]; · iexact Hsl1
  isplitl [Hsl2]; · iexact Hsl2
  isplitl [Hsl3]; · iexact Hsl3
  isplitl [Hce0]; · iexact Hce0
  isplitl [Hce1]; · iexact Hce1
  isplitl [HC2]; · iexact HC2
  isplitl [Hce3]; · iexact Hce3
  isplitl [Htk0]; · iexact Htk0
  isplitl [Htk1]; · iexact Htk1
  isplitl [HT2]; · iexact HT2
  isplitl [Htk3]; · iexact Htk3
  isplitl [HG0 HQ0 HG1 HQ1 HG2 HQ2 HG3 HQ3 HG4 HQ4]
  · unfold TailFree
    isplitl [HG0 HQ0]
    · isplitl [HG0]; · iexact HG0
      iexact HQ0
    isplitl [HG1 HQ1]
    · isplitl [HG1]; · iexact HG1
      iexact HQ1
    isplitl [HG2 HQ2]
    · isplitl [HG2]; · iexact HG2
      iexact HQ2
    isplitl [HG3 HQ3]
    · isplitl [HG3]; · iexact HG3
      iexact HQ3
    isplitl [HG4]; · iexact HG4
    iexact HQ4
  iexists _; iexact HW
end

end Cert.Kernel.Hand

end
-- ==== Proof.K.Frame.lean ====
/-
  The launch: the body run under the frame of its own transfers, the arguments unchanged at the end.
-/
module

public import proofs.«01_k».proof.Proof.Gen.Kernel.Frame
public import proofs.«01_k».proof.Proof.K.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The unscoped buffers the body writes itself: the five results. -/
def R0 : Finset (Ref sig .tc) := {main_v1_0, main_v1_1, main_v1_2, main_v1_3, main_v1_4}
/-- The unscoped buffers the body's transfers read: the operands. -/
def H0 : Finset (Ref sig .tc) := {main_v0, main_arg1, main_arg2, main_arg3, main_arg4}
theorem H0_sub : H0 ⊆ Pipeline.restRefs sig (cfg0.spec) := by decide
theorem R0_sub : R0 ⊆ Pipeline.restRefs sig (cfg0.spec) \ H0 := by decide

set_option maxHeartbeats 800000 in
theorem hmain (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

/-- The body's eighteen cells. -/
abbrev osem0 : Fin 18 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 18 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3, 4, 5, 6, 7, 8, 9, 10, 11, 12, 13, 14, 15, 16, 17] (by decide) (by decide)]; rfl

abbrev hw (c : Dev nD) (b : Ref sig .tc) (f : Buf (Elt F) ((c : Thread nD τ).loc b)) : sProp 𝕄 := ((c : Thread nD τ).loc b) ↦{fullShare} f
theorem hbmPts0_eq (c : Dev nD) (Vv : (b : Ref sig .tc) → Buf (Elt F) ((c : Thread nD τ).loc b)) :
    (bigSep H0 (fun b => ((c : Thread nD τ).loc b) ↦{fullShare} Vv b) : sProp 𝕄)
      = iprop(hw c main_v0 (Vv main_v0) ∗ hw c main_arg1 (Vv main_arg1) ∗ hw c main_arg2 (Vv main_arg2) ∗ hw c main_arg3 (Vv main_arg3) ∗ hw c main_arg4 (Vv main_arg4)) := by
  rw [BI.bigSep_eq_bigSepL_of_eq [main_v0, main_arg1, main_arg2, main_arg3, main_arg4] (by decide) (by decide)]; rfl
theorem ownedPts0_eq (c : Dev nD) :
    (Pipeline.owned R0 c : sProp 𝕄) = iprop((∃ f, hw c main_v1_0 f) ∗ (∃ f, hw c main_v1_1 f) ∗ (∃ f, hw c main_v1_2 f) ∗ (∃ f, hw c main_v1_3 f) ∗ (∃ f, hw c main_v1_4 f)) := by
  unfold Pipeline.owned; rw [BI.bigSep_eq_bigSepL_of_eq [main_v1_0, main_v1_1, main_v1_2, main_v1_3, main_v1_4] (by decide) (by decide)]; rfl
theorem Phi_eq (c : Dev nD) :
    (Pipeline.ΦDR osem0 (cfg0.spec) H0 R0 (V m) c : sProp 𝕄)
      = iprop(iprop((∃ f, hw c cc0_scratch0 f) ∗ (∃ f, hw c cc0_scratch1 f) ∗ (∃ f, hw c cc0_scratch2 f) ∗ (∃ f, hw c cc0_scratch3 f) ∗ (∃ f, hw c cc0_scratch4 f) ∗ (∃ f, hw c cc0_scratch5 f) ∗ (∃ f, hw c cc0_scratch6 f) ∗ (∃ f, hw c cc0_scratch7 f) ∗ (∃ f, hw c cc0_scratch8 f) ∗ (∃ f, hw c cc0_scratch9 f) ∗ (∃ f, hw c cc0_scratch10 f) ∗ (∃ f, hw c cc0_scratch11 f) ∗ (∃ f, hw c cc0_scratch12 f) ∗ (∃ f, hw c cc0_scratch13 f) ∗ (∃ f, hw c cc0_scratch14 f) ∗ (∃ f, hw c cc0_scratch15 f) ∗ (∃ f, hw c cc0_scratch16 f) ∗ (∃ f, hw c cc0_scratch17 f) ∗ (∃ f, hw c cc0_scratch18 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
          ∗ iprop(hw c main_v0 (V m c main_v0) ∗ hw c main_arg1 (V m c main_arg1) ∗ hw c main_arg2 (V m c main_arg2) ∗ hw c main_arg3 (V m c main_arg3) ∗ hw c main_arg4 (V m c main_arg4))
          ∗ iprop((∃ f, hw c main_v1_0 f) ∗ (∃ f, hw c main_v1_1 f) ∗ (∃ f, hw c main_v1_2 f) ∗ (∃ f, hw c main_v1_3 f) ∗ (∃ f, hw c main_v1_4 f))) := by
  rw [Pipeline.ΦDR_eq, scopedRest0_eq, ownSems00_eq, hbmPts0_eq c (V m c), ownedPts0_eq]

def dats (_ : Fin 1) (c : Dev nD) : Dat τ (Elt F) Unit ℕ (Pipeline.UD sig nD τ) ℕ cfg0 c where
  A w := V m c (Pipeline.arrRef (cfg0.spec) w)
  after w _ := w.elim0
  Φ _ := Pipeline.ΦDR osem0 (cfg0.spec) H0 R0 (V m) c
  q _ := fullShare
  owed _ := 0
theorem A_eq (c : Dev nD) (w : Fin cfg0.W) : (dats m 0 c).A w = V m c (Pipeline.arrRef (cfg0.spec) w) := by
  dsimp only [dats]

/-- The nine read tokens. -/
def Qt : Fin 9 → PosShare TreeShare := Transfers.shareTok fullShare 9

omit [FloatOps F] in
/-- The weight codes whole are nine read tokens and a remainder, and back. -/
theorem toks_split (c : Dev nD) (XW : BufOf F c aW) :
    (hw c main_arg1 XW : sProp 𝕄) ⊣⊢ iprop((aW.view.loc (c : Thread nD τ) ↦[aW.view.set]{Transfers.shareDrop fullShare 9} XW)
      ∗ wTok c XW Qt 0 ∗ wTok c XW Qt 1 ∗ wTok c XW Qt 2 ∗ wTok c XW Qt 3 ∗ wTok c XW Qt 4 ∗ wTok c XW Qt 5 ∗ wTok c XW Qt 6 ∗ wTok c XW Qt 7 ∗ wTok c XW Qt 8) := by
  have e : (hw c main_arg1 XW : sProp 𝕄) = (aW.view.loc (c : Thread nD τ) ↦[aW.view.set]{fullShare} XW) := by rw [View.set_whole]
  rw [e]
  have h := Transfers.pointsTo_toks (Ix := Unit) (Name := ℕ) (U := Pipeline.UD sig nD τ) (Lvl := ℕ) (ℓ := aW.view.loc (c : Thread nD τ)) (S := aW.view.set) (f := XW) fullShare 9
  rw [bigSep_fin9] at h
  exact h

theorem bigSep_W0 {M : Type} [URA M] (Φ : Fin 0 → sProp M) : bigSep Finset.univ Φ = iprop(emp) := bigSep_empty

def bodyPreT (c : Dev nD) (t : Fin cfg0.N) : sProp 𝕄 :=
  iprop((dats m 0 c).Φ t.castSucc ∗ (dats m 0 c).owesAt () t.castSucc ∗ emp)
def bodyPostT (c : Dev nD) (t : Fin cfg0.N) : sProp 𝕄 :=
  iprop((dats m 0 c).Φ t.succ ∗ (dats m 0 c).owesAt () t.succ ∗ emp)

omit [FloatOps F] in
theorem pt_whole (c : Dev nD) {sp : Space} {S : Shape} {e : EltTy} (M : Memref sig .tc sp S e) (h : M.view.set = Finset.univ) (f : BufOf F c M) :
    (pt c M f : sProp 𝕄) = (M.view.loc (c : Thread nD τ) ↦{fullShare} f) := by unfold pt; rw [h]

set_option maxHeartbeats 4000000 in
theorem sound_body (c : Dev nD) (t : Fin cfg0.N) :
    bodyPreT m c t ⊢ wp frame (wpE (defs₀ (F := F)) Variants.none c none) Set.univ (bodyAt0 t) (fun _ => bodyPostT m c t) := by
  unfold bodyPreT bodyPostT bodyAt0
  rw [show (dats m 0 c).Φ t.succ = (dats m 0 c).Φ t.castSucc from rfl]
  rw [show (dats m 0 c).Φ t.castSucc = Pipeline.ΦDR osem0 (cfg0.spec) H0 R0 (V m) c from rfl, Phi_eq]
  unfold Dat.owesAt Pipeline.owesWithin
  rw [show (dats m 0 c).owed t.castSucc = 0 from rfl, show (dats m 0 c).owed t.succ = 0 from rfl]
  iintro ⟨⟨⟨S0, S1, S2, S3, S4, S5, S6, S7, S8, S9, S10, S11, S12, S13, S14, S15, S16, S17, S18⟩, Hg, ⟨q0, q1, q2, q3, q4, q5, q6, q7, q8, q9, q10, q11, q12, q13, q14, q15, q16, q17⟩, ⟨Ha0, Ha1, Ha2, Ha3, Ha4⟩, ⟨Ho0, Ho1, Ho2, Ho3, Ho4⟩⟩, ⟨%W, -, HW⟩, -⟩
  icases S0 with ⟨%fr, S0⟩
  ihave SR := (ring_split c fr) $$ S0
  icases SR with ⟨R0, R1, R2, R3⟩
  ihave HT := (toks_split c (V m c main_arg1)).1 $$ Ha1
  icases HT with ⟨HD, T0, T1, T2, T3, T4, T5, T6, T7, T8⟩
  iapply (bodyRun c (V m c main_arg1) Qt (V m c main_v0) (V m c main_arg2) (V m c main_arg3) (V m c main_arg4) _)
  isplitr [HD Hg]
  · unfold bodyPre
    isplitl [Ha0]; · irw [pt_whole c aX (View.set_whole _)]; iexact Ha0
    isplitl [Ha2]; · irw [pt_whole c aWs (View.set_whole _)]; iexact Ha2
    isplitl [Ha3]; · irw [pt_whole c aBm (View.set_whole _)]; iexact Ha3
    isplitl [Ha4]; · irw [pt_whole c aId (View.set_whole _)]; iexact Ha4
    isplitl [Ho0]
    · icases Ho0 with ⟨%f, H⟩; iexists f; irw [pt_whole c oMl (View.set_whole _)]; iexact H
    isplitl [Ho1]
    · icases Ho1 with ⟨%f, H⟩; iexists f; irw [pt_whole c oLse (View.set_whole _)]; iexact H
    isplitl [Ho2]
    · icases Ho2 with ⟨%f, H⟩; iexists f; irw [pt_whole c oClp (View.set_whole _)]; iexact H
    isplitl [Ho3]
    · icases Ho3 with ⟨%f, H⟩; iexists f; irw [pt_whole c oXc (View.set_whole _)]; iexact H
    isplitl [Ho4]
    · icases Ho4 with ⟨%f, H⟩; iexists f; irw [pt_whole c oXs (View.set_whole _)]; iexact H
    isplitl [S1]
    · icases S1 with ⟨%f, H⟩; iexists f; irw [pt_whole c bX (View.set_whole _)]; iexact H
    isplitl [S2]
    · icases S2 with ⟨%f, H⟩; iexists f; irw [pt_whole c bWs (View.set_whole _)]; iexact H
    isplitl [S3]
    · icases S3 with ⟨%f, H⟩; iexists f; irw [pt_whole c bBm (View.set_whole _)]; iexact H
    isplitl [S4]
    · icases S4 with ⟨%f, H⟩; iexists f; irw [pt_whole c bId (View.set_whole _)]; iexact H
    isplitl [S5]
    · icases S5 with ⟨%f, H⟩; iexists f; irw [pt_whole c bMl (View.set_whole _)]; iexact H
    isplitl [S6]
    · icases S6 with ⟨%f, H⟩; iexists f; irw [pt_whole c bLse (View.set_whole _)]; iexact H
    isplitl [S7]
    · icases S7 with ⟨%f, H⟩; iexists f; irw [pt_whole c bClp (View.set_whole _)]; iexact H
    isplitl [S8]
    · icases S8 with ⟨%f, H⟩; iexists f; irw [pt_whole c bXc (View.set_whole _)]; iexact H
    isplitl [S9]
    · icases S9 with ⟨%f, H⟩; iexists f; irw [pt_whole c bXs (View.set_whole _)]; iexact H
    isplitl [S10]
    · icases S10 with ⟨%f, H⟩; iexists f; irw [pt_whole c bXf (View.set_whole _)]; iexact H
    isplitl [S11]
    · icases S11 with ⟨%f, H⟩; iexists f; irw [pt_whole c bXq (View.set_whole _)]; iexact H
    isplitl [S12]
    · icases S12 with ⟨%f, H⟩; iexists f; irw [pt_whole c bWords (View.set_whole _)]; iexact H
    isplitl [S13]
    · icases S13 with ⟨%f, H⟩; iexists f; irw [pt_whole c bCid (View.set_whole _)]; iexact H
    isplitl [S14]
    · icases S14 with ⟨%f, H⟩; iexists f; irw [pt_whole c bCok (View.set_whole _)]; iexact H
    isplitl [S15]
    · icases S15 with ⟨%f, H⟩; iexists f; irw [pt_whole c bCacc (View.set_whole _)]; iexact H
    isplitl [S16]
    · icases S16 with ⟨%f, H⟩; iexists f; irw [pt_whole c bXsb (View.set_whole _)]; iexact H
    isplitl [S17]
    · icases S17 with ⟨%f, H⟩; iexists f; irw [pt_whole c bM (View.set_whole _)]; iexact H
    isplitl [S18]
    · icases S18 with ⟨%f, H⟩; iexists f; irw [pt_whole c bS (View.set_whole _)]; iexact H
    isplitl [q9]; · iexact q9
    isplitl [q10]; · iexact q10
    isplitl [q11]; · iexact q11
    isplitl [q12]; · iexact q12
    isplitl [q13]; · iexact q13
    isplitl [q14]; · iexact q14
    isplitl [q15]; · iexact q15
    isplitl [q16]; · iexact q16
    isplitl [q17]; · iexact q17
    isplitl [R0]; · iexists _; iexact R0
    isplitl [R1]; · iexists _; iexact R1
    isplitl [R2]; · iexists _; iexact R2
    isplitl [R3]; · iexists _; iexact R3
    isplitl [q0]; · iexact q0
    isplitl [q1]; · iexact q1
    isplitl [q2]; · iexact q2
    isplitl [q3]; · iexact q3
    isplitl [T0]; · iexact T0
    isplitl [T1]; · iexact T1
    isplitl [T2]; · iexact T2
    isplitl [T3]; · iexact T3
    isplitl [q4 q5 q6 q7 q8 T4 T5 T6 T7 T8]
    · unfold TailFree
      isplitl [q4 T4]
      · isplitl [q4]; · iexact q4
        iexact T4
      isplitl [q5 T5]
      · isplitl [q5]; · iexact q5
        iexact T5
      isplitl [q6 T6]
      · isplitl [q6]; · iexact q6
        iexact T6
      isplitl [q7 T7]
      · isplitl [q7]; · iexact q7
        iexact T7
      isplitl [q8]; · iexact q8
      iexact T8
    iexists _; iexact HW
  unfold bodyPost TailFree
  iintro ⟨Ha0, Ha2, Ha3, Ha4, ⟨%g0, %hg0, Ho0⟩, ⟨%g1, %hg1, Ho1⟩, ⟨%g2, %hg2, Ho2⟩, ⟨%g3, %hg3, Ho3⟩, ⟨%g4, %hg4, Ho4⟩, ⟨%h1, S1⟩, ⟨%h2, S2⟩, ⟨%h3, S3⟩, ⟨%h4, S4⟩, ⟨%h5, S5⟩, ⟨%h6, S6⟩, ⟨%h7, S7⟩, ⟨%h8, S8⟩, ⟨%h9, S9⟩, ⟨%h10, S10⟩, ⟨%h11, S11⟩, ⟨%h12, S12⟩, ⟨%h13, S13⟩, ⟨%h14, S14⟩, ⟨%h15, S15⟩, ⟨%h16, S16⟩, ⟨%h17, S17⟩, ⟨%h18, S18⟩, q9, q10, q11, q12, q13, q14, q15, q16, q17, R0, R1, R2, R3, q0, q1, q2, q3, T0, T1, T2, T3, HTF, ⟨%W', HW'⟩⟩
  icases HTF with ⟨⟨q4, T4⟩, ⟨q5, T5⟩, ⟨q6, T6⟩, ⟨q7, T7⟩, q8, T8⟩
  ihave S0 := (ring_join c) $$ [R0 R1 R2 R3]
  · isplitl [R0]; · iexact R0
    isplitl [R1]; · iexact R1
    isplitl [R2]; · iexact R2
    iexact R3
  ihave Ha1 := (toks_split c (V m c main_arg1)).2 $$ [HD T0 T1 T2 T3 T4 T5 T6 T7 T8]
  · isplitl [HD]; · iexact HD
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8
  isplitr [HW']
  · isplitl [S0 S1 S2 S3 S4 S5 S6 S7 S8 S9 S10 S11 S12 S13 S14 S15 S16 S17 S18]
    · isplitl [S0]; · iexact S0
      isplitl [S1]; · iexists h1; ihave S1 := (Entails.of_eq (pt_whole c bX (View.set_whole _) _)) $$ S1; iexact S1
      isplitl [S2]; · iexists h2; ihave S2 := (Entails.of_eq (pt_whole c bWs (View.set_whole _) _)) $$ S2; iexact S2
      isplitl [S3]; · iexists h3; ihave S3 := (Entails.of_eq (pt_whole c bBm (View.set_whole _) _)) $$ S3; iexact S3
      isplitl [S4]; · iexists h4; ihave S4 := (Entails.of_eq (pt_whole c bId (View.set_whole _) _)) $$ S4; iexact S4
      isplitl [S5]; · iexists h5; ihave S5 := (Entails.of_eq (pt_whole c bMl (View.set_whole _) _)) $$ S5; iexact S5
      isplitl [S6]; · iexists h6; ihave S6 := (Entails.of_eq (pt_whole c bLse (View.set_whole _) _)) $$ S6; iexact S6
      isplitl [S7]; · iexists h7; ihave S7 := (Entails.of_eq (pt_whole c bClp (View.set_whole _) _)) $$ S7; iexact S7
      isplitl [S8]; · iexists h8; ihave S8 := (Entails.of_eq (pt_whole c bXc (View.set_whole _) _)) $$ S8; iexact S8
      isplitl [S9]; · iexists h9; ihave S9 := (Entails.of_eq (pt_whole c bXs (View.set_whole _) _)) $$ S9; iexact S9
      isplitl [S10]; · iexists h10; ihave S10 := (Entails.of_eq (pt_whole c bXf (View.set_whole _) _)) $$ S10; iexact S10
      isplitl [S11]; · iexists h11; ihave S11 := (Entails.of_eq (pt_whole c bXq (View.set_whole _) _)) $$ S11; iexact S11
      isplitl [S12]; · iexists h12; ihave S12 := (Entails.of_eq (pt_whole c bWords (View.set_whole _) _)) $$ S12; iexact S12
      isplitl [S13]; · iexists h13; ihave S13 := (Entails.of_eq (pt_whole c bCid (View.set_whole _) _)) $$ S13; iexact S13
      isplitl [S14]; · iexists h14; ihave S14 := (Entails.of_eq (pt_whole c bCok (View.set_whole _) _)) $$ S14; iexact S14
      isplitl [S15]; · iexists h15; ihave S15 := (Entails.of_eq (pt_whole c bCacc (View.set_whole _) _)) $$ S15; iexact S15
      isplitl [S16]; · iexists h16; ihave S16 := (Entails.of_eq (pt_whole c bXsb (View.set_whole _) _)) $$ S16; iexact S16
      isplitl [S17]; · iexists h17; ihave S17 := (Entails.of_eq (pt_whole c bM (View.set_whole _) _)) $$ S17; iexact S17
      iexists h18; ihave S18 := (Entails.of_eq (pt_whole c bS (View.set_whole _) _)) $$ S18; iexact S18
    isplitl [Hg]; · iexact Hg
    isplitl [q0 q1 q2 q3 q4 q5 q6 q7 q8 q9 q10 q11 q12 q13 q14 q15 q16 q17]
    · isplitl [q0]; · iexact q0
      isplitl [q1]; · iexact q1
      isplitl [q2]; · iexact q2
      isplitl [q3]; · iexact q3
      isplitl [q4]; · iexact q4
      isplitl [q5]; · iexact q5
      isplitl [q6]; · iexact q6
      isplitl [q7]; · iexact q7
      isplitl [q8]; · iexact q8
      isplitl [q9]; · iexact q9
      isplitl [q10]; · iexact q10
      isplitl [q11]; · iexact q11
      isplitl [q12]; · iexact q12
      isplitl [q13]; · iexact q13
      isplitl [q14]; · iexact q14
      isplitl [q15]; · iexact q15
      isplitl [q16]; · iexact q16
      iexact q17
    isplitl [Ha0 Ha1 Ha2 Ha3 Ha4]
    · isplitl [Ha0]; · ihave Ha0 := (Entails.of_eq (pt_whole c aX (View.set_whole _) _)) $$ Ha0; iexact Ha0
      isplitl [Ha1]; · iexact Ha1
      isplitl [Ha2]; · ihave Ha2 := (Entails.of_eq (pt_whole c aWs (View.set_whole _) _)) $$ Ha2; iexact Ha2
      isplitl [Ha3]; · ihave Ha3 := (Entails.of_eq (pt_whole c aBm (View.set_whole _) _)) $$ Ha3; iexact Ha3
      ihave Ha4 := (Entails.of_eq (pt_whole c aId (View.set_whole _) _)) $$ Ha4; iexact Ha4
    isplitl [Ho0]; · iexists g0; ihave Ho0 := (Entails.of_eq (pt_whole c oMl (View.set_whole _) _)) $$ Ho0; iexact Ho0
    isplitl [Ho1]; · iexists g1; ihave Ho1 := (Entails.of_eq (pt_whole c oLse (View.set_whole _) _)) $$ Ho1; iexact Ho1
    isplitl [Ho2]; · iexists g2; ihave Ho2 := (Entails.of_eq (pt_whole c oClp (View.set_whole _) _)) $$ Ho2; iexact Ho2
    isplitl [Ho3]; · iexists g3; ihave Ho3 := (Entails.of_eq (pt_whole c oXc (View.set_whole _) _)) $$ Ho3; iexact Ho3
    iexists g4; ihave Ho4 := (Entails.of_eq (pt_whole c oXs (View.set_whole _) _)) $$ Ho4; iexact Ho4
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- Every argument ends as it was launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.Kernel.Hand

end
-- ==== Proof.KI.Names.lean ====
/-
  The names of the kernel's run: the four slots of the weight ring, the column blocks of the weight codes, the semaphore
  cells, and the resources that a slot has while it is free and while a block is on its way into it.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameValue
public import Idealize.ShloMosaic.Lib.Pipeline.FrameBody
public import Idealize.ShloMosaic.Lib.Ring
public import Idealize.ShloMosaic.Lib.Ring.Trips
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
abbrev 𝒱₀ : Variants := Variants.none

/-! ## The whole arrays -/

abbrev aX : Memref sig .tc .hbm S3x7168 .bf16 := Memref.whole main_v0
abbrev aW : Memref sig .tc .hbm S7168x32256 .fp8e4m3 := Memref.whole main_arg1
abbrev aWs : Memref sig .tc .hbm S32256 .f32 := Memref.whole main_arg2
abbrev aBm : Memref sig .tc .hbm S3x1008 .i32 := Memref.whole main_arg3
abbrev aId : Memref sig .tc .hbm S3x1x40 .i32 := Memref.whole main_arg4
abbrev oMl : Memref sig .tc .hbm S3x1x32256 .f32 := Memref.whole main_v1_0
abbrev oLse : Memref sig .tc .hbm S1x3 .f32 := Memref.whole main_v1_1
abbrev oClp : Memref sig .tc .hbm S3x1x40 .f32 := Memref.whole main_v1_2
abbrev oXc : Memref sig .tc .hbm S3x7168 .fp8e4m3 := Memref.whole main_v1_3
abbrev oXs : Memref sig .tc .hbm S1x3 .f32 := Memref.whole main_v1_4
abbrev bRing : Memref sig .tc .vmem S4x7168x512 .fp8e4m3 := Memref.whole cc0_scratch0
abbrev bX : Memref sig .tc .vmem S3x7168 .bf16 := Memref.whole cc0_scratch1
abbrev bWs : Memref sig .tc .vmem S1x32256 .f32 := Memref.whole cc0_scratch2
abbrev bBm : Memref sig .tc .vmem S3x1008 .i32 := Memref.whole cc0_scratch3
abbrev bId : Memref sig .tc .vmem S3x1x40 .i32 := Memref.whole cc0_scratch4
abbrev bMl : Memref sig .tc .vmem S3x1x32256 .f32 := Memref.whole cc0_scratch5
abbrev bLse : Memref sig .tc .vmem S1x3 .f32 := Memref.whole cc0_scratch6
abbrev bClp : Memref sig .tc .vmem S3x1x40 .f32 := Memref.whole cc0_scratch7
abbrev bXc : Memref sig .tc .vmem S3x7168 .fp8e4m3 := Memref.whole cc0_scratch8
abbrev bXs : Memref sig .tc .vmem S1x3 .f32 := Memref.whole cc0_scratch9
abbrev bXf : Memref sig .tc .vmem S8x7168 .f32 := Memref.whole cc0_scratch10
abbrev bXq : Memref sig .tc .vmem S32x7168 .fp8e4m3 := Memref.whole cc0_scratch11
abbrev bWords : Memref sig .tc .vmem S8x1024 .i32 := Memref.whole cc0_scratch12
abbrev bCid : Memref sig .tc .vmem S3x40x128 .i32 := Memref.whole cc0_scratch13
abbrev bCok : Memref sig .tc .vmem S3x40x128 .f32 := Memref.whole cc0_scratch14
abbrev bCacc : Memref sig .tc .vmem S3x40x128 .f32 := Memref.whole cc0_scratch15
abbrev bXsb : Memref sig .tc .vmem S8x128 .f32 := Memref.whole cc0_scratch16
abbrev bM : Memref sig .tc .vmem S8x128 .f32 := Memref.whole cc0_scratch17
abbrev bS : Memref sig .tc .vmem S8x128 .f32 := Memref.whole cc0_scratch18

/-- A buffer of a thread held whole at named contents. -/
abbrev BufOf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf F c M) : sProp 𝕄 :=
  M.view.loc (c : Thread nD τ) ↦[M.view.set]{fullShare} f

/-! ## Slots, blocks and cells -/

abbrev slotOff (s : Fin 4) : Fin 3 → Nat := ![s.val, 0, 0]
theorem slotOff_inb (s : Fin 4) : ∀ a, slotOff s a + S1x7168x512.size a ≤ S4x7168x512.size a := by
  have := s.isLt; intro a; fin_cases a
  · show s.val + 1 ≤ 4; omega
  · show 0 + 7168 ≤ 7168; omega
  · show 0 + 512 ≤ 512; omega
abbrev semOff (s : Fin 4) : Fin 1 → Nat := ![s.val]
theorem semOff_inb (s : Fin 4) : ∀ a, semOff s a + S1.size a ≤ S4.size a := by
  have := s.isLt; intro a; fin_cases a; show s.val + 1 ≤ 4; omega
abbrev blkOff (p : Fin 62) : Fin 2 → Nat := ![0, 512 * p.val]
theorem blkOff_inb (p : Fin 62) : ∀ a, blkOff p a + S7168x512.size a ≤ S7168x32256.size a := by
  have := p.isLt; intro a; fin_cases a
  · show 0 + 7168 ≤ 7168; omega
  · show 512 * p.val + 512 ≤ 32256; omega

/-- Slot `s` of the ring. -/
def rslot (s : Fin 4) : Memref sig .tc .vmem S7168x512 .fp8e4m3 :=
  (bRing.slice (Rect.unit (s := S4x7168x512) (slotOff s) S1x7168x512.size (slotOff_inb s)) (fun _ => rfl)).squeeze S7168x512 squeezes_S1x7168x512_S7168x512
/-- Column block `p` of the weight codes. -/
def wblk (p : Fin 62) : Memref sig .tc .hbm S7168x512 .fp8e4m3 :=
  aW.slice (Rect.unit (s := S7168x32256) (blkOff p) S7168x512.size (blkOff_inb p)) (fun _ => rfl)
/-- Slot `s`'s cell. -/
def csm (s : Fin 4) : DmaSems sig S_ := (cc0_scratch19.slice (Rect.unit (s := S4) (semOff s) S1.size (semOff_inb s))).squeeze S_ squeezes_S1_S_

instance (s : Fin 4) : ClosedOff (slotOff s) := ⟨slotOff s, rfl⟩
instance (p : Fin 62) : ClosedOff (blkOff p) := ⟨blkOff p, rfl⟩

theorem csm_congr {off : Fin 1 → Nat} {s : Fin 4} (e : off = semOff s) (hh) :
    (cc0_scratch19.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (bRing.slice (Rect.unit (s := S4x7168x512) off S1x7168x512.size hh) hs).squeeze S7168x512 squeezes_S1x7168x512_S7168x512 = rslot s :=
  congrArg (fun M : Memref sig .tc .vmem S1x7168x512 .fp8e4m3 => M.squeeze S7168x512 squeezes_S1x7168x512_S7168x512) (Memref.slice_unit_congr _ e _ _ _ _)
theorem wblk_congr {off : Fin 2 → Nat} {p : Fin 62} (e : off = blkOff p) (hh hs) :
    aW.slice (Rect.unit (s := S7168x32256) off S7168x512.size hh) hs = wblk p := Memref.slice_unit_congr _ e _ _ _ (fun _ => rfl)

theorem trips_eq : k0_t1_loop.trips = 61 := by decide
theorem trip_lt (k : Fin k0_t1_loop.trips) : k.val < 61 := Nat.lt_of_lt_of_eq k.isLt trips_eq

theorem sl_off (k : ℕ) : ((Ring.sl 4 k).val) = k % 4 := Ring.sl_val 4 k

/-- The slices of the code before the loop. -/
@[sl_canon] theorem semL0 (hh) : (cc0_scratch19.slice (Rect.unit (s := S4) (k0_off1 0#32) S1.size hh)).squeeze S_ squeezes_S1_S_ = csm 0 := csm_congr (k0_off1_eq 0) _
@[sl_canon] theorem semL1 (hh) : (cc0_scratch19.slice (Rect.unit (s := S4) (k0_off1 1#32) S1.size hh)).squeeze S_ squeezes_S1_S_ = csm 1 := csm_congr (k0_off1_eq 1) _
@[sl_canon] theorem semL2 (hh) : (cc0_scratch19.slice (Rect.unit (s := S4) (k0_off1 2#32) S1.size hh)).squeeze S_ squeezes_S1_S_ = csm 2 := csm_congr (k0_off1_eq 2) _
@[sl_canon] theorem semL3 (hh) : (cc0_scratch19.slice (Rect.unit (s := S4) (k0_off1 3#32) S1.size hh)).squeeze S_ squeezes_S1_S_ = csm 3 := csm_congr (k0_off1_eq 3) _
@[sl_canon] theorem slotL0 (hh hs) : (bRing.slice (Rect.unit (s := S4x7168x512) (k0_off2 0#32) S1x7168x512.size hh) hs).squeeze S7168x512 squeezes_S1x7168x512_S7168x512 = rslot 0 := rslot_congr (k0_off2_eq 0) _ _
@[sl_canon] theorem slotL1 (hh hs) : (bRing.slice (Rect.unit (s := S4x7168x512) (k0_off2 1#32) S1x7168x512.size hh) hs).squeeze S7168x512 squeezes_S1x7168x512_S7168x512 = rslot 1 := rslot_congr (k0_off2_eq 1) _ _
@[sl_canon] theorem slotL2 (hh hs) : (bRing.slice (Rect.unit (s := S4x7168x512) (k0_off2 2#32) S1x7168x512.size hh) hs).squeeze S7168x512 squeezes_S1x7168x512_S7168x512 = rslot 2 := rslot_congr (k0_off2_eq 2) _ _
@[sl_canon] theorem slotL3 (hh hs) : (bRing.slice (Rect.unit (s := S4x7168x512) (k0_off2 3#32) S1x7168x512.size hh) hs).squeeze S7168x512 squeezes_S1x7168x512_S7168x512 = rslot 3 := rslot_congr (k0_off2_eq 3) _ _
@[sl_canon] theorem blkL0 (hh hs) : aW.slice (Rect.unit (s := S7168x32256) ![0, 0] S7168x512.size hh) hs = wblk 0 := wblk_congr (by decide) _ _
@[sl_canon] theorem blkL1 (hh hs) : aW.slice (Rect.unit (s := S7168x32256) ![0, 512] S7168x512.size hh) hs = wblk 1 := wblk_congr (by decide) _ _
@[sl_canon] theorem blkL2 (hh hs) : aW.slice (Rect.unit (s := S7168x32256) ![0, 1024] S7168x512.size hh) hs = wblk 2 := wblk_congr (by decide) _ _
@[sl_canon] theorem blkL3 (hh hs) : aW.slice (Rect.unit (s := S7168x32256) ![0, 1536] S7168x512.size hh) hs = wblk 3 := wblk_congr (by decide) _ _

/-- The slices of trip `k`: block `k + 1` waited in slot `(k + 1) % 4`, block `k + 4` issued into slot `(k + 4) % 4`. -/
theorem off4_eq (k : Fin k0_t1_loop.trips) : k0_off4 k = semOff (Ring.sl 4 (k.val + 4)) := by rw [k0_off4_eq, semOff, sl_off]
theorem off5_eq (k : Fin k0_t1_loop.trips) : k0_off5 k = slotOff (Ring.sl 4 (k.val + 4)) := by rw [k0_off5_eq, slotOff, sl_off]
theorem off6_eq (k : Fin k0_t1_loop.trips) (hk : k.val + 4 < 62) : k0_off6 k = blkOff (Ring.bk 62 (k.val + 4)) := by
  rw [k0_off6_eq, blkOff, Ring.bk_val hk]; congr 1
theorem off7_eq (k : Fin k0_t1_loop.trips) : k0_off7 k = semOff (Ring.sl 4 (k.val + 1)) := by rw [k0_off7_eq, semOff, sl_off]
theorem off8_eq (k : Fin k0_t1_loop.trips) : k0_off8 k = slotOff (Ring.sl 4 (k.val + 1)) := by rw [k0_off8_eq, slotOff, sl_off]
theorem off9_eq (k : Fin k0_t1_loop.trips) : k0_off9 k = blkOff (Ring.bk 62 (k.val + 1)) := by
  have := trip_lt k
  rw [k0_off9_eq, blkOff, Ring.bk_val (by omega)]; congr 1
theorem off10_eq (k : Fin k0_t1_loop.trips) : k0_off10 k = slotOff (Ring.sl 4 (k.val + 1)) := by rw [k0_off10_eq, slotOff, sl_off]

@[sl_canon] theorem semI (k : Fin k0_t1_loop.trips) (hh) :
    (cc0_scratch19.slice (Rect.unit (s := S4) (k0_off4 k) S1.size hh)).squeeze S_ squeezes_S1_S_ = csm (Ring.sl 4 (k.val + 4)) := csm_congr (off4_eq k) _
@[sl_canon] theorem semW (k : Fin k0_t1_loop.trips) (hh) :
    (cc0_scratch19.slice (Rect.unit (s := S4) (k0_off7 k) S1.size hh)).squeeze S_ squeezes_S1_S_ = csm (Ring.sl 4 (k.val + 1)) := csm_congr (off7_eq k) _
@[sl_canon] theorem slotI (k : Fin k0_t1_loop.trips) (hh hs) :
    (bRing.slice (Rect.unit (s := S4x7168x512) (k0_off5 k) S1x7168x512.size hh) hs).squeeze S7168x512 squeezes_S1x7168x512_S7168x512 = rslot (Ring.sl 4 (k.val + 4)) := rslot_congr (off5_eq k) _ _
@[sl_canon] theorem slotW (k : Fin k0_t1_loop.trips) (hh hs) :
    (bRing.slice (Rect.unit (s := S4x7168x512) (k0_off8 k) S1x7168x512.size hh) hs).squeeze S7168x512 squeezes_S1x7168x512_S7168x512 = rslot (Ring.sl 4 (k.val + 1)) := rslot_congr (off8_eq k) _ _
@[sl_canon] theorem blkI (k : Fin k0_t1_loop.trips) (hk : k.val + 4 < 62) (hh hs) :
    aW.slice (Rect.unit (s := S7168x32256) (k0_off6 k) S7168x512.size hh) hs = wblk (Ring.bk 62 (k.val + 4)) := wblk_congr (off6_eq k hk) _ _
@[sl_canon] theorem blkW (k : Fin k0_t1_loop.trips) (hh hs) :
    aW.slice (Rect.unit (s := S7168x32256) (k0_off9 k) S7168x512.size hh) hs = wblk (Ring.bk 62 (k.val + 1)) := wblk_congr (off9_eq k) _ _

instance (k : Fin k0_t1_loop.trips) : ClosedOff (k0_off10 k) := ⟨slotOff (Ring.sl 4 (k.val + 1)), off10_eq k⟩
instance (k : Fin k0_t1_loop.trips) : ClosedOff (k0_off8 k) := ⟨slotOff (Ring.sl 4 (k.val + 1)), off8_eq k⟩
instance (k : Fin k0_t1_loop.trips) : ClosedOff (k0_off5 k) := ⟨slotOff (Ring.sl 4 (k.val + 4)), off5_eq k⟩

/-! ## The states of a slot -/

section States
variable (c : Dev nD) (XW : BufOf F c aW)

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
/-- Block `p` of the weight codes, held at share `q` on its elements. -/
abbrev blkP (q : PosShare TreeShare) (p : Fin 62) : sProp 𝕄 := (wblk p).view.loc (c : Thread nD τ) ↦[(wblk p).view.set]{q} XW
/-- Block `p`'s words as a slot receives them. -/
abbrev payload (p : Fin 62) : S7168x512.Idx → Elt F .fp8e4m3 := ReadAs.same.apply ((wblk p).view.read (Elt F) XW)
/-- What block `p`'s copy leaves in slot `s`. -/
abbrev landed (s : Fin 4) (p : Fin 62) (f : Buf (Elt F) ((rslot s).view.loc (c : Thread nD τ))) : Buf (Elt F) ((rslot s).view.loc (c : Thread nD τ)) :=
  (rslot s).view.writes (Elt F) f [⟨Rect.whole S7168x512, payload c XW p⟩]
/-- Block `p` on its way into slot `s`. -/
abbrev flightP (q : PosShare TreeShare) (s : Fin 4) (p : Fin 62) (f : Buf (Elt F) ((rslot s).view.loc (c : Thread nD τ))) : sProp 𝕄 :=
  Transfers.Flight countersEmb (c : Thread nD τ) (SemLoc.dma (csm s).sem) () 114688 iprop(slotP c s (landed c XW s p f) ∗ blkP c XW q p)

end States

end Cert.KernelIdeal.Hand

end
-- ==== Proof.KI.Vals.lean ====
/-
  The values the loop works with: the raw product of a column block, the mask of a block, the logits, and the running
  state (per-lane maximum and sum, candidate logits).
-/
module

public import proofs.«01_k».proof.Proof.KI.Names
public import Idealize.ShloMosaic.Lib.Pointwise
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The product of the quantised rows with a block of weight codes, in the eight rows kept. -/
def dotBlk (xq : Vec F S32x7168 .fp8e4m3) (B : Vec F S7168x512 .fp8e4m3) : FVec F S8x512 .f32 :=
  extractStridedSlice S8x512 ![0, 0] (matmul dot_S32x7168_S7168x512_S32x512_1_0_0_1_n_n none xq B (constant S32x512 .f32 0x00000000#32)) slices_S32x512_o0_0_S8x512

/-- The first column of block `p`. -/
def colW (p : ℕ) : BitVec 32 := BitVec.ofNat 32 (512 * p)
/-- The word, within its tile of 128 words, that holds the bit of block `p`'s first column. -/
def baseW (p : ℕ) : BitVec 32 := BitVec.ofNat 32 (16 * p % 128)

/-- The mask of a block whose bits begin at word `b` of the tile `w`: the bit of each of its 512 columns. -/
def maskOf (v27 : IVec S8x128 32) (b : BitVec 32) (w : IVec S8x128 32) : IVec S8x512 1 :=
  let v2525 := k0_pay7 (F := F) b w (k0_pay4 v27) (k0_pay5 v27) (k0_pay6 v27) 0#32
  let v2561 := k0_pay11 (F := F) w (k0_pay8 v27 b) (k0_pay9 v27 b) k0_pay10
  let v2597 := k0_pay12 (F := F) v27 b w
  let v2633 := k0_pay16 (F := F) b w (k0_pay13 v27) 32#32 (k0_pay14 v27) (k0_pay15 v27)
  k0_pay21 v27 v2633 (k0_pay18 (k0_pay17 v27 v2525)) (k0_pay19 v27 v2561) (k0_pay20 v27 v2597) 32#32

/-- The masked logits of a block. -/
def mlBlk (mk : IVec S8x512 1) (lg : FVec F S8x512 .f32) : FVec F S8x512 .f32 :=
  select mk lg (broadcast S8x512 (Scalar.ofBits .f32 0x00000000#32))

theorem off11_eq : ∀ k : Fin k0_t1_loop.trips, k0_off11 k = ![0, 128 * (k.val / 8)] := by decide +kernel

/-- The running state: per-lane maximum and sum, and the candidate logits of the three rows. -/
structure St (F : FTy → Type) where
  m : Vec F S8x128 .f32
  s : Vec F S8x128 .f32
  c0 : Vec F S1x40x128 .f32
  c1 : Vec F S1x40x128 .f32
  c2 : Vec F S1x40x128 .f32

/-- One block's effect on the running state. -/
def stStep (v173 : IVec S40x128 32) (n : BitVec 32) (mk : IVec S8x512 1) (lg : FVec F S8x512 .f32) (i0 i1 i2 : Vec F S1x40x128 .i32) (st : St F) : St F where
  m := k0_pay34 mk lg st.m
  s := k0_pay35 mk lg st.m st.s
  c0 := k0_pay39 v173 n lg (k0_pay36 st.c0) (k0_pay37 i0) (k0_pay38 lg)
  c1 := k0_pay44 v173 n lg (k0_pay40 st.c1) (k0_pay41 i1) (k0_pay42 lg) (k0_pay43 v173 n i1)
  c2 := k0_pay182 v173 n lg (k0_pay45 i2) (k0_pay46 v173 n lg st.c2 i2) (k0_pay47 lg) (k0_pay48 n)

/-! ## What the buffers read -/

abbrev R88 : Rect S8x128 := Rect.unit (s := S8x128) ![0, 0] S8x128.size inb_S8x128_S8x128_0_0
abbrev Rc0 : Rect S3x40x128 := Rect.unit (s := S3x40x128) ![0, 0, 0] S1x40x128.size inb_S3x40x128_S1x40x128_0_0_0
abbrev Rc1 : Rect S3x40x128 := Rect.unit (s := S3x40x128) ![1, 0, 0] S1x40x128.size inb_S3x40x128_S1x40x128_1_0_0
abbrev Rc2 : Rect S3x40x128 := Rect.unit (s := S3x40x128) ![2, 0, 0] S1x40x128.size inb_S3x40x128_S1x40x128_2_0_0

section
variable (c : Dev nD)
abbrev rdXq (fa : BufOf F c bXq) : Vec F S32x7168 .fp8e4m3 := bXq.view.readAt (Elt F) (Rect.unit (s := S32x7168) ![0, 0] S32x7168.size inb_S32x7168_S32x7168_0_0).toLoadRect fa
abbrev rdXsb (fs : BufOf F c bXsb) : Vec F S8x128 .f32 := bXsb.view.readAt (Elt F) R88.toLoadRect fs
abbrev rdM (f : BufOf F c bM) : Vec F S8x128 .f32 := bM.view.readAt (Elt F) R88.toLoadRect f
abbrev rdS (f : BufOf F c bS) : Vec F S8x128 .f32 := bS.view.readAt (Elt F) R88.toLoadRect f
/-- The tile of 128 mask words that block `p`'s bits lie in. -/
def rdWords (p : ℕ) (fw : BufOf F c bWords) : Vec F S8x128 .i32 := fun x => bWords.view.read (Elt F) fw (ix2 (x 0) (Fin.ofNat 1024 (128 * (p / 8) + (x 1).val)))
/-- The column scales of block `p`. -/
def rdWs (p : ℕ) (fws : BufOf F c bWs) : Vec F S1x512 .f32 := fun x => bWs.view.read (Elt F) fws (ix2 (x 0) (Fin.ofNat 32256 (512 * p + (x 1).val)))
abbrev rdCid (R : Rect S3x40x128) (f : BufOf F c bCid) := bCid.view.readAt (Elt F) R.toLoadRect f
abbrev rdCacc (R : Rect S3x40x128) (f : BufOf F c bCacc) := bCacc.view.readAt (Elt F) R.toLoadRect f

variable (XW : BufOf F c aW) (v27 : IVec S8x128 32) (v173 : IVec S40x128 32)
  (fa : BufOf F c bXq) (fw : BufOf F c bWords) (fs : BufOf F c bXsb) (fws : BufOf F c bWs) (fcid : BufOf F c bCid)

variable (raw : ℕ → FVec F S8x512 .f32)

/-- The raw product of block `p`. -/
def rawV (p : ℕ) : FVec F S8x512 .f32 := dotBlk (rdXq c fa) (payload c XW (Ring.bk 62 p))
/-- The mask and the logits of block `p`. -/
def maskV (p : ℕ) : IVec S8x512 1 := maskOf (F := F) v27 (baseW p) (rdWords c p fw)
def lgV (p : ℕ) : FVec F S8x512 .f32 := k0_pay22 (raw p) (rdXsb c fs) (rdWs c p fws)

/-- The running state before block `p`. -/
def stV (st0 : St F) : ℕ → St F
  | 0 => st0
  | p + 1 => stStep v173 (colW p) (maskV c v27 fw p) (lgV c fs fws raw p) (rdCid c Rc0 fcid) (rdCid c Rc1 fcid) (rdCid c Rc2 fcid) (stV st0 p)

theorem rdWords_eq (p : ℕ) {off : Fin 2 → Nat} (e : off = ![0, 128 * (p / 8)]) (h) (hp : p < 64) :
    bWords.view.readAt (Elt F) (Rect.unit (s := S8x1024) off S8x128.size h).toLoadRect fw = rdWords c p fw := by
  subst e
  funext x
  refine congrArg (bWords.view.read (Elt F) fw) (funext fun a => Fin.ext ?_)
  have hx : (x 1).val < 128 := (x 1).isLt
  fin_cases a
  · show 0 + 1 * (x 0).val = (x 0).val; omega
  · show 128 * (p / 8) + 1 * (x 1).val = (128 * (p / 8) + (x 1).val) % 1024
    rw [Nat.mod_eq_of_lt (by omega)]; omega

theorem rdWs_eq (p : ℕ) {off : Fin 2 → Nat} (e : off = ![0, 512 * p]) (h) (hp : p < 63) :
    bWs.view.readAt (Elt F) (Rect.unit (s := S1x32256) off S1x512.size h).toLoadRect fws = rdWs c p fws := by
  subst e
  funext x
  refine congrArg (bWs.view.read (Elt F) fws) (funext fun a => Fin.ext ?_)
  have hx : (x 1).val < 512 := (x 1).isLt
  fin_cases a
  · show 0 + 1 * (x 0).val = (x 0).val; omega
  · show 512 * p + 1 * (x 1).val = (512 * p + (x 1).val) % 32256
    rw [Nat.mod_eq_of_lt (by omega)]; omega

/-- The buffers of the running state hold it. -/
def caFact (f : BufOf F c bCacc) (st : St F) : Prop := rdCacc c Rc0 f = st.c0 ∧ rdCacc c Rc1 f = st.c1 ∧ rdCacc c Rc2 f = st.c2

theorem col_lt {p : ℕ} (hp : p < 63) (j : Fin 512) : 512 * p + j.val < 32256 := by have := j.isLt; omega

/-- The first `k` column blocks of the masked logits are written. -/
def mlFact (mk : ℕ → IVec S8x512 1) (lg : ℕ → FVec F S8x512 .f32) (k : ℕ) (f : BufOf F c bMl) : Prop :=
  ∀ (b : Fin 3) (p : ℕ) (hp : p < 63) (j : Fin 512), p < k →
    bMl.view.read (Elt F) f (ix3 b 0 ⟨512 * p + j.val, col_lt hp j⟩) = mlBlk (mk p) (lg p) (ix2 (b.castLE (by decide)) j)

omit [FloatOps F] in
theorem caFact_step (f : BufOf F c bCacc) (w0 w1 w2 : Vec F S1x40x128 .f32) (st : St F) (h0 : w0 = st.c0) (h1 : w1 = st.c1) (h2 : w2 = st.c2) :
    caFact c (bCacc.view.writes (Elt F) f [⟨Rc2, w2⟩, ⟨Rc1, w1⟩, ⟨Rc0, w0⟩]) st := by
  subst h0; subst h1; subst h2
  refine ⟨?_, ?_, ?_⟩
  · funext j
    refine (View.read_writes_cons_unit_of_not_mem bCacc.view f _ _ _ _ rfl (0 : Fin 3) (.inl ?_)).trans ?_
    · have : (j 0).val < 1 := (j 0).isLt
      show 0 + 1 * (j 0).val < 2; omega
    refine (View.read_writes_cons_unit_of_not_mem bCacc.view f _ _ _ _ rfl (0 : Fin 3) (.inl ?_)).trans ?_
    · have : (j 0).val < 1 := (j 0).isLt
      show 0 + 1 * (j 0).val < 1; omega
    exact View.read_writes_cons_emb bCacc.view f Rc0 _ _ j
  · funext j
    refine (View.read_writes_cons_unit_of_not_mem bCacc.view f _ _ _ _ rfl (0 : Fin 3) (.inl ?_)).trans ?_
    · have : (j 0).val < 1 := (j 0).isLt
      show 1 + 1 * (j 0).val < 2; omega
    exact View.read_writes_cons_emb bCacc.view f Rc1 _ _ j
  · funext j
    exact View.read_writes_cons_emb bCacc.view f Rc2 _ _ j

omit [FloatOps F] in
theorem row_at0 (v : FVec F S8x512 .f32) (x : S1x1x512.Idx) :
    shapeCast S1x1x512 (extractStridedSlice S1x512 ![0, 0] v slices_S8x512_o0_0_S1x512) shapeCasts_S1x512_S1x1x512 x = v (ix2 0 (x 2)) := by
  idx_vars x; pointwise
omit [FloatOps F] in
theorem row_at1 (v : FVec F S8x512 .f32) (x : S1x1x512.Idx) :
    shapeCast S1x1x512 (extractStridedSlice S1x512 ![1, 0] v slices_S8x512_o1_0_S1x512) shapeCasts_S1x512_S1x1x512 x = v (ix2 1 (x 2)) := by
  idx_vars x; pointwise
omit [FloatOps F] in
theorem row_at2 (v : FVec F S8x512 .f32) (x : S1x1x512.Idx) :
    shapeCast S1x1x512 (extractStridedSlice S1x512 ![2, 0] v slices_S8x512_o2_0_S1x512) shapeCasts_S1x512_S1x1x512 x = v (ix2 2 (x 2)) := by
  idx_vars x; pointwise

/-- One more block written: the three rows' stores at column `512 * k`. -/
theorem mlFact_step (mk : ℕ → IVec S8x512 1) (lg : ℕ → FVec F S8x512 .f32) (k : ℕ) (f : BufOf F c bMl) (h : mlFact c mk lg k f) (hk : k < 63)
    {o0 o1 o2 : Fin 3 → Nat} (e0 : o0 = ![0, 0, 512 * k]) (e1 : o1 = ![1, 0, 512 * k]) (e2 : o2 = ![2, 0, 512 * k])
    (i0 i1 i2) (w0 w1 w2 : Vec F S1x1x512 .f32)
    (h0 : ∀ x, w0 x = mlBlk (mk k) (lg k) (ix2 0 (x 2))) (h1 : ∀ x, w1 x = mlBlk (mk k) (lg k) (ix2 1 (x 2))) (h2 : ∀ x, w2 x = mlBlk (mk k) (lg k) (ix2 2 (x 2))) :
    mlFact c mk lg (k + 1) (bMl.view.writes (Elt F) f [⟨Rect.unit (s := S3x1x32256) o2 S1x1x512.size i2, w2⟩,
      ⟨Rect.unit (s := S3x1x32256) o1 S1x1x512.size i1, w1⟩, ⟨Rect.unit (s := S3x1x32256) o0 S1x1x512.size i0, w0⟩]) := by
  subst e0; subst e1; subst e2
  intro b p hp j hpk
  have hj := j.isLt
  by_cases hp' : p = k
  · subst hp'
    fin_cases b
    · refine (View.read_writes_cons_unit_of_not_mem bMl.view f _ _ _ _ rfl (0 : Fin 3) (.inl ?_)).trans ?_
      · show 0 < 2; omega
      refine (View.read_writes_cons_unit_of_not_mem bMl.view f _ _ _ _ rfl (0 : Fin 3) (.inl ?_)).trans ?_
      · show 0 < 1; omega
      refine (View.read_writes_cons_unit_of_mem bMl.view f _ _ _ _ (ix3 0 0 j) rfl ?_).trans (h0 _)
      intro a; fin_cases a
      · show 0 = 0 + 0; rfl
      · show 0 = 0 + 0; rfl
      · show 512 * p + j.val = 512 * p + j.val; rfl
    · refine (View.read_writes_cons_unit_of_not_mem bMl.view f _ _ _ _ rfl (0 : Fin 3) (.inl ?_)).trans ?_
      · show 1 < 2; omega
      refine (View.read_writes_cons_unit_of_mem bMl.view f _ _ _ _ (ix3 0 0 j) rfl ?_).trans (h1 _)
      intro a; fin_cases a
      · show 1 = 1 + 0; rfl
      · show 0 = 0 + 0; rfl
      · show 512 * p + j.val = 512 * p + j.val; rfl
    · refine (View.read_writes_cons_unit_of_mem bMl.view f _ _ _ _ (ix3 0 0 j) rfl ?_).trans (h2 _)
      intro a; fin_cases a
      · show 2 = 2 + 0; rfl
      · show 0 = 0 + 0; rfl
      · show 512 * p + j.val = 512 * p + j.val; rfl
  · have hlt : p < k := by omega
    refine (View.read_writes_cons_unit_of_not_mem bMl.view f _ _ _ _ rfl (2 : Fin 3) (.inl ?_)).trans ?_
    · show 512 * p + j.val < 512 * k; omega
    refine (View.read_writes_cons_unit_of_not_mem bMl.view f _ _ _ _ rfl (2 : Fin 3) (.inl ?_)).trans ?_
    · show 512 * p + j.val < 512 * k; omega
    refine (View.read_writes_cons_unit_of_not_mem bMl.view f _ _ _ _ rfl (2 : Fin 3) (.inl ?_)).trans ?_
    · show 512 * p + j.val < 512 * k; omega
    exact h b p hp j hlt

end

/-- A load of slot `s` through the whole ring, where the slot has received block `p`. -/
theorem slotRead (c : Dev nD) (XW : BufOf F c aW) (s : Fin 4) (p : Fin 62) (f) {off : Fin 3 → Nat} (e : off = slotOff s) (h) :
    shapeCast S7168x512 (bRing.view.readAt (Elt F) (Rect.unit (s := S4x7168x512) off S1x7168x512.size h).toLoadRect (landed c XW s p f)) shapeCasts_S1x7168x512_S7168x512
      = payload c XW p := by
  subst e
  exact ((Memref.read_squeeze_slice bRing (Rect.unit (s := S4x7168x512) (slotOff s) S1x7168x512.size h) (fun _ => rfl)
    squeezes_S1x7168x512_S7168x512 shapeCasts_S1x7168x512_S7168x512 _).symm).trans (View.read_writes_whole (rslot s).view f _)

end Cert.KernelIdeal.Hand

end
-- ==== Proof.KI.Tail.lean ====
/-
  The last column block of the weight codes: five row pieces, each copied into its own rows of slot 2 on its own cell.
-/
module

public import proofs.«01_k».proof.Proof.KI.Names

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (XW : BufOf F c aW)

/-- Piece 0: rows 0 to 3071 of the last block. -/
def ts0 : Memref sig .tc .vmem S3072x512 .fp8e4m3 :=
  (bRing.slice (Rect.unit (s := S4x7168x512) ![2, 0, 0] S1x3072x512.size inb_S4x7168x512_S1x3072x512_2_0_0) (fun _ => rfl)).squeeze S3072x512 squeezes_S1x3072x512_S3072x512
def tw0 : Memref sig .tc .hbm S3072x512 .fp8e4m3 :=
  aW.slice (Rect.unit (s := S7168x32256) ![0, 31744] S3072x512.size inb_S7168x32256_S3072x512_0_31744) (fun _ => rfl)
def tc0 : DmaSems sig S_ := (cc0_scratch20.slice (Rect.unit (s := S5) ![0] S1.size inb_S5_S1_0)).squeeze S_ squeezes_S1_S_
@[sl_canon] theorem tsL0 (hh hs) : (bRing.slice (Rect.unit (s := S4x7168x512) ![2, 0, 0] S1x3072x512.size hh) hs).squeeze S3072x512 squeezes_S1x3072x512_S3072x512 = ts0 := rfl
@[sl_canon] theorem twL0 (hh hs) : aW.slice (Rect.unit (s := S7168x32256) ![0, 31744] S3072x512.size hh) hs = tw0 := rfl
@[sl_canon] theorem tcL0 (hh) : (cc0_scratch20.slice (Rect.unit (s := S5) ![0] S1.size hh)).squeeze S_ squeezes_S1_S_ = tc0 := rfl
abbrev tcellP0 : sProp 𝕄 := semVal ((c : Thread nD τ), SemLoc.dma (tc0).sem) 0
abbrev tslotP0 (f : Buf (Elt F) (ts0.view.loc (c : Thread nD τ))) : sProp 𝕄 := ts0.view.loc (c : Thread nD τ) ↦[ts0.view.set]{fullShare} f
abbrev tblkP0 (q : PosShare TreeShare) : sProp 𝕄 := tw0.view.loc (c : Thread nD τ) ↦[tw0.view.set]{q} XW
abbrev tpay0 : S3072x512.Idx → Elt F .fp8e4m3 := ReadAs.same.apply (tw0.view.read (Elt F) XW)
abbrev tflightP0 (q : PosShare TreeShare) (f : Buf (Elt F) (ts0.view.loc (c : Thread nD τ))) : sProp 𝕄 :=
  Transfers.Flight countersEmb (c : Thread nD τ) (SemLoc.dma (tc0).sem) () 49152
    iprop(tslotP0 c (ts0.view.writes (Elt F) f [⟨Rect.whole S3072x512, tpay0 c XW⟩]) ∗ tblkP0 c XW q)

/-- Piece 1: rows 3072 to 5119 of the last block. -/
def ts1 : Memref sig .tc .vmem S2048x512 .fp8e4m3 :=
  (bRing.slice (Rect.unit (s := S4x7168x512) ![2, 3072, 0] S1x2048x512.size inb_S4x7168x512_S1x2048x512_2_3072_0) (fun _ => rfl)).squeeze S2048x512 squeezes_S1x2048x512_S2048x512
def tw1 : Memref sig .tc .hbm S2048x512 .fp8e4m3 :=
  aW.slice (Rect.unit (s := S7168x32256) ![3072, 31744] S2048x512.size inb_S7168x32256_S2048x512_3072_31744) (fun _ => rfl)
def tc1 : DmaSems sig S_ := (cc0_scratch20.slice (Rect.unit (s := S5) ![1] S1.size inb_S5_S1_1)).squeeze S_ squeezes_S1_S_
@[sl_canon] theorem tsL1 (hh hs) : (bRing.slice (Rect.unit (s := S4x7168x512) ![2, 3072, 0] S1x2048x512.size hh) hs).squeeze S2048x512 squeezes_S1x2048x512_S2048x512 = ts1 := rfl
@[sl_canon] theorem twL1 (hh hs) : aW.slice (Rect.unit (s := S7168x32256) ![3072, 31744] S2048x512.size hh) hs = tw1 := rfl
@[sl_canon] theorem tcL1 (hh) : (cc0_scratch20.slice (Rect.unit (s := S5) ![1] S1.size hh)).squeeze S_ squeezes_S1_S_ = tc1 := rfl
abbrev tcellP1 : sProp 𝕄 := semVal ((c : Thread nD τ), SemLoc.dma (tc1).sem) 0
abbrev tslotP1 (f : Buf (Elt F) (ts1.view.loc (c : Thread nD τ))) : sProp 𝕄 := ts1.view.loc (c : Thread nD τ) ↦[ts1.view.set]{fullShare} f
abbrev tblkP1 (q : PosShare TreeShare) : sProp 𝕄 := tw1.view.loc (c : Thread nD τ) ↦[tw1.view.set]{q} XW
abbrev tpay1 : S2048x512.Idx → Elt F .fp8e4m3 := ReadAs.same.apply (tw1.view.read (Elt F) XW)
abbrev tflightP1 (q : PosShare TreeShare) (f : Buf (Elt F) (ts1.view.loc (c : Thread nD τ))) : sProp 𝕄 :=
  Transfers.Flight countersEmb (c : Thread nD τ) (SemLoc.dma (tc1).sem) () 32768
    iprop(tslotP1 c (ts1.view.writes (Elt F) f [⟨Rect.whole S2048x512, tpay1 c XW⟩]) ∗ tblkP1 c XW q)

/-- Piece 2: rows 5120 to 6399 of the last block. -/
def ts2 : Memref sig .tc .vmem S1280x512 .fp8e4m3 :=
  (bRing.slice (Rect.unit (s := S4x7168x512) ![2, 5120, 0] S1x1280x512.size inb_S4x7168x512_S1x1280x512_2_5120_0) (fun _ => rfl)).squeeze S1280x512 squeezes_S1x1280x512_S1280x512
def tw2 : Memref sig .tc .hbm S1280x512 .fp8e4m3 :=
  aW.slice (Rect.unit (s := S7168x32256) ![5120, 31744] S1280x512.size inb_S7168x32256_S1280x512_5120_31744) (fun _ => rfl)
def tc2 : DmaSems sig S_ := (cc0_scratch20.slice (Rect.unit (s := S5) ![2] S1.size inb_S5_S1_2)).squeeze S_ squeezes_S1_S_
@[sl_canon] theorem tsL2 (hh hs) : (bRing.slice (Rect.unit (s := S4x7168x512) ![2, 5120, 0] S1x1280x512.size hh) hs).squeeze S1280x512 squeezes_S1x1280x512_S1280x512 = ts2 := rfl
@[sl_canon] theorem twL2 (hh hs) : aW.slice (Rect.unit (s := S7168x32256) ![5120, 31744] S1280x512.size hh) hs = tw2 := rfl
@[sl_canon] theorem tcL2 (hh) : (cc0_scratch20.slice (Rect.unit (s := S5) ![2] S1.size hh)).squeeze S_ squeezes_S1_S_ = tc2 := rfl
abbrev tcellP2 : sProp 𝕄 := semVal ((c : Thread nD τ), SemLoc.dma (tc2).sem) 0
abbrev tslotP2 (f : Buf (Elt F) (ts2.view.loc (c : Thread nD τ))) : sProp 𝕄 := ts2.view.loc (c : Thread nD τ) ↦[ts2.view.set]{fullShare} f
abbrev tblkP2 (q : PosShare TreeShare) : sProp 𝕄 := tw2.view.loc (c : Thread nD τ) ↦[tw2.view.set]{q} XW
abbrev tpay2 : S1280x512.Idx → Elt F .fp8e4m3 := ReadAs.same.apply (tw2.view.read (Elt F) XW)
abbrev tflightP2 (q : PosShare TreeShare) (f : Buf (Elt F) (ts2.view.loc (c : Thread nD τ))) : sProp 𝕄 :=
  Transfers.Flight countersEmb (c : Thread nD τ) (SemLoc.dma (tc2).sem) () 20480
    iprop(tslotP2 c (ts2.view.writes (Elt F) f [⟨Rect.whole S1280x512, tpay2 c XW⟩]) ∗ tblkP2 c XW q)

/-- Piece 3: rows 6400 to 6911 of the last block. -/
def ts3 : Memref sig .tc .vmem S512x512 .fp8e4m3 :=
  (bRing.slice (Rect.unit (s := S4x7168x512) ![2, 6400, 0] S1x512x512.size inb_S4x7168x512_S1x512x512_2_6400_0) (fun _ => rfl)).squeeze S512x512 squeezes_S1x512x512_S512x512
def tw3 : Memref sig .tc .hbm S512x512 .fp8e4m3 :=
  aW.slice (Rect.unit (s := S7168x32256) ![6400, 31744] S512x512.size inb_S7168x32256_S512x512_6400_31744) (fun _ => rfl)
def tc3 : DmaSems sig S_ := (cc0_scratch20.slice (Rect.unit (s := S5) ![3] S1.size inb_S5_S1_3)).squeeze S_ squeezes_S1_S_
@[sl_canon] theorem tsL3 (hh hs) : (bRing.slice (Rect.unit (s := S4x7168x512) ![2, 6400, 0] S1x512x512.size hh) hs).squeeze S512x512 squeezes_S1x512x512_S512x512 = ts3 := rfl
@[sl_canon] theorem twL3 (hh hs) : aW.slice (Rect.unit (s := S7168x32256) ![6400, 31744] S512x512.size hh) hs = tw3 := rfl
@[sl_canon] theorem tcL3 (hh) : (cc0_scratch20.slice (Rect.unit (s := S5) ![3] S1.size hh)).squeeze S_ squeezes_S1_S_ = tc3 := rfl
abbrev tcellP3 : sProp 𝕄 := semVal ((c : Thread nD τ), SemLoc.dma (tc3).sem) 0
abbrev tslotP3 (f : Buf (Elt F) (ts3.view.loc (c : Thread nD τ))) : sProp 𝕄 := ts3.view.loc (c : Thread nD τ) ↦[ts3.view.set]{fullShare} f
abbrev tblkP3 (q : PosShare TreeShare) : sProp 𝕄 := tw3.view.loc (c : Thread nD τ) ↦[tw3.view.set]{q} XW
abbrev tpay3 : S512x512.Idx → Elt F .fp8e4m3 := ReadAs.same.apply (tw3.view.read (Elt F) XW)
abbrev tflightP3 (q : PosShare TreeShare) (f : Buf (Elt F) (ts3.view.loc (c : Thread nD τ))) : sProp 𝕄 :=
  Transfers.Flight countersEmb (c : Thread nD τ) (SemLoc.dma (tc3).sem) () 8192
    iprop(tslotP3 c (ts3.view.writes (Elt F) f [⟨Rect.whole S512x512, tpay3 c XW⟩]) ∗ tblkP3 c XW q)

/-- Piece 4: rows 6912 to 7167 of the last block. -/
def ts4 : Memref sig .tc .vmem S256x512 .fp8e4m3 :=
  (bRing.slice (Rect.unit (s := S4x7168x512) ![2, 6912, 0] S1x256x512.size inb_S4x7168x512_S1x256x512_2_6912_0) (fun _ => rfl)).squeeze S256x512 squeezes_S1x256x512_S256x512
def tw4 : Memref sig .tc .hbm S256x512 .fp8e4m3 :=
  aW.slice (Rect.unit (s := S7168x32256) ![6912, 31744] S256x512.size inb_S7168x32256_S256x512_6912_31744) (fun _ => rfl)
def tc4 : DmaSems sig S_ := (cc0_scratch20.slice (Rect.unit (s := S5) ![4] S1.size inb_S5_S1_4)).squeeze S_ squeezes_S1_S_
@[sl_canon] theorem tsL4 (hh hs) : (bRing.slice (Rect.unit (s := S4x7168x512) ![2, 6912, 0] S1x256x512.size hh) hs).squeeze S256x512 squeezes_S1x256x512_S256x512 = ts4 := rfl
@[sl_canon] theorem twL4 (hh hs) : aW.slice (Rect.unit (s := S7168x32256) ![6912, 31744] S256x512.size hh) hs = tw4 := rfl
@[sl_canon] theorem tcL4 (hh) : (cc0_scratch20.slice (Rect.unit (s := S5) ![4] S1.size hh)).squeeze S_ squeezes_S1_S_ = tc4 := rfl
abbrev tcellP4 : sProp 𝕄 := semVal ((c : Thread nD τ), SemLoc.dma (tc4).sem) 0
abbrev tslotP4 (f : Buf (Elt F) (ts4.view.loc (c : Thread nD τ))) : sProp 𝕄 := ts4.view.loc (c : Thread nD τ) ↦[ts4.view.set]{fullShare} f
abbrev tblkP4 (q : PosShare TreeShare) : sProp 𝕄 := tw4.view.loc (c : Thread nD τ) ↦[tw4.view.set]{q} XW
abbrev tpay4 : S256x512.Idx → Elt F .fp8e4m3 := ReadAs.same.apply (tw4.view.read (Elt F) XW)
abbrev tflightP4 (q : PosShare TreeShare) (f : Buf (Elt F) (ts4.view.loc (c : Thread nD τ))) : sProp 𝕄 :=
  Transfers.Flight countersEmb (c : Thread nD τ) (SemLoc.dma (tc4).sem) () 4096
    iprop(tslotP4 c (ts4.view.writes (Elt F) f [⟨Rect.whole S256x512, tpay4 c XW⟩]) ∗ tblkP4 c XW q)

end Cert.KernelIdeal.Hand

end
-- ==== Proof.KI.Trip.lean ====
/-
  One trip of the kernel's loop.
-/
module

public import proofs.«01_k».proof.Proof.KI.Vals
public import proofs.«01_k».proof.Proof.KI.Tail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tripG (v27 : IVec S8x128 32) (v173 : IVec S40x128 32) (v1491 : FVec F S8x512 .f32) (c1 : BitVec 32) (k : Fin k0_t1_loop.trips) (acc : FVec F S8x512 .f32) :
    Prog (TpuEff nD τ sig (Elt F) Λ₀ .tc) (FVec F S8x512 .f32) :=
  k0_t1_body (F := F) aX (Memref.isWhole_whole _) aW (Memref.isWhole_whole _) aWs (Memref.isWhole_whole _) aBm (Memref.isWhole_whole _)
    aId (Memref.isWhole_whole _) oMl (Memref.isWhole_whole _) oLse (Memref.isWhole_whole _) oClp (Memref.isWhole_whole _)
    oXc (Memref.isWhole_whole _) oXs (Memref.isWhole_whole _) bRing (Memref.isWhole_whole _) bX (Memref.isWhole_whole _)
    bWs (Memref.isWhole_whole _) bBm (Memref.isWhole_whole _) bId (Memref.isWhole_whole _) bMl (Memref.isWhole_whole _)
    bLse (Memref.isWhole_whole _) bClp (Memref.isWhole_whole _) bXc (Memref.isWhole_whole _) bXs (Memref.isWhole_whole _)
    bXf (Memref.isWhole_whole _) bXq (Memref.isWhole_whole _) bWords (Memref.isWhole_whole _) bCid (Memref.isWhole_whole _)
    bCok (Memref.isWhole_whole _) bCacc (Memref.isWhole_whole _) bXsb (Memref.isWhole_whole _) bM (Memref.isWhole_whole _)
    bS (Memref.isWhole_whole _) cc0_scratch19 cc0_scratch20 cc0_scratch21 cc0_scratch22 cc0_scratch23 v27 v173 v1491 c1 k acc

theorem cond1_of : ∀ k : Fin k0_t1_loop.trips, k.val + 4 < 62 → k0_cond1 k = 1#1 := by decide +kernel
theorem cond1_not : ∀ k : Fin k0_t1_loop.trips, 62 ≤ k.val + 4 → ¬ k0_cond1 k = 1#1 := by decide +kernel
theorem cond2_of : ∀ k : Fin k0_t1_loop.trips, k.val + 4 ≠ 62 →
    ¬ (Scalar.cmpi .ne (Scalar.extui (Scalar.cmpi .eq (Scalar.subi (Scalar.addi (Scf.iv 1#32 1#32 k.val) 4#32) 1#32) 62#32)) 0#32 = (1#1 : BitVec 1)) := by decide +kernel
theorem cond2_at : ∀ k : Fin k0_t1_loop.trips, k.val + 4 = 62 →
    (Scalar.cmpi .ne (Scalar.extui (Scalar.cmpi .eq (Scalar.subi (Scalar.addi (Scf.iv 1#32 1#32 k.val) 4#32) 1#32) 62#32)) 0#32 = (1#1 : BitVec 1)) := by decide +kernel

section
variable (c : Dev nD) (XW : BufOf F c aW) (v27 : IVec S8x128 32) (v173 : IVec S40x128 32)
  (fa : BufOf F c bXq) (fw : BufOf F c bWords) (fs : BufOf F c bXsb) (fws : BufOf F c bWs) (fcid : BufOf F c bCid)
  (raw : ℕ → FVec F S8x512 .f32) (st0 : St F)

/-- The buffers the loop only reads. -/
abbrev FixP : sProp 𝕄 := iprop(pt c bXq fa ∗ pt c bWords fw ∗ pt c bXsb fs ∗ pt c bWs fws ∗ pt c bCid fcid)

/-- The buffers of the running state and the masked logits, before block `k`. -/
abbrev AccP (k : ℕ) : sProp 𝕄 :=
  iprop((∃ fml, ⌜mlFact c (maskV c v27 fw) (lgV c fs fws raw) k fml⌝ ∗ pt c bMl fml)
    ∗ (∃ fm, ⌜rdM c fm = (stV c v27 v173 fw fs fws fcid raw st0 k).m⌝ ∗ pt c bM fm)
    ∗ (∃ fm, ⌜rdS c fm = (stV c v27 v173 fw fs fws fcid raw st0 k).s⌝ ∗ pt c bS fm)
    ∗ (∃ fm, ⌜caFact c fm (stV c v27 v173 fw fs fws fcid raw st0 k)⌝ ∗ pt c bCacc fm))

set_option maxHeartbeats 2000000 in
/-- A trip that sends off another whole block. -/
theorem tripA (v1491 : FVec F S8x512 .f32) (c1 : BitVec 32) (k : Fin k0_t1_loop.trips) (acc : FVec F S8x512 .f32)
    (hk : k.val + 4 < 62) (hc : c1 = 1#32) (hacc : acc = raw k.val) (hraw : rawV c XW fa (k.val + 1) = raw (k.val + 1))
    (q q' : PosShare TreeShare) (f0) (f1) :
   (iprop(flightP c XW q (Ring.sl 4 (k.val+1)) (Ring.bk 62 (k.val+1)) f0
      ∗ slotP c (Ring.sl 4 (k.val+4)) f1 ∗ cellP c (Ring.sl 4 (k.val+4)) ∗ blkP c XW q' (Ring.bk 62 (k.val+4))
      ∗ FixP c fa fw fs fws fcid ∗ AccP c v27 v173 fw fs fws fcid raw st0 k.val
      ∗ (∃ W, owes (c : Thread nD τ) 0 W)) : sProp 𝕄)
   ⊢ wp frame (wpE (defs₀ (F := F)) 𝒱₀ (c : Thread nD τ) none) Set.univ (tripG v27 v173 v1491 c1 k acc)
      (fun y => iprop(⌜y = raw (k.val + 1)⌝ ∗ (∃ f, slotP c (Ring.sl 4 (k.val+1)) f) ∗ cellP c (Ring.sl 4 (k.val+1)) ∗ blkP c XW q (Ring.bk 62 (k.val+1))
        ∗ (∃ f, flightP c XW q' (Ring.sl 4 (k.val+4)) (Ring.bk 62 (k.val+4)) f) ∗ FixP c fa fw fs fws fcid ∗ AccP c v27 v173 fw fs fws fcid raw st0 (k.val + 1)
        ∗ (∃ W, owes (c : Thread nD τ) 0 W))) := by
  subst hc; subst hacc
  iintro ⟨HF0, HR1, HC1, HB1, ⟨HA, HWd, HXs, HWs, HCid⟩, ⟨⟨%fml, %hml, HMl⟩, ⟨%fm, %hm, HM⟩, ⟨%fss, %hs, HS⟩, ⟨%fca, %hca, HCa⟩⟩, ⟨%W, HW⟩⟩
  dsimp only [tripG]
  have h1 := cond1_of k hk
  have h2 := cond2_of k (by omega)
  have hlt := trip_lt k
  have eW : bWords.view.readAt (Elt F) (Rect.unit (s := S8x1024) (k0_off11 k) S8x128.size (k0_off11_inb k)).toLoadRect fw = rdWords c k.val fw := rdWords_eq c fw k.val (off11_eq k) _ (by omega)
  have eS : bWs.view.readAt (Elt F) (Rect.unit (s := S1x32256) (k0_off12 k) S1x512.size (k0_off12_inb k)).toLoadRect fws = rdWs c k.val fws := rdWs_eq c fws k.val (k0_off12_eq k) _ (by omega)
  sl_unfold [k0_t1_body]
  sl_exec
  sl_step
  have eB : ∀ k, tripA.sl.v2485 k = baseW k.val := by decide +kernel
  have eC : ∀ k, tripA.sl.v2457 k = colW k.val := by decide +kernel
  have eM : tripA.sl.r_2 (F := F) c v27 fw k = maskV c v27 fw k.val := by rw [maskV, ← eB]; rfl
  isplitr
  · ipureintro
    exact (congrArg (dotBlk (rdXq c fa)) (slotRead c XW _ _ _ (off10_eq k) _)).trans hraw
  isplitl [HF0_dst]; · iexists _; iexact HF0_dst
  isplitl [HF0]; · iexact HF0
  isplitl [HF0_src]; · iexact HF0_src
  isplitl [HC1]; · iexists _; iexact HC1
  isplitl [HA HWd HXs HWs HCid]
  · isplitl [HA]; · iexact HA
    isplitl [HWd]; · iexact HWd
    isplitl [HXs]; · iexact HXs
    isplitl [HWs]; · iexact HWs
    iexact HCid
  isplitl [HMl HM HS HCa]
  · isplitl [HMl]
    · iexists _
      isplitr
      swap; · iexact HMl
      ipureintro
      refine mlFact_step c _ _ k.val fml hml (by omega) (k0_off13_eq k) (k0_off14_eq k) (k0_off15_eq k) _ _ _ _ _ _ ?_ ?_ ?_
      · intro x; rw [← eM]; exact (row_at0 (mlBlk (tripA.sl.r_2 (F := F) c v27 fw k) (lgV c fs fws raw k.val)) x)
      · intro x; rw [← eM]; exact (row_at1 (mlBlk (tripA.sl.r_2 (F := F) c v27 fw k) (lgV c fs fws raw k.val)) x)
      · intro x; rw [← eM]; exact (row_at2 (mlBlk (tripA.sl.r_2 (F := F) c v27 fw k) (lgV c fs fws raw k.val)) x)
    isplitl [HM]
    · iexists _
      isplitr
      swap; · iexact HM
      ipureintro
      rw [stV]
      refine (funext fun j => View.read_writes_cons_emb bM.view fm R88 _ _ j).trans ?_
      show _ = k0_pay34 _ _ _
      rw [← hm, ← eM]; rfl
    isplitl [HS]
    · iexists _
      isplitr
      swap; · iexact HS
      ipureintro
      rw [stV]
      refine (funext fun j => View.read_writes_cons_emb bS.view fss R88 _ _ j).trans ?_
      show _ = k0_pay35 _ _ _ _
      rw [← hm, ← hs, ← eM]; rfl
    · iexists _
      isplitr
      swap; · iexact HCa
      ipureintro
      obtain ⟨hc0, hc1, hc2⟩ := hca
      rw [stV]
      refine caFact_step c fca _ _ _ _ ?_ ?_ ?_
      · show _ = k0_pay39 _ _ _ _ _ _
        rw [← hc0, ← eC]; rfl
      · show _ = k0_pay44 _ _ _ _ _ _ _
        rw [← hc1, ← eC]; rfl
      · show _ = k0_pay182 _ _ _ _ _ _ _
        rw [← hc2, ← eC]; rfl
  iexists _; iexact HW

set_option maxHeartbeats 2000000 in
/-- The trip that sends off the five row pieces of the last block. -/
theorem tripT (v1491 : FVec F S8x512 .f32) (c1 : BitVec 32) (k : Fin k0_t1_loop.trips) (acc : FVec F S8x512 .f32)
    (hk : k.val + 4 = 62) (hc : c1 = 1#32) (hacc : acc = raw k.val) (hraw : rawV c XW fa (k.val + 1) = raw (k.val + 1))
    (q q' : PosShare TreeShare) (f0) (Q : Fin 5 → PosShare TreeShare) (g0) (g1) (g2) (g3) (g4)  :
   (iprop(flightP c XW q (Ring.sl 4 (k.val+1)) (Ring.bk 62 (k.val+1)) f0
      ∗ tslotP0 c g0 ∗ tcellP0 c ∗ tblkP0 c XW (Q 0) ∗ tslotP1 c g1 ∗ tcellP1 c ∗ tblkP1 c XW (Q 1) ∗ tslotP2 c g2 ∗ tcellP2 c ∗ tblkP2 c XW (Q 2) ∗ tslotP3 c g3 ∗ tcellP3 c ∗ tblkP3 c XW (Q 3) ∗ tslotP4 c g4 ∗ tcellP4 c ∗ tblkP4 c XW (Q 4) ∗ FixP c fa fw fs fws fcid ∗ AccP c v27 v173 fw fs fws fcid raw st0 k.val
      ∗ (∃ W, owes (c : Thread nD τ) 0 W)) : sProp 𝕄)
   ⊢ wp frame (wpE (defs₀ (F := F)) 𝒱₀ (c : Thread nD τ) none) Set.univ (tripG v27 v173 v1491 c1 k acc)
      (fun y => iprop(⌜y = raw (k.val + 1)⌝ ∗ (∃ f, slotP c (Ring.sl 4 (k.val+1)) f) ∗ cellP c (Ring.sl 4 (k.val+1)) ∗ blkP c XW q (Ring.bk 62 (k.val+1))
        ∗ (∃ f, tflightP0 c XW (Q 0) f) ∗ (∃ f, tflightP1 c XW (Q 1) f) ∗ (∃ f, tflightP2 c XW (Q 2) f) ∗ (∃ f, tflightP3 c XW (Q 3) f) ∗ (∃ f, tflightP4 c XW (Q 4) f) ∗ FixP c fa fw fs fws fcid ∗ AccP c v27 v173 fw fs fws fcid raw st0 (k.val + 1)
        ∗ (∃ W, owes (c : Thread nD τ) 0 W))) := by
  subst hc; subst hacc
  iintro ⟨HF0, HT0, HC0, HB0, HT1, HC1, HB1, HT2, HC2, HB2, HT3, HC3, HB3, HT4, HC4, HB4, ⟨HA, HWd, HXs, HWs, HCid⟩, ⟨⟨%fml, %hml, HMl⟩, ⟨%fm, %hm, HM⟩, ⟨%fss, %hs, HS⟩, ⟨%fca, %hca, HCa⟩⟩, ⟨%W, HW⟩⟩
  dsimp only [tripG]
  have h1 := cond1_not k (by omega)
  have h2 := cond2_at k hk
  have hlt := trip_lt k
  have eW : bWords.view.readAt (Elt F) (Rect.unit (s := S8x1024) (k0_off11 k) S8x128.size (k0_off11_inb k)).toLoadRect fw = rdWords c k.val fw := rdWords_eq c fw k.val (off11_eq k) _ (by omega)
  have eS : bWs.view.readAt (Elt F) (Rect.unit (s := S1x32256) (k0_off12 k) S1x512.size (k0_off12_inb k)).toLoadRect fws = rdWs c k.val fws := rdWs_eq c fws k.val (k0_off12_eq k) _ (by omega)
  sl_unfold [k0_t1_body]
  sl_exec
  sl_step
  have eB : ∀ k, tripT.sl.v2485 k = baseW k.val := by decide +kernel
  have eC : ∀ k, tripT.sl.v2457 k = colW k.val := by decide +kernel
  have eM : tripT.sl.r_2 (F := F) c v27 fw k = maskV c v27 fw k.val := by rw [maskV, ← eB]; rfl
  isplitr
  · ipureintro
    exact (congrArg (dotBlk (rdXq c fa)) (slotRead c XW _ _ _ (off10_eq k) _)).trans hraw
  isplitl [HF0_dst]; · iexists _; iexact HF0_dst
  isplitl [HF0]; · iexact HF0
  isplitl [HF0_src]; · iexact HF0_src
  isplitl [HC0]; · iexists _; iexact HC0
  isplitl [HC1]; · iexists _; iexact HC1
  isplitl [HC2]; · iexists _; iexact HC2
  isplitl [HC3]; · iexists _; iexact HC3
  isplitl [HC4]; · iexists _; iexact HC4
  isplitl [HA HWd HXs HWs HCid]
  · isplitl [HA]; · iexact HA
    isplitl [HWd]; · iexact HWd
    isplitl [HXs]; · iexact HXs
    isplitl [HWs]; · iexact HWs
    iexact HCid
  isplitl [HMl HM HS HCa]
  · isplitl [HMl]
    · iexists _
      isplitr
      swap; · iexact HMl
      ipureintro
      refine mlFact_step c _ _ k.val fml hml (by omega) (k0_off13_eq k) (k0_off14_eq k) (k0_off15_eq k) _ _ _ _ _ _ ?_ ?_ ?_
      · intro x; rw [← eM]; exact (row_at0 (mlBlk (tripT.sl.r_2 (F := F) c v27 fw k) (lgV c fs fws raw k.val)) x)
      · intro x; rw [← eM]; exact (row_at1 (mlBlk (tripT.sl.r_2 (F := F) c v27 fw k) (lgV c fs fws raw k.val)) x)
      · intro x; rw [← eM]; exact (row_at2 (mlBlk (tripT.sl.r_2 (F := F) c v27 fw k) (lgV c fs fws raw k.val)) x)
    isplitl [HM]
    · iexists _
      isplitr
      swap; · iexact HM
      ipureintro
      rw [stV]
      refine (funext fun j => View.read_writes_cons_emb bM.view fm R88 _ _ j).trans ?_
      show _ = k0_pay34 _ _ _
      rw [← hm, ← eM]; rfl
    isplitl [HS]
    · iexists _
      isplitr
      swap; · iexact HS
      ipureintro
      rw [stV]
      refine (funext fun j => View.read_writes_cons_emb bS.view fss R88 _ _ j).trans ?_
      show _ = k0_pay35 _ _ _ _
      rw [← hm, ← hs, ← eM]; rfl
    · iexists _
      isplitr
      swap; · iexact HCa
      ipureintro
      obtain ⟨hc0, hc1, hc2⟩ := hca
      rw [stV]
      refine caFact_step c fca _ _ _ _ ?_ ?_ ?_
      · show _ = k0_pay39 _ _ _ _ _ _
        rw [← hc0, ← eC]; rfl
      · show _ = k0_pay44 _ _ _ _ _ _ _
        rw [← hc1, ← eC]; rfl
      · show _ = k0_pay182 _ _ _ _ _ _ _
        rw [← hc2, ← eC]; rfl
  iexists _; iexact HW

set_option maxHeartbeats 2000000 in
/-- A trip that sends nothing off. -/
theorem tripE (v1491 : FVec F S8x512 .f32) (c1 : BitVec 32) (k : Fin k0_t1_loop.trips) (acc : FVec F S8x512 .f32)
    (hk : 62 < k.val + 4) (hc : c1 = 1#32) (hacc : acc = raw k.val) (hraw : rawV c XW fa (k.val + 1) = raw (k.val + 1))
    (q q' : PosShare TreeShare) (f0)  :
   (iprop(flightP c XW q (Ring.sl 4 (k.val+1)) (Ring.bk 62 (k.val+1)) f0
      ∗ FixP c fa fw fs fws fcid ∗ AccP c v27 v173 fw fs fws fcid raw st0 k.val
      ∗ (∃ W, owes (c : Thread nD τ) 0 W)) : sProp 𝕄)
   ⊢ wp frame (wpE (defs₀ (F := F)) 𝒱₀ (c : Thread nD τ) none) Set.univ (tripG v27 v173 v1491 c1 k acc)
      (fun y => iprop(⌜y = raw (k.val + 1)⌝ ∗ (∃ f, slotP c (Ring.sl 4 (k.val+1)) f) ∗ cellP c (Ring.sl 4 (k.val+1)) ∗ blkP c XW q (Ring.bk 62 (k.val+1))
        ∗ FixP c fa fw fs fws fcid ∗ AccP c v27 v173 fw fs fws fcid raw st0 (k.val + 1)
        ∗ (∃ W, owes (c : Thread nD τ) 0 W))) := by
  subst hc; subst hacc
  iintro ⟨HF0, ⟨HA, HWd, HXs, HWs, HCid⟩, ⟨⟨%fml, %hml, HMl⟩, ⟨%fm, %hm, HM⟩, ⟨%fss, %hs, HS⟩, ⟨%fca, %hca, HCa⟩⟩, ⟨%W, HW⟩⟩
  dsimp only [tripG]
  have h1 := cond1_not k (by omega)
  have h2 := cond2_of k (by omega)
  have hlt := trip_lt k
  have eW : bWords.view.readAt (Elt F) (Rect.unit (s := S8x1024) (k0_off11 k) S8x128.size (k0_off11_inb k)).toLoadRect fw = rdWords c k.val fw := rdWords_eq c fw k.val (off11_eq k) _ (by omega)
  have eS : bWs.view.readAt (Elt F) (Rect.unit (s := S1x32256) (k0_off12 k) S1x512.size (k0_off12_inb k)).toLoadRect fws = rdWs c k.val fws := rdWs_eq c fws k.val (k0_off12_eq k) _ (by omega)
  sl_unfold [k0_t1_body]
  sl_exec
  sl_step
  have eB : ∀ k, tripE.sl.v2485 k = baseW k.val := by decide +kernel
  have eC : ∀ k, tripE.sl.v2457 k = colW k.val := by decide +kernel
  have eM : tripE.sl.r_2 (F := F) c v27 fw k = maskV c v27 fw k.val := by rw [maskV, ← eB]; rfl
  isplitr
  · ipureintro
    exact (congrArg (dotBlk (rdXq c fa)) (slotRead c XW _ _ _ (off10_eq k) _)).trans hraw
  isplitl [HF0_dst]; · iexists _; iexact HF0_dst
  isplitl [HF0]; · iexact HF0
  isplitl [HF0_src]; · iexact HF0_src
  isplitl [HA HWd HXs HWs HCid]
  · isplitl [HA]; · iexact HA
    isplitl [HWd]; · iexact HWd
    isplitl [HXs]; · iexact HXs
    isplitl [HWs]; · iexact HWs
    iexact HCid
  isplitl [HMl HM HS HCa]
  · isplitl [HMl]
    · iexists _
      isplitr
      swap; · iexact HMl
      ipureintro
      refine mlFact_step c _ _ k.val fml hml (by omega) (k0_off13_eq k) (k0_off14_eq k) (k0_off15_eq k) _ _ _ _ _ _ ?_ ?_ ?_
      · intro x; rw [← eM]; exact (row_at0 (mlBlk (tripE.sl.r_2 (F := F) c v27 fw k) (lgV c fs fws raw k.val)) x)
      · intro x; rw [← eM]; exact (row_at1 (mlBlk (tripE.sl.r_2 (F := F) c v27 fw k) (lgV c fs fws raw k.val)) x)
      · intro x; rw [← eM]; exact (row_at2 (mlBlk (tripE.sl.r_2 (F := F) c v27 fw k) (lgV c fs fws raw k.val)) x)
    isplitl [HM]
    · iexists _
      isplitr
      swap; · iexact HM
      ipureintro
      rw [stV]
      refine (funext fun j => View.read_writes_cons_emb bM.view fm R88 _ _ j).trans ?_
      show _ = k0_pay34 _ _ _
      rw [← hm, ← eM]; rfl
    isplitl [HS]
    · iexists _
      isplitr
      swap; · iexact HS
      ipureintro
      rw [stV]
      refine (funext fun j => View.read_writes_cons_emb bS.view fss R88 _ _ j).trans ?_
      show _ = k0_pay35 _ _ _ _
      rw [← hm, ← hs, ← eM]; rfl
    · iexists _
      isplitr
      swap; · iexact HCa
      ipureintro
      obtain ⟨hc0, hc1, hc2⟩ := hca
      rw [stV]
      refine caFact_step c fca _ _ _ _ ?_ ?_ ?_
      · show _ = k0_pay39 _ _ _ _ _ _
        rw [← hc0, ← eC]; rfl
      · show _ = k0_pay44 _ _ _ _ _ _ _
        rw [← hc1, ← eC]; rfl
      · show _ = k0_pay182 _ _ _ _ _ _ _
        rw [← hc2, ← eC]; rfl
  iexists _; iexact HW

end

end Cert.KernelIdeal.Hand

end
-- ==== Proof.KI.Split.lean ====
/-
  The ring buffer as its four slots, slot 2 as the five row pieces of the last block, and the weight codes as nine read
  tokens (one for each slot, one for each row piece).
-/
module

public import proofs.«01_k».proof.Proof.KI.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Slots of the ring -/

def Sl (s : Fin 4) : Finset S4x7168x512.Idx := (Rect.unit (s := S4x7168x512) (slotOff s) S1x7168x512.size (slotOff_inb s)).set
theorem rslot_set (s : Fin 4) : (rslot s).view.set = Sl s := (View.set_reshape _ _).trans (View.set_slice_whole _ _)
theorem mem_Sl (s : Fin 4) (y : S4x7168x512.Idx) : y ∈ Sl s ↔ (y 0).val = s.val := by
  rw [Sl, Rect.mem_set_unit]
  have h1 : (y 1).val < 7168 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 7168; omega
    · show 0 ≤ (y 2).val ∧ (y 2).val < 0 + 512; omega
theorem Sl_disjoint : ∀ s s' : Fin 4, s ≠ s' → Disjoint (Sl s) (Sl s') := by
  intro s s' hne; rw [Finset.disjoint_left]; intro y hy hy'; rw [mem_Sl] at hy hy'; exact hne (Fin.ext (hy.symm.trans hy'))
theorem Sl_cover : (Finset.univ : Finset (Fin 4)).biUnion Sl = Finset.univ := by
  ext y; simp only [Finset.mem_biUnion, Finset.mem_univ, true_and, iff_true]; exact ⟨(y 0).cast (by decide), by rw [mem_Sl]; rfl⟩

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

omit [FloatOps F] in
theorem slotP_eq (c : Dev nD) (s : Fin 4) (f) : slotP c s f = (((c : Thread nD τ).loc cc0_scratch0) ↦[Sl s]{fullShare} f : sProp 𝕄) :=
  congrArg (fun S => (_ ↦[S]{fullShare} f : sProp 𝕄)) (rslot_set s)

omit [FloatOps F] in
/-- The ring whole is its four slots, and back. -/
theorem ring_split (c : Dev nD) (f : Buf (Elt F) ((c : Thread nD τ).loc cc0_scratch0)) :
    (((c : Thread nD τ).loc cc0_scratch0) ↦{fullShare} f : sProp 𝕄) ⊢ iprop(slotP c 0 f ∗ slotP c 1 f ∗ slotP c 2 f ∗ slotP c 3 f) := by
  iintro H
  ihave H2 := (Entails.of_eq ((Ring.pointsTo_blocks (Ix := Unit) (Name := ℕ) (U := Pipeline.UD sig nD τ) (Lvl := ℕ) (q := fullShare) (ℓ := (c : Thread nD τ).loc cc0_scratch0) Sl Sl_disjoint Sl_cover f).trans (bigSep_fin4 _))) $$ H
  icases H2 with ⟨H0, H1, H2, H3⟩
  isplitl [H0]
  · iapply (Entails.of_eq (slotP_eq c 0 f).symm); iexact H0
  isplitl [H1]
  · iapply (Entails.of_eq (slotP_eq c 1 f).symm); iexact H1
  isplitl [H2]
  · iapply (Entails.of_eq (slotP_eq c 2 f).symm); iexact H2
  iapply (Entails.of_eq (slotP_eq c 3 f).symm); iexact H3
omit [FloatOps F] in
theorem ring_join (c : Dev nD) :
    (iprop((∃ f, slotP c 0 f) ∗ (∃ f, slotP c 1 f) ∗ (∃ f, slotP c 2 f) ∗ ∃ f, slotP c 3 f) : sProp 𝕄)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) Sl Sl_disjoint Sl_cover f0)
  irw [bigSep_fin4]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  iexists f3; iapply (Entails.of_eq (slotP_eq c 3 f3)); iexact H3

/-! ## The row pieces of slot 2 -/

def rs : Fin 5 → ℕ := ![0, 3072, 5120, 6400, 6912]
def rn : Fin 5 → ℕ := ![3072, 2048, 1280, 512, 256]
theorem rs_inb (j : Fin 5) : ∀ a, (![2, rs j, 0] : Fin 3 → ℕ) a + (![1, rn j, 512] : Fin 3 → ℕ) a ≤ S4x7168x512.size a := by
  revert j; decide
def Tl (j : Fin 5) : Finset S4x7168x512.Idx := (Rect.unit (s := S4x7168x512) ![2, rs j, 0] ![1, rn j, 512] (rs_inb j)).set
theorem mem_Tl (j : Fin 5) (y : S4x7168x512.Idx) : y ∈ Tl j ↔ (y 0).val = 2 ∧ rs j ≤ (y 1).val ∧ (y 1).val < rs j + rn j := by
  rw [Tl, Rect.mem_set_unit]
  have h2 : (y 2).val < 512 := (y 2).isLt
  constructor
  · intro H
    have a0 : 2 ≤ (y 0).val ∧ (y 0).val < 2 + 1 := H 0
    have a1 : rs j ≤ (y 1).val ∧ (y 1).val < rs j + rn j := H 1
    exact ⟨by omega, a1⟩
  · rintro ⟨H, H1⟩ i; fin_cases i
    · show 2 ≤ (y 0).val ∧ (y 0).val < 2 + 1; omega
    · exact H1
    · show 0 ≤ (y 2).val ∧ (y 2).val < 0 + 512; omega
theorem rs_sep : ∀ j j' : Fin 5, j ≠ j' → rs j + rn j ≤ rs j' ∨ rs j' + rn j' ≤ rs j := by decide
theorem Tl_disjoint : ∀ j j' : Fin 5, j ≠ j' → Disjoint (Tl j) (Tl j') := by
  intro j j' hne; rw [Finset.disjoint_left]; intro y hy hy'; rw [mem_Tl] at hy hy'
  have := rs_sep j j' hne; omega
theorem Tl_cover : (Finset.univ : Finset (Fin 5)).biUnion Tl = Sl 2 := by
  ext y
  simp only [Finset.mem_biUnion, Finset.mem_univ, true_and, mem_Tl, mem_Sl]
  have h1 : (y 1).val < 7168 := (y 1).isLt
  constructor
  · rintro ⟨j, h, -⟩; exact h
  · intro h
    have h' : (y 0).val = 2 := h
    by_cases a : (y 1).val < 3072
    · exact ⟨0, h', Nat.zero_le _, by show _ < 0 + 3072; omega⟩
    by_cases b : (y 1).val < 5120
    · exact ⟨1, h', by show 3072 ≤ _; omega, by show _ < 3072 + 2048; omega⟩
    by_cases d : (y 1).val < 6400
    · exact ⟨2, h', by show 5120 ≤ _; omega, by show _ < 5120 + 1280; omega⟩
    by_cases e : (y 1).val < 6912
    · exact ⟨3, h', by show 6400 ≤ _; omega, by show _ < 6400 + 512; omega⟩
    · exact ⟨4, h', by show 6912 ≤ _; omega, by show _ < 6912 + 256; omega⟩

theorem ts0_set : ts0.view.set = Tl 0 := (View.set_reshape _ _).trans (View.set_slice_whole _ _)
theorem ts1_set : ts1.view.set = Tl 1 := (View.set_reshape _ _).trans (View.set_slice_whole _ _)
theorem ts2_set : ts2.view.set = Tl 2 := (View.set_reshape _ _).trans (View.set_slice_whole _ _)
theorem ts3_set : ts3.view.set = Tl 3 := (View.set_reshape _ _).trans (View.set_slice_whole _ _)
theorem ts4_set : ts4.view.set = Tl 4 := (View.set_reshape _ _).trans (View.set_slice_whole _ _)

section
variable (c : Dev nD)
omit [FloatOps F]
theorem tslotP0_eq (f) : tslotP0 c f = (((c : Thread nD τ).loc cc0_scratch0) ↦[Tl 0]{fullShare} f : sProp 𝕄) := congrArg (fun S => (_ ↦[S]{fullShare} f : sProp 𝕄)) ts0_set
theorem tslotP1_eq (f) : tslotP1 c f = (((c : Thread nD τ).loc cc0_scratch0) ↦[Tl 1]{fullShare} f : sProp 𝕄) := congrArg (fun S => (_ ↦[S]{fullShare} f : sProp 𝕄)) ts1_set
theorem tslotP2_eq (f) : tslotP2 c f = (((c : Thread nD τ).loc cc0_scratch0) ↦[Tl 2]{fullShare} f : sProp 𝕄) := congrArg (fun S => (_ ↦[S]{fullShare} f : sProp 𝕄)) ts2_set
theorem tslotP3_eq (f) : tslotP3 c f = (((c : Thread nD τ).loc cc0_scratch0) ↦[Tl 3]{fullShare} f : sProp 𝕄) := congrArg (fun S => (_ ↦[S]{fullShare} f : sProp 𝕄)) ts3_set
theorem tslotP4_eq (f) : tslotP4 c f = (((c : Thread nD τ).loc cc0_scratch0) ↦[Tl 4]{fullShare} f : sProp 𝕄) := congrArg (fun S => (_ ↦[S]{fullShare} f : sProp 𝕄)) ts4_set

/-- Slot 2 is its five row pieces, and back. -/
theorem slot2_split (f : Buf (Elt F) ((c : Thread nD τ).loc cc0_scratch0)) :
    (slotP c 2 f : sProp 𝕄) ⊢ iprop(tslotP0 c f ∗ tslotP1 c f ∗ tslotP2 c f ∗ tslotP3 c f ∗ tslotP4 c f) := by
  iintro H'
  ihave H := (Entails.of_eq (slotP_eq c 2 f)) $$ H'
  ihave H2 := (Entails.of_eq ((Ring.pointsTo_sub_blocks (Ix := Unit) (Name := ℕ) (U := Pipeline.UD sig nD τ) (Lvl := ℕ) (q := fullShare) (ℓ := (c : Thread nD τ).loc cc0_scratch0) Tl Tl_disjoint (Sl 2) Tl_cover f).trans (bigSep_fin5 _))) $$ H
  icases H2 with ⟨H0, H1, H2, H3, H4⟩
  isplitl [H0]
  · iapply (Entails.of_eq (tslotP0_eq c f).symm); iexact H0
  isplitl [H1]
  · iapply (Entails.of_eq (tslotP1_eq c f).symm); iexact H1
  isplitl [H2]
  · iapply (Entails.of_eq (tslotP2_eq c f).symm); iexact H2
  isplitl [H3]
  · iapply (Entails.of_eq (tslotP3_eq c f).symm); iexact H3
  iapply (Entails.of_eq (tslotP4_eq c f).symm); iexact H4
theorem slot2_some : (iprop(∃ f : Buf (Elt F) ((c : Thread nD τ).loc cc0_scratch0), ((c : Thread nD τ).loc cc0_scratch0) ↦[Sl 2]{fullShare} f) : sProp 𝕄) ⊢ iprop(∃ f, slotP c 2 f) := by
  iintro ⟨%f, H⟩; iexists f; iapply (Entails.of_eq (slotP_eq c 2 f).symm); iexact H
theorem slot2_join :
    (iprop((∃ f, tslotP0 c f) ∗ (∃ f, tslotP1 c f) ∗ (∃ f, tslotP2 c f) ∗ (∃ f, tslotP3 c f) ∗ ∃ f, tslotP4 c f) : sProp 𝕄) ⊢ iprop(∃ f, slotP c 2 f) := by
  iintro ⟨⟨%f0, H0⟩, ⟨%f1, H1⟩, ⟨%f2, H2⟩, ⟨%f3, H3⟩, ⟨%f4, H4⟩⟩
  iapply ((Ring.pointsTo_sub_blocks_join_exists (ℓ := (c : Thread nD τ).loc cc0_scratch0) Tl Tl_disjoint (Sl 2) Tl_cover f0).trans (slot2_some c))
  irw [bigSep_fin5]
  isplitl [H0]
  · iexists f0; iapply (Entails.of_eq (tslotP0_eq c f0)); iexact H0
  isplitl [H1]
  · iexists f1; iapply (Entails.of_eq (tslotP1_eq c f1)); iexact H1
  isplitl [H2]
  · iexists f2; iapply (Entails.of_eq (tslotP2_eq c f2)); iexact H2
  isplitl [H3]
  · iexists f3; iapply (Entails.of_eq (tslotP3_eq c f3)); iexact H3
  iexists f4; iapply (Entails.of_eq (tslotP4_eq c f4)); iexact H4
end

end Cert.KernelIdeal.Hand

end
-- ==== Proof.KI.Loop.lean ====
/-
  The loop's invariant: three blocks on their way, one slot free, the running state of the blocks finished.
-/
module

public import proofs.«01_k».proof.Proof.KI.Split

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (XW : BufOf F c aW) (Q : Fin 9 → PosShare TreeShare)

/-- Read token `i` of the weight codes, whole; and what is left of it when a piece is lent. -/
def wTok (i : Fin 9) : sProp 𝕄 := aW.view.loc (c : Thread nD τ) ↦[aW.view.set]{Q i} XW
/-- What is left of a token of which block `p` is lent. -/
def wRest (i : Fin 9) (p : Fin 62) : sProp 𝕄 := aW.view.loc (c : Thread nD τ) ↦[aW.view.set \ (wblk p).view.set]{Q i} XW
def tokS (s : Fin 4) : Fin 9 := s.castLE (by decide)

omit [FloatOps F] in
theorem blk_lend (i : Fin 9) (p : Fin 62) : (wTok c XW Q i : sProp 𝕄) ⊣⊢ iprop(blkP c XW (Q i) p ∗ wRest c XW Q i p) := by
  unfold wTok wRest
  exact pointsTo_split_subset (by rw [View.set_whole]; exact Finset.subset_univ _)
/-- What is left of row piece 0's token while the piece is lent. -/
def tRest0 : sProp 𝕄 := aW.view.loc (c : Thread nD τ) ↦[aW.view.set \ tw0.view.set]{Q 4} XW
omit [FloatOps F] in
theorem tail_lend0 : (wTok c XW Q 4 : sProp 𝕄) ⊣⊢ iprop(tblkP0 c XW (Q 4) ∗ tRest0 c XW Q) := by
  unfold wTok tRest0
  exact pointsTo_split_subset (by rw [View.set_whole]; exact Finset.subset_univ _)
/-- What is left of row piece 1's token while the piece is lent. -/
def tRest1 : sProp 𝕄 := aW.view.loc (c : Thread nD τ) ↦[aW.view.set \ tw1.view.set]{Q 5} XW
omit [FloatOps F] in
theorem tail_lend1 : (wTok c XW Q 5 : sProp 𝕄) ⊣⊢ iprop(tblkP1 c XW (Q 5) ∗ tRest1 c XW Q) := by
  unfold wTok tRest1
  exact pointsTo_split_subset (by rw [View.set_whole]; exact Finset.subset_univ _)
/-- What is left of row piece 2's token while the piece is lent. -/
def tRest2 : sProp 𝕄 := aW.view.loc (c : Thread nD τ) ↦[aW.view.set \ tw2.view.set]{Q 6} XW
omit [FloatOps F] in
theorem tail_lend2 : (wTok c XW Q 6 : sProp 𝕄) ⊣⊢ iprop(tblkP2 c XW (Q 6) ∗ tRest2 c XW Q) := by
  unfold wTok tRest2
  exact pointsTo_split_subset (by rw [View.set_whole]; exact Finset.subset_univ _)
/-- What is left of row piece 3's token while the piece is lent. -/
def tRest3 : sProp 𝕄 := aW.view.loc (c : Thread nD τ) ↦[aW.view.set \ tw3.view.set]{Q 7} XW
omit [FloatOps F] in
theorem tail_lend3 : (wTok c XW Q 7 : sProp 𝕄) ⊣⊢ iprop(tblkP3 c XW (Q 7) ∗ tRest3 c XW Q) := by
  unfold wTok tRest3
  exact pointsTo_split_subset (by rw [View.set_whole]; exact Finset.subset_univ _)
/-- What is left of row piece 4's token while the piece is lent. -/
def tRest4 : sProp 𝕄 := aW.view.loc (c : Thread nD τ) ↦[aW.view.set \ tw4.view.set]{Q 8} XW
omit [FloatOps F] in
theorem tail_lend4 : (wTok c XW Q 8 : sProp 𝕄) ⊣⊢ iprop(tblkP4 c XW (Q 8) ∗ tRest4 c XW Q) := by
  unfold wTok tRest4
  exact pointsTo_split_subset (by rw [View.set_whole]; exact Finset.subset_univ _)

/-- A free slot, with its cell at zero and its token home. -/
def FreeP (s : Fin 4) : sProp 𝕄 := iprop((∃ f, slotP c s f) ∗ cellP c s ∗ wTok c XW Q (tokS s))
/-- Block `p` on its way into its slot. -/
def FlyP (p : ℕ) : sProp 𝕄 :=
  iprop((∃ f, flightP c XW (Q (tokS (Ring.sl 4 p))) (Ring.sl 4 p) (Ring.bk 62 p) f) ∗ wRest c XW Q (tokS (Ring.sl 4 p)) (Ring.bk 62 p))
/-- The tail cells at zero with their tokens home. -/
def TailFree : sProp 𝕄 := iprop((tcellP0 c ∗ wTok c XW Q 4) ∗ (tcellP1 c ∗ wTok c XW Q 5) ∗ (tcellP2 c ∗ wTok c XW Q 6) ∗ (tcellP3 c ∗ wTok c XW Q 7) ∗ (tcellP4 c ∗ wTok c XW Q 8))
/-- The five row pieces of the last block on their way, slot 2's own cell and token idle. -/
def TailFly : sProp 𝕄 := iprop(((∃ f, tflightP0 c XW (Q 4) f) ∗ tRest0 c XW Q) ∗ ((∃ f, tflightP1 c XW (Q 5) f) ∗ tRest1 c XW Q) ∗ ((∃ f, tflightP2 c XW (Q 6) f) ∗ tRest2 c XW Q) ∗ ((∃ f, tflightP3 c XW (Q 7) f) ∗ tRest3 c XW Q) ∗ ((∃ f, tflightP4 c XW (Q 8) f) ∗ tRest4 c XW Q) ∗ cellP c 2 ∗ wTok c XW Q 2)
/-- What is held for block `p`: on its way, the last block's pieces on their way, or (no such block) its slot free. -/
def RoleP (p : ℕ) : sProp 𝕄 := if p < 62 then FlyP c XW Q p else if p = 62 then TailFly c XW Q else FreeP c XW Q (Ring.sl 4 p)
theorem RoleP_fly {p : ℕ} (h : p < 62) : RoleP (F := F) c XW Q p = FlyP c XW Q p := if_pos h
theorem RoleP_tail : RoleP (F := F) c XW Q 62 = TailFly c XW Q := rfl
theorem RoleP_free {p : ℕ} (h : 62 < p) : RoleP (F := F) c XW Q p = FreeP c XW Q (Ring.sl 4 p) := by
  rw [RoleP, if_neg (by omega), if_neg (by omega)]
/-- The tail cells, while the last block has not been sent off. -/
def TailP (k : ℕ) : sProp 𝕄 := if k ≤ 58 then TailFree c XW Q else iprop(emp)
theorem TailP_le {k : ℕ} (h : k ≤ 58) : TailP (F := F) c XW Q k = TailFree c XW Q := if_pos h
theorem TailP_gt {k : ℕ} (h : 58 < k) : TailP (F := F) c XW Q k = iprop(emp) := if_neg (by omega)

variable (v27 : IVec S8x128 32) (v173 : IVec S40x128 32)
  (fa : BufOf F c bXq) (fw : BufOf F c bWords) (fs : BufOf F c bXsb) (fws : BufOf F c bWs) (fcid : BufOf F c bCid)
  (raw : ℕ → FVec F S8x512 .f32) (st0 : St F)

/-- Before trip `k`: the product of block `k` in hand, blocks `k + 1 .. k + 3` on their way. -/
def InvP (k : ℕ) (acc : FVec F S8x512 .f32) : sProp 𝕄 :=
  iprop(⌜∀ p, p < 62 → rawV c XW fa p = raw p⌝ ∗ ⌜acc = raw k⌝ ∗ RoleP c XW Q (k + 1) ∗ RoleP c XW Q (k + 2) ∗ RoleP c XW Q (k + 3) ∗ FreeP c XW Q (Ring.sl 4 (k + 4)) ∗ TailP c XW Q k
    ∗ FixP c fa fw fs fws fcid ∗ AccP c v27 v173 fw fs fws fcid raw st0 k ∗ (∃ W, owes (c : Thread nD τ) 0 W))

theorem sl_wrap (k : ℕ) : Ring.sl 4 (k + 1 + 4) = Ring.sl 4 (k + 1) := Fin.ext (by rw [sl_off, sl_off]; omega)
theorem sl_62 : Ring.sl 4 62 = 2 := Fin.ext (by rw [sl_off]; rfl)

theorem stepA (v1491 : FVec F S8x512 .f32) (k : Fin k0_t1_loop.trips) (hk : k.val + 4 < 62) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  have hlt := trip_lt k
  unfold InvP
  rw [RoleP_fly c XW Q (show k.val + 1 < 62 by omega), sl_wrap, show k.val + 1 + 1 = k.val + 2 from rfl, show k.val + 1 + 2 = k.val + 3 from rfl,
    show k.val + 1 + 3 = k.val + 4 from rfl]
  rw [RoleP_fly c XW Q (show k.val + 4 < 62 by omega), TailP_le c XW Q (show k.val ≤ 58 by omega), TailP_le c XW Q (show k.val + 1 ≤ 58 by omega)]
  unfold FlyP FreeP
  iintro ⟨%hraw, %hacc, ⟨⟨%f0, HF⟩, HFr⟩, HR2, HR3, ⟨⟨%f1, HS⟩, HC, HT⟩, HTail, HFix, HAcc, HW⟩
  ihave HTs := (blk_lend c XW Q (tokS (Ring.sl 4 (k.val + 4))) (Ring.bk 62 (k.val + 4))).1 $$ HT
  icases HTs with ⟨HB, HBr⟩
  iapply (wp_wand_r Idealize.ShloMosaic.frame (wpE (defs₀ (F := F)) 𝒱₀ (c : Thread nD τ) none) Set.univ)
  isplitl [HF HFix HAcc HW HS HC HB]
  · iapply (tripA c XW v27 v173 fa fw fs fws fcid raw st0 v1491 1#32 k acc hk rfl hacc (hraw _ (by omega)) _ (Q (tokS (Ring.sl 4 (k.val + 4)))) f0 f1)
    isplitl [HF]; · iexact HF
    isplitl [HS]; · iexact HS
    isplitl [HC]; · iexact HC
    isplitl [HB]; · iexact HB
    isplitl [HFix]; · iexact HFix
    isplitl [HAcc]; · iexact HAcc
    iexact HW
  iintro %y ⟨%hy, HS1, HC1, HB1, HF4, HFix', HAcc', HW'⟩
  isplitr; · ipureintro; exact hraw
  isplitr; · ipureintro; exact hy
  isplitl [HR2]; · iexact HR2
  isplitl [HR3]; · iexact HR3
  isplitl [HF4 HBr]
  · isplitl [HF4]; · iexact HF4
    iexact HBr
  isplitl [HS1 HC1 HB1 HFr]
  · isplitl [HS1]; · iexact HS1
    isplitl [HC1]; · iexact HC1
    iapply (blk_lend c XW Q (tokS (Ring.sl 4 (k.val + 1))) (Ring.bk 62 (k.val + 1))).2
    isplitl [HB1]; · iexact HB1
    iexact HFr
  isplitl [HTail]; · iexact HTail
  isplitl [HFix']; · iexact HFix'
  isplitl [HAcc']; · iexact HAcc'
  iexact HW'

theorem stepT (v1491 : FVec F S8x512 .f32) (k : Fin k0_t1_loop.trips) (hk : k.val + 4 = 62) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  have hlt := trip_lt k
  unfold InvP
  rw [RoleP_fly c XW Q (show k.val + 1 < 62 by omega), sl_wrap, show k.val + 1 + 1 = k.val + 2 from rfl, show k.val + 1 + 2 = k.val + 3 from rfl,
    show k.val + 1 + 3 = k.val + 4 from rfl]
  rw [hk, RoleP_tail, TailP_le c XW Q (show k.val ≤ 58 by omega), TailP_gt c XW Q (show 58 < k.val + 1 by omega), sl_62]
  unfold TailFree TailFly
  unfold FlyP FreeP
  iintro ⟨%hraw, %hacc, ⟨⟨%f0, HF⟩, HFr⟩, HR2, HR3, ⟨⟨%f1, HS⟩, HC, HT⟩, HTail, HFix, HAcc, HW⟩
  ihave HSs := (slot2_split c f1) $$ HS
  icases HSs with ⟨HS0, HS1, HS2, HS3, HS4⟩
  icases HTail with ⟨⟨HC0, HT0⟩, ⟨HC1, HT1⟩, ⟨HC2, HT2⟩, ⟨HC3, HT3⟩, ⟨HC4, HT4⟩⟩
  ihave HTs0 := (tail_lend0 c XW Q).1 $$ HT0
  icases HTs0 with ⟨HB0, HBr0⟩
  ihave HTs1 := (tail_lend1 c XW Q).1 $$ HT1
  icases HTs1 with ⟨HB1, HBr1⟩
  ihave HTs2 := (tail_lend2 c XW Q).1 $$ HT2
  icases HTs2 with ⟨HB2, HBr2⟩
  ihave HTs3 := (tail_lend3 c XW Q).1 $$ HT3
  icases HTs3 with ⟨HB3, HBr3⟩
  ihave HTs4 := (tail_lend4 c XW Q).1 $$ HT4
  icases HTs4 with ⟨HB4, HBr4⟩
  iapply (wp_wand_r Idealize.ShloMosaic.frame (wpE (defs₀ (F := F)) 𝒱₀ (c : Thread nD τ) none) Set.univ)
  isplitl [HF HFix HAcc HW HS0 HC0 HB0 HS1 HC1 HB1 HS2 HC2 HB2 HS3 HC3 HB3 HS4 HC4 HB4]
  · iapply (tripT c XW v27 v173 fa fw fs fws fcid raw st0 v1491 1#32 k acc hk rfl hacc (hraw _ (by omega)) _ fullShare f0 (fun j => Q (j.natAdd 4)) f1 f1 f1 f1 f1)
    isplitl [HF]; · iexact HF
    isplitl [HS0]; · iexact HS0
    isplitl [HC0]; · iexact HC0
    isplitl [HB0]; · iexact HB0
    isplitl [HS1]; · iexact HS1
    isplitl [HC1]; · iexact HC1
    isplitl [HB1]; · iexact HB1
    isplitl [HS2]; · iexact HS2
    isplitl [HC2]; · iexact HC2
    isplitl [HB2]; · iexact HB2
    isplitl [HS3]; · iexact HS3
    isplitl [HC3]; · iexact HC3
    isplitl [HB3]; · iexact HB3
    isplitl [HS4]; · iexact HS4
    isplitl [HC4]; · iexact HC4
    isplitl [HB4]; · iexact HB4
    isplitl [HFix]; · iexact HFix
    isplitl [HAcc]; · iexact HAcc
    iexact HW
  iintro %y ⟨%hy, HSx, HCx, HBx, HF0, HF1, HF2, HF3, HF4, HFix', HAcc', HW'⟩
  isplitr; · ipureintro; exact hraw
  isplitr; · ipureintro; exact hy
  isplitl [HR2]; · iexact HR2
  isplitl [HR3]; · iexact HR3
  isplitl [HF0 HBr0 HF1 HBr1 HF2 HBr2 HF3 HBr3 HF4 HBr4 HC HT]
  · isplitl [HF0 HBr0]
    · isplitl [HF0]; · iexact HF0
      iexact HBr0
    isplitl [HF1 HBr1]
    · isplitl [HF1]; · iexact HF1
      iexact HBr1
    isplitl [HF2 HBr2]
    · isplitl [HF2]; · iexact HF2
      iexact HBr2
    isplitl [HF3 HBr3]
    · isplitl [HF3]; · iexact HF3
      iexact HBr3
    isplitl [HF4 HBr4]
    · isplitl [HF4]; · iexact HF4
      iexact HBr4
    isplitl [HC]; · iexact HC
    iexact HT
  isplitl [HSx HCx HBx HFr]
  · isplitl [HSx]; · iexact HSx
    isplitl [HCx]; · iexact HCx
    iapply (blk_lend c XW Q (tokS (Ring.sl 4 (k.val + 1))) (Ring.bk 62 (k.val + 1))).2
    isplitl [HBx]; · iexact HBx
    iexact HFr
  isplitr; · iempintro
  isplitl [HFix']; · iexact HFix'
  isplitl [HAcc']; · iexact HAcc'
  iexact HW'

theorem stepE (v1491 : FVec F S8x512 .f32) (k : Fin k0_t1_loop.trips) (hk : 62 < k.val + 4) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  have hlt := trip_lt k
  unfold InvP
  rw [RoleP_fly c XW Q (show k.val + 1 < 62 by omega), sl_wrap, show k.val + 1 + 1 = k.val + 2 from rfl, show k.val + 1 + 2 = k.val + 3 from rfl,
    show k.val + 1 + 3 = k.val + 4 from rfl]
  rw [RoleP_free c XW Q hk, TailP_gt c XW Q (show 58 < k.val by omega), TailP_gt c XW Q (show 58 < k.val + 1 by omega)]
  unfold FlyP FreeP
  iintro ⟨%hraw, %hacc, ⟨⟨%f0, HF⟩, HFr⟩, HR2, HR3, ⟨⟨%f1, HS⟩, HC, HT⟩, HTail, HFix, HAcc, HW⟩
  iapply (wp_wand_r Idealize.ShloMosaic.frame (wpE (defs₀ (F := F)) 𝒱₀ (c : Thread nD τ) none) Set.univ)
  isplitl [HF HFix HAcc HW ]
  · iapply (tripE c XW v27 v173 fa fw fs fws fcid raw st0 v1491 1#32 k acc hk rfl hacc (hraw _ (by omega)) _ fullShare f0)
    isplitl [HF]; · iexact HF
    isplitl [HFix]; · iexact HFix
    isplitl [HAcc]; · iexact HAcc
    iexact HW
  iintro %y ⟨%hy, HS1, HC1, HB1, HFix', HAcc', HW'⟩
  isplitr; · ipureintro; exact hraw
  isplitr; · ipureintro; exact hy
  isplitl [HR2]; · iexact HR2
  isplitl [HR3]; · iexact HR3
  isplitl [HS HC HT]
  · isplitl [HS]; · iexists f1; iexact HS
    isplitl [HC]; · iexact HC
    iexact HT
  isplitl [HS1 HC1 HB1 HFr]
  · isplitl [HS1]; · iexact HS1
    isplitl [HC1]; · iexact HC1
    iapply (blk_lend c XW Q (tokS (Ring.sl 4 (k.val + 1))) (Ring.bk 62 (k.val + 1))).2
    isplitl [HB1]; · iexact HB1
    iexact HFr
  isplitl [HTail]; · iexact HTail
  isplitl [HFix']; · iexact HFix'
  isplitl [HAcc']; · iexact HAcc'
  iexact HW'

set_option maxHeartbeats 4000000 in
theorem stepAll (v1491 : FVec F S8x512 .f32) (k : Fin k0_t1_loop.trips) (acc : FVec F S8x512 .f32) :
    (InvP c XW Q v27 v173 fa fw fs fws fcid raw st0 k.val acc : sProp 𝕄)
      ⊢ wp frame (wpE (defs₀ (F := F)) 𝒱₀ (c : Thread nD τ) none) Set.univ (tripG v27 v173 v1491 1#32 k acc)
        (fun y => InvP c XW Q v27 v173 fa fw fs fws fcid raw st0 (k.val + 1) y) := by
  rcases Nat.lt_trichotomy (k.val + 4) 62 with h | h | h
  · exact stepA c XW Q v27 v173 fa fw fs fws fcid raw st0 v1491 k h acc
  · exact stepT c XW Q v27 v173 fa fw fs fws fcid raw st0 v1491 k h acc
  · exact stepE c XW Q v27 v173 fa fw fs fws fcid raw st0 v1491 k h acc

set_option maxHeartbeats 4000000 in
set_option warn.classDefReducibility false in
/-- The loop's invariant, for the run to find. -/
@[sl_loop] def loopInv1 (c1 : BitVec 32) (hc : c1 = 1#32) (v1491 : FVec F S8x512 .f32) :
    LoopInvTy_k0_t1 (F := F) Unit ℕ (Pipeline.UD sig nD τ) ℕ 𝒱₀ c none Set.univ aX (Memref.isWhole_whole _) aW (Memref.isWhole_whole _) aWs (Memref.isWhole_whole _) aBm (Memref.isWhole_whole _)
    aId (Memref.isWhole_whole _) oMl (Memref.isWhole_whole _) oLse (Memref.isWhole_whole _) oClp (Memref.isWhole_whole _)
    oXc (Memref.isWhole_whole _) oXs (Memref.isWhole_whole _) bRing (Memref.isWhole_whole _) bX (Memref.isWhole_whole _)
    bWs (Memref.isWhole_whole _) bBm (Memref.isWhole_whole _) bId (Memref.isWhole_whole _) bMl (Memref.isWhole_whole _)
    bLse (Memref.isWhole_whole _) bClp (Memref.isWhole_whole _) bXc (Memref.isWhole_whole _) bXs (Memref.isWhole_whole _)
    bXf (Memref.isWhole_whole _) bXq (Memref.isWhole_whole _) bWords (Memref.isWhole_whole _) bCid (Memref.isWhole_whole _)
    bCok (Memref.isWhole_whole _) bCacc (Memref.isWhole_whole _) bXsb (Memref.isWhole_whole _) bM (Memref.isWhole_whole _)
    bS (Memref.isWhole_whole _) cc0_scratch19 cc0_scratch20 cc0_scratch21 cc0_scratch22 cc0_scratch23 v27 v173 v1491 c1 v1491 where
  inv k acc := InvP c XW Q v27 v173 fa fw fs fws fcid raw st0 k acc
  step k acc := by
    subst hc
    iintro H
    iapply (stepAll c XW Q v27 v173 fa fw fs fws fcid raw st0 v1491 k acc)
    iexact H

end

end Cert.KernelIdeal.Hand

end
-- ==== Proof.KI.Facts.lean ====
/-
  What the kernel computes, as functions of its operands: the codes and scales of the rows, the words and ids laid out, the
  products and logits of every block, the running state, the results.
-/
module

public import proofs.«01_k».proof.Proof.KI.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values, from the operands -/

/-- Row and lane numbers. -/
def rowI : IVec S8x128 32 := iota Kind.tc S8x128 32 [0] iota_S8x128_d0_w32
def laneI : IVec S8x128 32 := iota Kind.tc S8x128 32 [1] iota_S8x128_d1_w32
def candI : IVec S40x128 32 := iota Kind.tc S40x128 32 [1] iota_S40x128_d1_w32

section
variable (c : Dev nD) (XW : BufOf F c aW) (xX : BufOf F c aX) (xWs : BufOf F c aWs) (xBm : BufOf F c aBm) (xId : BufOf F c aId)

/-- The three rows of `x`, as they come in. -/
def xV : Vec F S3x7168 .bf16 := fun i => aX.view.read (Elt F) xX i
/-- The rows as floats, with five rows of zeros under them. -/
def xfV : Vec F S8x7168 .f32 := fun i =>
  if h : (i 0).val < 3 then k0_pay52 (xV c xX) (ix2 ⟨(i 0).val, h⟩ (i 1)) else (k0_pay50 k0_pay49 : Vec F S8x7168 .f32) i
section
variable (xf : Vec F S8x7168 .f32)
/-- The rows' largest magnitudes, and what decides the exponents of their scales. -/
def mxV : FVec F S8x1 .f32 := k0_pay53 xf
def eV4 := k0_pay59 (F := F) (k0_pay54 xf) (k0_pay55 xf) (k0_pay56 xf) k0_pay57
def eV5 := k0_pay60 (F := F) (k0_pay54 xf) (k0_pay55 xf) (k0_pay56 xf) k0_pay57
/-- The codes of the three rows. -/
def codesV : Vec F S3x7168 .fp8e4m3 := k0_pay64 xf (mxV xf) (eV4 xf) (eV5 xf) 0#32
/-- The codes padded to 32 rows. -/
def xqV : Vec F S32x7168 .fp8e4m3 := k0_pay65 xf (mxV xf) (eV4 xf) (eV5 xf) 0#32
/-- The scales in every lane. -/
def xsbV : Vec F S8x128 .f32 := k0_pay66 (mxV xf) (eV4 xf) (eV5 xf) 0#32
/-- The scales along the lanes. -/
def xsV : Vec F S1x3 .f32 := k0_pay69 (k0_pay67 rowI laneI) (k0_pay68 (mxV xf) (eV4 xf) (eV5 xf) 0#32) (FloatOps.ofBits FTy.f32 0#32)
end

/-- The candidates' ids of one row. -/
def idRow (b : Fin 3) : Vec F S1x1x40 .i32 := fun i => aId.view.read (Elt F) xId (ix3 b 0 (i 2))
/-- The ids of one row, one to a sublane, in every lane. -/
def idsV (b : Fin 3) : IVec S40x128 32 := k0_pay72 (F := F) (idRow c xId b)

/-- The quotient and the remainder of the ids by the 32 bits of a word, rounded down. -/
def divV (ids : IVec S40x128 32) : IVec S40x128 32 :=
  select (andi (cmpi .ne (subi (extui 32 (cmpi .sgt ids (broadcast S40x128 0#32)) natLt_1_32) (extui 32 (cmpi .slt ids (broadcast S40x128 0#32)) natLt_1_32)) (broadcast S40x128 1#32))
      (cmpi .ne (remsi ids (broadcast S40x128 32#32)) (broadcast S40x128 0#32)))
    (subi (divsi ids (broadcast S40x128 32#32)) (broadcast S40x128 1#32)) (divsi ids (broadcast S40x128 32#32))
def remV (ids : IVec S40x128 32) : IVec S40x128 32 :=
  select (andi (xori (cmpi .slt (remsi ids (broadcast S40x128 32#32)) (broadcast S40x128 0#32)) (broadcastTo S40x128 (broadcast S40x128 0#1) broadcasts_S40x128_S40x128))
      (cmpi .ne (remsi ids (broadcast S40x128 32#32)) (broadcast S40x128 0#32)))
    (addi (remsi ids (broadcast S40x128 32#32)) (broadcast S40x128 32#32)) (remsi ids (broadcast S40x128 32#32))
/-- One tile of 128 words looked through for the candidates' words: the bit where the word is in this tile. -/
def hitStep (ids : IVec S40x128 32) (k : BitVec 32) (w : IVec S1x128 32) (hit : IVec S40x128 32) : IVec S40x128 32 :=
  select (cmpi .eq (divV ids) (addi candI (broadcast S40x128 k)))
    (andi (shrsi (broadcastTo S40x128 (shapeCast S1x128 w shapeCasts_S1x128_S1x128) broadcasts_S1x128_S40x128) (remV ids)) (broadcast S40x128 1#32)) hit
/-- All eight tiles. -/
def hitV (ids : IVec S40x128 32) (w : Fin 8 → IVec S1x128 32) : IVec S40x128 32 :=
  hitStep ids 896#32 (w 7) (hitStep ids 768#32 (w 6) (hitStep ids 640#32 (w 5) (hitStep ids 512#32 (w 4) (hitStep ids 384#32 (w 3)
    (hitStep ids 256#32 (w 2) (hitStep ids 128#32 (w 1) (hitStep ids 0#32 (w 0) (broadcast S40x128 0#32))))))))
/-- Whether each candidate is allowed, in every lane. -/
def cokV (hit : IVec S40x128 32) : FVec F S1x40x128 .f32 :=
  shapeCast S1x40x128 (broadcastTo S40x128 (shapeCast S40x1 (shapeCast S40x1 (multiReduction .add [1] S40 (sitofp .f32 hit : FVec F S40x128 .f32) 0x00000000#32 reduces_S40x128_S40 (.inl rfl) rfl)
    shapeCasts_S40_S40x1) shapeCasts_S40x1_S40x1) broadcasts_S40x1_S40x128) shapeCasts_S40x128_S1x40x128
/-- Tile `k` of the words of row `b`. -/
def wRow (fw : BufOf F c bWords) (b : Fin 3) (k : Fin 8) : IVec S1x128 32 :=
  bWords.view.readAt (Elt F) (Rect.unit (s := S8x1024) ![b.val, 128 * k.val] S1x128.size (by revert b k; decide)).toLoadRect fw

/-- The product of the last block, its five row pieces added up from zero. -/
def rawLast (fa : BufOf F c bXq) : FVec F S8x512 .f32 :=
  k0_pay243 (k0_pay242 (k0_pay183 (bXq.view.readAt (Elt F) (Rect.unit (s := S32x7168) ![0, 0] S32x3072.size inb_S32x7168_S32x3072_0_0).toLoadRect fa) (shapeCast S1x3072x512 (tpay0 c XW) (by decide)))
    (bXq.view.readAt (Elt F) (Rect.unit (s := S32x7168) ![0, 3072] S32x2048.size inb_S32x7168_S32x2048_0_3072).toLoadRect fa) (shapeCast S1x2048x512 (tpay1 c XW) (by decide)))
    (bXq.view.readAt (Elt F) (Rect.unit (s := S32x7168) ![0, 5120] S32x1280.size inb_S32x7168_S32x1280_0_5120).toLoadRect fa) (shapeCast S1x1280x512 (tpay2 c XW) (by decide))
    (bXq.view.readAt (Elt F) (Rect.unit (s := S32x7168) ![0, 6400] S32x512.size inb_S32x7168_S32x512_0_6400).toLoadRect fa) (shapeCast S1x512x512 (tpay3 c XW) (by decide))
    (bXq.view.readAt (Elt F) (Rect.unit (s := S32x7168) ![0, 6912] S32x256.size inb_S32x7168_S32x256_0_6912).toLoadRect fa) (shapeCast S1x256x512 (tpay4 c XW) (by decide))
/-- The product of every block. -/
def rawAll (fa : BufOf F c bXq) (p : ℕ) : FVec F S8x512 .f32 := if p < 62 then rawV c XW fa p else rawLast c XW fa
/-- The running state that three buffers hold. -/
def st0Of (fm : BufOf F c bM) (fs : BufOf F c bS) (fca : BufOf F c bCacc) : St F :=
  ⟨rdM c fm, rdS c fs, rdCacc c Rc0 fca, rdCacc c Rc1 fca, rdCacc c Rc2 fca⟩

/-- The running state at the start. -/
def stInit : St F := ⟨k0_pay179, k0_pay180, k0_pay105, k0_pay144, k0_pay178⟩
/-- The mask words laid out in eight rows of 1024, zeros beyond the given ones. -/
def wordsV : Vec F S8x1024 .i32 := fun i =>
  if h : (i 0).val < 3 ∧ (i 1).val < 1008 then aBm.view.read (Elt F) xBm (ix2 ⟨(i 0).val, h.1⟩ ⟨(i 1).val, h.2⟩) else (0#32 : BitVec 32)
/-- The ids of the three rows laid out. -/
def cidV : Vec F S3x40x128 .i32 := fun i => idsV (F := F) c xId (i 0) (ix2 (i 1) (i 2))

/-! The working buffers, once filled. -/
def KQ : BufOf F c bXq := (Memref.isWhole_whole _ : bXq.IsWhole).unread (xqV (xfV c xX))
def KS : BufOf F c bXsb := (Memref.isWhole_whole _ : bXsb.IsWhole).unread (xsbV (xfV c xX))
def KW : BufOf F c bWords := (Memref.isWhole_whole _ : bWords.IsWhole).unread (wordsV c xBm)
def KN : BufOf F c bWs := (Memref.isWhole_whole _ : bWs.IsWhole).unread (fun i => aWs.view.read (Elt F) xWs (ix1 (i 1)))
def KC : BufOf F c bCid := (Memref.isWhole_whole _ : bCid.IsWhole).unread (cidV c xId)

/-- The mask and the logits of block `p`, and the running state before it. -/
def mkA (p : ℕ) : IVec S8x512 1 := maskV c laneI (KW c xBm) p
def lgA (p : ℕ) : FVec F S8x512 .f32 := lgV c (KS c xX) (KN c xWs) (rawAll c XW (KQ c xX)) p
def stA (p : ℕ) : St F := stV c laneI candI (KW c xBm) (KS c xX) (KN c xWs) (KC c xId) (rawAll c XW (KQ c xX)) stInit p

/-- The rows' log-sums, and the same along the lanes. -/
def lseCol (st : St F) : FVec F S8x1 .f32 := k0_pay267 (k0_pay265 st.m) st.s (k0_pay266 st.m)
def lseV (st : St F) : FVec F S1x3 .f32 := k0_pay268 rowI laneI (k0_pay265 st.m) st.s (k0_pay266 st.m)
/-- The candidates' log-probabilities of the three rows. -/
def clp0 (st : St F) (ok : FVec F S1x40x128 .f32) : FVec F S1x1x40 .f32 := k0_pay269 k0_pay71 (k0_pay265 st.m) st.s (k0_pay266 st.m) st.c0 ok
def clp1 (st : St F) (ok : FVec F S1x40x128 .f32) : FVec F S1x1x40 .f32 := k0_pay270 k0_pay71 (lseCol st) st.c1 ok
def clp2 (st : St F) (ok : FVec F S1x40x128 .f32) : FVec F S1x1x40 .f32 := k0_pay1 k0_pay71 (k0_pay273 (k0_pay271 ok) (k0_pay272 (lseCol st) st.c2))

/-- The masked logits. -/
def mlV : Vec F S3x1x32256 .f32 := fun i => mlBlk (mkA c xBm ((i 2).val / 512)) (lgA c XW xX xWs ((i 2).val / 512))
  (ix2 ((i 0).castLE (by decide) : Fin 8) ⟨(i 2).val % 512, Nat.mod_lt _ (by decide)⟩)
/-- The candidates' log-probabilities. -/
def clpV : Vec F S3x1x40 .f32 := fun i =>
  if (i 0).val = 0 then clp0 (stA c XW xX xWs xBm xId 63) (cokV (hitV (idsV (F := F) c xId 0) (wRow c (KW c xBm) 0))) (ix3 0 0 (i 2))
  else if (i 0).val = 1 then clp1 (stA c XW xX xWs xBm xId 63) (cokV (hitV (idsV (F := F) c xId 1) (wRow c (KW c xBm) 1))) (ix3 0 0 (i 2))
  else clp2 (stA c XW xX xWs xBm xId 63) (cokV (hitV (idsV (F := F) c xId 2) (wRow c (KW c xBm) 2))) (ix3 0 0 (i 2))

/-! ## What the results hold -/
def FactMl (f : BufOf F c oMl) : Prop := oMl.view.read (Elt F) f = mlV c XW xX xWs xBm
def FactLse (f : BufOf F c oLse) : Prop := oLse.view.read (Elt F) f = lseV (stA c XW xX xWs xBm xId 63)
def FactClp (f : BufOf F c oClp) : Prop := oClp.view.read (Elt F) f = clpV c XW xX xWs xBm xId
def FactXc (f : BufOf F c oXc) : Prop := oXc.view.read (Elt F) f = codesV (xfV c xX)
def FactXs (f : BufOf F c oXs) : Prop := oXs.view.read (Elt F) f = xsV (xfV c xX)

/-! ## Reads after stores -/

/-- What a copy over a whole view leaves is what it carried. -/
theorem read_wholeW {sp : Space} {s : Shape} {e : EltTy} (v : View sig .tc sp s e) (f : v.ty.Contents (Elt F)) (w : s.Idx → Elt F e) :
    v.read (Elt F) (v.writes (Elt F) f [⟨Rect.whole s, w⟩]) = w := by
  refine View.read_writes_full v f (off := fun _ => 0) (fun a => ?_) w []
  omega

theorem mlV_of (mk : ℕ → IVec S8x512 1) (lg : ℕ → FVec F S8x512 .f32) (f : BufOf F c bMl) (h : mlFact c mk lg 63 f) :
    bMl.view.read (Elt F) f = fun i => mlBlk (mk ((i 2).val / 512)) (lg ((i 2).val / 512))
      (ix2 ((i 0).castLE (by decide) : Fin 8) ⟨(i 2).val % 512, Nat.mod_lt _ (by decide)⟩) := by
  funext i
  have hi : (i 2).val < 32256 := (i 2).isLt
  have h1 : (i 1).val < 1 := (i 1).isLt
  have hp : (i 2).val / 512 < 63 := by omega
  refine (congrArg (bMl.view.read (Elt F) f) (funext fun a => Fin.ext ?_)).trans (h (i 0) ((i 2).val / 512) hp ⟨(i 2).val % 512, Nat.mod_lt _ (by decide)⟩ hp)
  fin_cases a
  · rfl
  · show (i 1).val = 0; omega
  · show (i 2).val = 512 * ((i 2).val / 512) + (i 2).val % 512; omega
theorem ws_flat (f : BufOf F c bWs) : shapeCast S1x32256 (((bWs.slice (Rect.unit (s := S1x32256) ![0, 0] S1x32256.size inb_S1x32256_S1x32256_0_0) (fun _ => rfl)).squeeze S32256 squeezes_S1x32256_S32256).view.read (Elt F) f)
    (show S32256.ShapeCasts S1x32256 by decide) = bWs.view.read (Elt F) f := by
  have e := Memref.read_squeeze_slice bWs (Rect.unit (s := S1x32256) ![0, 0] S1x32256.size inb_S1x32256_S1x32256_0_0) (fun _ => rfl) squeezes_S1x32256_S32256 (by decide) f
  rw [View.readAt_full] at e
  have e2 := congrArg (fun u => shapeCast S1x32256 u (show S32256.ShapeCasts S1x32256 by decide)) e
  dsimp only at e2
  rw [shapeCast_shapeCast] at e2
  exact e2
theorem words_of (f : BufOf F c bWords) (z : Vec F S8x1024 .i32) (w : Vec F S3x1008 .i32) (hz : z = fun _ => (0#32 : BitVec 32)) (hw : w = fun i => aBm.view.read (Elt F) xBm i) (i0 i1) :
    bWords.view.writes (Elt F) f [⟨Rect.unit (s := S8x1024) ![0, 0] S3x1008.size i0, w⟩, ⟨Rect.unit (s := S8x1024) ![0, 0] S8x1024.size i1, z⟩] = KW c xBm := by
  have e : bWords.view.read (Elt F) (bWords.view.writes (Elt F) f [⟨Rect.unit (s := S8x1024) ![0, 0] S3x1008.size i0, w⟩, ⟨Rect.unit (s := S8x1024) ![0, 0] S8x1024.size i1, z⟩]) = wordsV c xBm := by
    subst hz; subst hw
    funext i
    unfold wordsV
    split
    · rename_i h
      refine View.read_writes_cons_unit_of_mem bWords.view _ _ _ _ i (ix2 ⟨(i 0).val, h.1⟩ ⟨(i 1).val, h.2⟩) rfl ?_
      intro a; fin_cases a
      · show (i 0).val = 0 + (i 0).val; omega
      · show (i 1).val = 0 + (i 1).val; omega
    · rename_i h
      have e0 : bWords.view.read (Elt F) (bWords.view.writes (Elt F) f [⟨Rect.unit (s := S8x1024) ![0, 0] S8x1024.size i1, fun _ => (0#32 : BitVec 32)⟩]) i = (0#32 : BitVec 32) := congrFun (View.read_writes_full bWords.view f _ _ _) i
      refine Eq.trans ?_ e0
      clear e0
      by_cases h3 : (i 0).val < 3
      · refine (View.read_writes_cons_unit_of_not_mem bWords.view _ _ _ _ i rfl (1 : Fin 2) (.inr ?_))
        show 0 + 1008 ≤ (i 1).val; omega
      · refine (View.read_writes_cons_unit_of_not_mem bWords.view _ _ _ _ i rfl (0 : Fin 2) (.inr ?_))
        show 0 + 3 ≤ (i 0).val; omega
  exact Memref.IsWhole.eq_unread _ e
theorem xf_of (x : Vec F S3x7168 .bf16) (hx : x = xV c xX) (i0 i1 i2) :
    bXf.view.readCov (Val := Elt F) [⟨Rect.unit (s := S8x7168) ![0, 0] S3x7168.size i0, k0_pay52 x⟩, ⟨Rect.unit (s := S8x7168) ![0, 0] S8x7168.size i1, k0_pay50 k0_pay49⟩]
      (Rect.unit (s := S8x7168) ![0, 0] S8x7168.size i2).toLoadRect = xfV c xX := by
  subst hx
  unfold View.readCov
  rw [View.readAt_full]
  funext i
  unfold xfV
  split
  · rename_i h
    refine View.read_writes_cons_unit_of_mem bXf.view _ _ _ _ i (ix2 ⟨(i 0).val, h⟩ (i 1)) rfl ?_
    intro a; fin_cases a
    · show (i 0).val = 0 + (i 0).val; omega
    · show (i 1).val = 0 + (i 1).val; omega
  · rename_i h
    refine (View.read_writes_cons_unit_of_not_mem bXf.view _ _ _ _ i rfl (0 : Fin 2) (.inr ?_)).trans ?_
    · show 0 + 3 ≤ (i 0).val; omega
    · exact congrFun (View.read_writes_full bXf.view _ _ _ _) i
theorem x_of (w : Vec F S3x7168 .bf16) (i0) : bX.view.readCov (Val := Elt F) [⟨Rect.whole S3x7168, w⟩] (Rect.unit (s := S3x7168) ![0, 0] S3x7168.size i0).toLoadRect = w := by
  unfold View.readCov
  rw [View.readAt_full]
  exact View.read_writes_whole bX.view _ _
theorem bm_of (w : Vec F S3x1008 .i32) (i0) : bBm.view.readCov (Val := Elt F) [⟨Rect.whole S3x1008, w⟩] (Rect.unit (s := S3x1008) ![0, 0] S3x1008.size i0).toLoadRect = w := by
  unfold View.readCov
  rw [View.readAt_full]
  exact View.read_writes_whole bBm.view _ _
theorem ws_of (f : BufOf F c bWs) (w : Vec F S32256 .f32) (hw : w = fun i => aWs.view.read (Elt F) xWs i) :
    View.write (Elt F) ((bWs.slice (Rect.unit (s := S1x32256) ![0, 0] S1x32256.size inb_S1x32256_S1x32256_0_0) (fun _ => rfl)).squeeze S32256 squeezes_S1x32256_S32256).view f w Finset.univ = KN c xWs := by
  subst hw
  refine Memref.IsWhole.eq_unread (Memref.isWhole_whole _ : bWs.IsWhole) ?_
  rw [← ws_flat c, View.read_write_univ]
  funext i
  obtain ⟨i0, i1, rfl⟩ : ∃ a b, i = ix2 a b := ⟨i 0, i 1, by funext a; fin_cases a <;> rfl⟩
  show shapeCast S1x32256 (fun i => aWs.view.read (Elt F) xWs i) _ (ix2 i0 i1) = aWs.view.read (Elt F) xWs (ix1 i1)
  pointwise
theorem id_of (b : Fin 3) (w : Vec F S3x1x40 .i32) (hw : w = fun i => aId.view.read (Elt F) xId i) (i0) :
    bId.view.readCov (Val := Elt F) [⟨Rect.whole S3x1x40, w⟩] (Rect.unit (s := S3x1x40) ![b.val, 0, 0] S1x1x40.size i0).toLoadRect = idRow c xId b := by
  subst hw
  unfold View.readCov
  funext i
  refine (congrFun (View.read_writes_whole bId.view _ _) _).trans ?_
  show aId.view.read (Elt F) xId _ = aId.view.read (Elt F) xId _
  refine congrArg _ (funext fun a => Fin.ext ?_)
  have h0 : (i 0).val < 1 := (i 0).isLt
  have h1 : (i 1).val < 1 := (i 1).isLt
  fin_cases a
  · show b.val + 1 * (i 0).val = b.val; omega
  · show 0 + 1 * (i 1).val = 0; omega
  · show 0 + 1 * (i 2).val = (i 2).val; omega
theorem cid_rows (f : BufOf F c bCid) (w0 w1 w2 : Vec F S1x40x128 .i32) :
    rdCid c Rc0 (bCid.view.writes (Elt F) f [⟨Rc2, w2⟩, ⟨Rc1, w1⟩, ⟨Rc0, w0⟩]) = w0
    ∧ rdCid c Rc1 (bCid.view.writes (Elt F) f [⟨Rc2, w2⟩, ⟨Rc1, w1⟩, ⟨Rc0, w0⟩]) = w1
    ∧ rdCid c Rc2 (bCid.view.writes (Elt F) f [⟨Rc2, w2⟩, ⟨Rc1, w1⟩, ⟨Rc0, w0⟩]) = w2 := by
  refine ⟨?_, ?_, ?_⟩
  · funext j
    refine (View.read_writes_cons_unit_of_not_mem bCid.view f _ _ _ _ rfl (0 : Fin 3) (.inl ?_)).trans ?_
    · have : (j 0).val < 1 := (j 0).isLt
      show 0 + 1 * (j 0).val < 2; omega
    refine (View.read_writes_cons_unit_of_not_mem bCid.view f _ _ _ _ rfl (0 : Fin 3) (.inl ?_)).trans ?_
    · have : (j 0).val < 1 := (j 0).isLt
      show 0 + 1 * (j 0).val < 1; omega
    exact View.read_writes_cons_emb bCid.view f Rc0 _ _ j
  · funext j
    refine (View.read_writes_cons_unit_of_not_mem bCid.view f _ _ _ _ rfl (0 : Fin 3) (.inl ?_)).trans ?_
    · have : (j 0).val < 1 := (j 0).isLt
      show 1 + 1 * (j 0).val < 2; omega
    exact View.read_writes_cons_emb bCid.view f Rc1 _ _ j
  · funext j
    exact View.read_writes_cons_emb bCid.view f Rc2 _ _ j
theorem cok_rows (f : BufOf F c bCok) (w0 w1 w2 : Vec F S1x40x128 .f32) :
    bCok.view.readAt (Elt F) Rc0.toLoadRect (bCok.view.writes (Elt F) f [⟨Rc2, w2⟩, ⟨Rc1, w1⟩, ⟨Rc0, w0⟩]) = w0
    ∧ bCok.view.readAt (Elt F) Rc1.toLoadRect (bCok.view.writes (Elt F) f [⟨Rc2, w2⟩, ⟨Rc1, w1⟩, ⟨Rc0, w0⟩]) = w1
    ∧ bCok.view.readAt (Elt F) Rc2.toLoadRect (bCok.view.writes (Elt F) f [⟨Rc2, w2⟩, ⟨Rc1, w1⟩, ⟨Rc0, w0⟩]) = w2 := by
  refine ⟨?_, ?_, ?_⟩
  · funext j
    refine (View.read_writes_cons_unit_of_not_mem bCok.view f _ _ _ _ rfl (0 : Fin 3) (.inl ?_)).trans ?_
    · have : (j 0).val < 1 := (j 0).isLt
      show 0 + 1 * (j 0).val < 2; omega
    refine (View.read_writes_cons_unit_of_not_mem bCok.view f _ _ _ _ rfl (0 : Fin 3) (.inl ?_)).trans ?_
    · have : (j 0).val < 1 := (j 0).isLt
      show 0 + 1 * (j 0).val < 1; omega
    exact View.read_writes_cons_emb bCok.view f Rc0 _ _ j
  · funext j
    refine (View.read_writes_cons_unit_of_not_mem bCok.view f _ _ _ _ rfl (0 : Fin 3) (.inl ?_)).trans ?_
    · have : (j 0).val < 1 := (j 0).isLt
      show 1 + 1 * (j 0).val < 2; omega
    exact View.read_writes_cons_emb bCok.view f Rc1 _ _ j
  · funext j
    exact View.read_writes_cons_emb bCok.view f Rc2 _ _ j
theorem cid_of (f : BufOf F c bCid) (w0 w1 w2 : Vec F S1x40x128 .i32) (h0 : w0 = shapeCast S1x40x128 (idsV (F := F) c xId 0) shapeCasts_S40x128_S1x40x128)
    (h1 : w1 = shapeCast S1x40x128 (idsV (F := F) c xId 1) shapeCasts_S40x128_S1x40x128) (h2 : w2 = shapeCast S1x40x128 (idsV (F := F) c xId 2) shapeCasts_S40x128_S1x40x128) :
    bCid.view.writes (Elt F) f [⟨Rc2, w2⟩, ⟨Rc1, w1⟩, ⟨Rc0, w0⟩] = KC c xId := by
  subst h0; subst h1; subst h2
  obtain ⟨e0, e1, e2⟩ := cid_rows c f (shapeCast S1x40x128 (idsV (F := F) c xId 0) shapeCasts_S40x128_S1x40x128) (shapeCast S1x40x128 (idsV (F := F) c xId 1) shapeCasts_S40x128_S1x40x128) (shapeCast S1x40x128 (idsV (F := F) c xId 2) shapeCasts_S40x128_S1x40x128)
  refine Memref.IsWhole.eq_unread _ ?_
  funext i
  obtain ⟨b, r, l, rfl⟩ : ∃ b r l, i = ix3 b r l := ⟨i 0, i 1, i 2, by funext a; fin_cases a <;> rfl⟩
  have key : ∀ (b : Fin 3) (R : Rect S3x40x128) (z : R.shape.Idx), R.emb z = ix3 b r l → ∀ w, rdCid c R (bCid.view.writes (Elt F) f [⟨Rc2, shapeCast S1x40x128 (idsV (F := F) c xId 2) shapeCasts_S40x128_S1x40x128⟩, ⟨Rc1, shapeCast S1x40x128 (idsV (F := F) c xId 1) shapeCasts_S40x128_S1x40x128⟩, ⟨Rc0, shapeCast S1x40x128 (idsV (F := F) c xId 0) shapeCasts_S40x128_S1x40x128⟩]) = w →
      bCid.view.read (Elt F) (bCid.view.writes (Elt F) f [⟨Rc2, shapeCast S1x40x128 (idsV (F := F) c xId 2) shapeCasts_S40x128_S1x40x128⟩, ⟨Rc1, shapeCast S1x40x128 (idsV (F := F) c xId 1) shapeCasts_S40x128_S1x40x128⟩, ⟨Rc0, shapeCast S1x40x128 (idsV (F := F) c xId 0) shapeCasts_S40x128_S1x40x128⟩]) (ix3 b r l) = w z := by
    intro b R z hz w hw
    rw [← hw, ← hz]; rfl
  fin_cases b
  · refine (key 0 Rc0 (ix3 0 r l) (by funext a; refine Fin.ext ?_; fin_cases a <;> first | rfl | (show 0 + 1 * r.val = r.val; omega) | (show 0 + 1 * l.val = l.val; omega)) _ e0).trans ?_
    show shapeCast S1x40x128 (idsV (F := F) c xId 0) _ (ix3 0 r l) = idsV (F := F) c xId 0 (ix2 r l)
    pointwise
  · refine (key 1 Rc1 (ix3 0 r l) (by funext a; refine Fin.ext ?_; fin_cases a <;> first | rfl | (show 0 + 1 * r.val = r.val; omega) | (show 0 + 1 * l.val = l.val; omega)) _ e1).trans ?_
    show shapeCast S1x40x128 (idsV (F := F) c xId 1) _ (ix3 0 r l) = idsV (F := F) c xId 1 (ix2 r l)
    pointwise
  · refine (key 2 Rc2 (ix3 0 r l) (by funext a; refine Fin.ext ?_; fin_cases a <;> first | rfl | (show 0 + 1 * r.val = r.val; omega) | (show 0 + 1 * l.val = l.val; omega)) _ e2).trans ?_
    show shapeCast S1x40x128 (idsV (F := F) c xId 2) _ (ix3 0 r l) = idsV (F := F) c xId 2 (ix2 r l)
    pointwise
theorem clp_of (f : BufOf F c bClp) (w0 w1 w2 : FVec F S1x1x40 .f32) (i0 i1 i2) :
    bClp.view.read (Elt F) (bClp.view.writes (Elt F) f [⟨Rect.unit (s := S3x1x40) ![2, 0, 0] S1x1x40.size i2, w2⟩, ⟨Rect.unit (s := S3x1x40) ![1, 0, 0] S1x1x40.size i1, w1⟩, ⟨Rect.unit (s := S3x1x40) ![0, 0, 0] S1x1x40.size i0, w0⟩])
      = fun i => if (i 0).val = 0 then w0 (ix3 0 0 (i 2)) else if (i 0).val = 1 then w1 (ix3 0 0 (i 2)) else w2 (ix3 0 0 (i 2)) := by
  funext i
  have h1 : (i 1).val < 1 := (i 1).isLt
  have h0 : (i 0).val < 3 := (i 0).isLt
  dsimp only
  split
  · rename_i h
    refine (View.read_writes_cons_unit_of_not_mem bClp.view _ _ _ _ i rfl (0 : Fin 3) (.inl ?_)).trans ?_
    · show (i 0).val < 2; omega
    refine (View.read_writes_cons_unit_of_not_mem bClp.view _ _ _ _ i rfl (0 : Fin 3) (.inl ?_)).trans ?_
    · show (i 0).val < 1; omega
    refine View.read_writes_cons_unit_of_mem bClp.view _ _ _ _ i (ix3 0 0 (i 2)) rfl ?_
    intro a; fin_cases a
    · show (i 0).val = 0 + 0; omega
    · show (i 1).val = 0 + 0; omega
    · show (i 2).val = 0 + (i 2).val; omega
  · split
    · rename_i h
      refine (View.read_writes_cons_unit_of_not_mem bClp.view _ _ _ _ i rfl (0 : Fin 3) (.inl ?_)).trans ?_
      · show (i 0).val < 2; omega
      refine View.read_writes_cons_unit_of_mem bClp.view _ _ _ _ i (ix3 0 0 (i 2)) rfl ?_
      intro a; fin_cases a
      · show (i 0).val = 1 + 0; omega
      · show (i 1).val = 0 + 0; omega
      · show (i 2).val = 0 + (i 2).val; omega
    · refine View.read_writes_cons_unit_of_mem bClp.view _ _ _ _ i (ix3 0 0 (i 2)) rfl ?_
      intro a; fin_cases a
      · show (i 0).val = 2 + 0; omega
      · show (i 1).val = 0 + 0; omega
      · show (i 2).val = 0 + (i 2).val; omega
set_option maxHeartbeats 2000000 in
theorem tail0 (f) : (View.readAt (Elt F) bRing.view (Rect.unit (s := S4x7168x512) ![2, 0, 0] S1x3072x512.size inb_S4x7168x512_S1x3072x512_2_0_0).toLoadRect
    (ts0.view.writes (Elt F) f [⟨Rect.whole S3072x512, tpay0 c XW⟩])) = shapeCast S1x3072x512 (tpay0 c XW) (by decide) := by
  have e := (Memref.read_squeeze_slice bRing (Rect.unit (s := S4x7168x512) ![2, 0, 0] S1x3072x512.size inb_S4x7168x512_S1x3072x512_2_0_0) (fun _ => rfl)
    squeezes_S1x3072x512_S3072x512 (by decide) (ts0.view.writes (Elt F) f [⟨Rect.whole S3072x512, tpay0 c XW⟩])).symm.trans (View.read_writes_whole ts0.view f (tpay0 c XW))
  exact (shapeCast_shapeCast _ _ _).symm.trans (congrArg (fun u => shapeCast _ u _) e)
set_option maxHeartbeats 2000000 in
theorem tail1 (f) : (View.readAt (Elt F) bRing.view (Rect.unit (s := S4x7168x512) ![2, 3072, 0] S1x2048x512.size inb_S4x7168x512_S1x2048x512_2_3072_0).toLoadRect
    (ts1.view.writes (Elt F) f [⟨Rect.whole S2048x512, tpay1 c XW⟩])) = shapeCast S1x2048x512 (tpay1 c XW) (by decide) := by
  have e := (Memref.read_squeeze_slice bRing (Rect.unit (s := S4x7168x512) ![2, 3072, 0] S1x2048x512.size inb_S4x7168x512_S1x2048x512_2_3072_0) (fun _ => rfl)
    squeezes_S1x2048x512_S2048x512 (by decide) (ts1.view.writes (Elt F) f [⟨Rect.whole S2048x512, tpay1 c XW⟩])).symm.trans (View.read_writes_whole ts1.view f (tpay1 c XW))
  exact (shapeCast_shapeCast _ _ _).symm.trans (congrArg (fun u => shapeCast _ u _) e)
set_option maxHeartbeats 2000000 in
theorem tail2 (f) : (View.readAt (Elt F) bRing.view (Rect.unit (s := S4x7168x512) ![2, 5120, 0] S1x1280x512.size inb_S4x7168x512_S1x1280x512_2_5120_0).toLoadRect
    (ts2.view.writes (Elt F) f [⟨Rect.whole S1280x512, tpay2 c XW⟩])) = shapeCast S1x1280x512 (tpay2 c XW) (by decide) := by
  have e := (Memref.read_squeeze_slice bRing (Rect.unit (s := S4x7168x512) ![2, 5120, 0] S1x1280x512.size inb_S4x7168x512_S1x1280x512_2_5120_0) (fun _ => rfl)
    squeezes_S1x1280x512_S1280x512 (by decide) (ts2.view.writes (Elt F) f [⟨Rect.whole S1280x512, tpay2 c XW⟩])).symm.trans (View.read_writes_whole ts2.view f (tpay2 c XW))
  exact (shapeCast_shapeCast _ _ _).symm.trans (congrArg (fun u => shapeCast _ u _) e)
set_option maxHeartbeats 2000000 in
theorem tail3 (f) : (View.readAt (Elt F) bRing.view (Rect.unit (s := S4x7168x512) ![2, 6400, 0] S1x512x512.size inb_S4x7168x512_S1x512x512_2_6400_0).toLoadRect
    (ts3.view.writes (Elt F) f [⟨Rect.whole S512x512, tpay3 c XW⟩])) = shapeCast S1x512x512 (tpay3 c XW) (by decide) := by
  have e := (Memref.read_squeeze_slice bRing (Rect.unit (s := S4x7168x512) ![2, 6400, 0] S1x512x512.size inb_S4x7168x512_S1x512x512_2_6400_0) (fun _ => rfl)
    squeezes_S1x512x512_S512x512 (by decide) (ts3.view.writes (Elt F) f [⟨Rect.whole S512x512, tpay3 c XW⟩])).symm.trans (View.read_writes_whole ts3.view f (tpay3 c XW))
  exact (shapeCast_shapeCast _ _ _).symm.trans (congrArg (fun u => shapeCast _ u _) e)
set_option maxHeartbeats 2000000 in
theorem tail4 (f) : (View.readAt (Elt F) bRing.view (Rect.unit (s := S4x7168x512) ![2, 6912, 0] S1x256x512.size inb_S4x7168x512_S1x256x512_2_6912_0).toLoadRect
    (ts4.view.writes (Elt F) f [⟨Rect.whole S256x512, tpay4 c XW⟩])) = shapeCast S1x256x512 (tpay4 c XW) (by decide) := by
  have e := (Memref.read_squeeze_slice bRing (Rect.unit (s := S4x7168x512) ![2, 6912, 0] S1x256x512.size inb_S4x7168x512_S1x256x512_2_6912_0) (fun _ => rfl)
    squeezes_S1x256x512_S256x512 (by decide) (ts4.view.writes (Elt F) f [⟨Rect.whole S256x512, tpay4 c XW⟩])).symm.trans (View.read_writes_whole ts4.view f (tpay4 c XW))
  exact (shapeCast_shapeCast _ _ _).symm.trans (congrArg (fun u => shapeCast _ u _) e)
set_option maxHeartbeats 2000000 in
theorem mlFact_two (mk : ℕ → IVec S8x512 1) (lg : ℕ → FVec F S8x512 .f32) (f : BufOf F c bMl) (h : mlFact c mk lg 61 f)
    (i0 i1 i2 i3 i4 i5) (w0 w1 w2 w3 w4 w5 : Vec F S1x1x512 .f32)
    (h0 : ∀ x, w0 x = mlBlk (mk 61) (lg 61) (ix2 0 (x 2))) (h1 : ∀ x, w1 x = mlBlk (mk 61) (lg 61) (ix2 1 (x 2))) (h2 : ∀ x, w2 x = mlBlk (mk 61) (lg 61) (ix2 2 (x 2)))
    (h3 : ∀ x, w3 x = mlBlk (mk 62) (lg 62) (ix2 0 (x 2))) (h4 : ∀ x, w4 x = mlBlk (mk 62) (lg 62) (ix2 1 (x 2))) (h5 : ∀ x, w5 x = mlBlk (mk 62) (lg 62) (ix2 2 (x 2))) :
    mlFact c mk lg 63 (bMl.view.writes (Elt F) f ([⟨Rect.unit (s := S3x1x32256) ![2, 0, 31744] S1x1x512.size i5, w5⟩,
      ⟨Rect.unit (s := S3x1x32256) ![1, 0, 31744] S1x1x512.size i4, w4⟩, ⟨Rect.unit (s := S3x1x32256) ![0, 0, 31744] S1x1x512.size i3, w3⟩] ++ [
      ⟨Rect.unit (s := S3x1x32256) ![2, 0, 31232] S1x1x512.size i2, w2⟩,
      ⟨Rect.unit (s := S3x1x32256) ![1, 0, 31232] S1x1x512.size i1, w1⟩, ⟨Rect.unit (s := S3x1x32256) ![0, 0, 31232] S1x1x512.size i0, w0⟩])) := by
  rw [View.writes_append]
  refine mlFact_step c mk lg 62 _ ?_ (by omega) (by decide) (by decide) (by decide) i3 i4 i5 w3 w4 w5 h3 h4 h5
  exact mlFact_step c mk lg 61 f h (by omega) (by decide) (by decide) (by decide) i0 i1 i2 w0 w1 w2 h0 h1 h2
theorem ca_skip1 (f : BufOf F c bCacc) (w0 : Vec F S1x40x128 .f32) (L) :
    bCacc.view.readAt (Elt F) Rc1.toLoadRect (bCacc.view.writes (Elt F) f (⟨Rc0, w0⟩ :: L)) = bCacc.view.readAt (Elt F) Rc1.toLoadRect (bCacc.view.writes (Elt F) f L) := by
  funext j
  refine (View.read_writes_cons_unit_of_not_mem bCacc.view f _ _ _ _ rfl (0 : Fin 3) (.inr ?_))
  show 0 + 1 ≤ 1 + 1 * (j 0).val; omega
theorem ca_skip2 (f : BufOf F c bCacc) (w0 w1 : Vec F S1x40x128 .f32) (L) :
    bCacc.view.readAt (Elt F) Rc2.toLoadRect (bCacc.view.writes (Elt F) f (⟨Rc1, w1⟩ :: ⟨Rc0, w0⟩ :: L)) = bCacc.view.readAt (Elt F) Rc2.toLoadRect (bCacc.view.writes (Elt F) f L) := by
  funext j
  refine (View.read_writes_cons_unit_of_not_mem bCacc.view f _ _ _ _ rfl (0 : Fin 3) (.inr ?_)).trans
    (View.read_writes_cons_unit_of_not_mem bCacc.view f _ _ _ _ rfl (0 : Fin 3) (.inr ?_))
  · show 1 + 1 ≤ 2 + 1 * (j 0).val; omega
  · show 0 + 1 ≤ 2 + 1 * (j 0).val; omega
theorem ca_step (v173 : IVec S40x128 32) (n : BitVec 32) (mk : IVec S8x512 1) (lg : FVec F S8x512 .f32) (i0 i1 i2 : Vec F S1x40x128 .i32) (st st' : St F) (hst : st' = stStep v173 n mk lg i0 i1 i2 st)
    (f : BufOf F c bCacc) (w0 w1 w2 : Vec F S1x40x128 .f32)
    (h0 : w0 = k0_pay39 v173 n lg (k0_pay36 st.c0) (k0_pay37 i0) (k0_pay38 lg))
    (h1 : w1 = k0_pay44 v173 n lg (k0_pay40 st.c1) (k0_pay41 i1) (k0_pay42 lg) (k0_pay43 v173 n i1))
    (h2 : w2 = k0_pay182 v173 n lg (k0_pay45 i2) (k0_pay46 v173 n lg st.c2 i2) (k0_pay47 lg) (k0_pay48 n)) :
    caFact c (bCacc.view.writes (Elt F) f [⟨Rc2, w2⟩, ⟨Rc1, w1⟩, ⟨Rc0, w0⟩]) st' := by
  subst hst; exact caFact_step c f w0 w1 w2 _ h0 h1 h2
theorem ca_two (v173 : IVec S40x128 32) (n : BitVec 32) (mk : IVec S8x512 1) (lg : FVec F S8x512 .f32) (i0 i1 i2 : Vec F S1x40x128 .i32) (st st' : St F) (hst : st' = stStep v173 n mk lg i0 i1 i2 st)
    (f : BufOf F c bCacc) (L) (w0 w1 w2 : Vec F S1x40x128 .f32)
    (h0 : w0 = k0_pay39 v173 n lg (k0_pay36 st.c0) (k0_pay37 i0) (k0_pay38 lg))
    (h1 : w1 = k0_pay44 v173 n lg (k0_pay40 st.c1) (k0_pay41 i1) (k0_pay42 lg) (k0_pay43 v173 n i1))
    (h2 : w2 = k0_pay182 v173 n lg (k0_pay45 i2) (k0_pay46 v173 n lg st.c2 i2) (k0_pay47 lg) (k0_pay48 n)) :
    caFact c (bCacc.view.writes (Elt F) f ([⟨Rc2, w2⟩, ⟨Rc1, w1⟩, ⟨Rc0, w0⟩] ++ L)) st' := by
  rw [View.writes_append]; subst hst; exact caFact_step c _ w0 w1 w2 _ h0 h1 h2
theorem colW61 : colW 61 = 31232#32 := by decide
theorem colW62 : colW 62 = 31744#32 := by decide
end

end Cert.KernelIdeal.Hand

end
-- ==== Proof.KI.Body.lean ====
/-
  The kernel's body, run: the code before the loop, the loop, the last two blocks, the copies out.
-/
module

public import proofs.«01_k».proof.Proof.KI.Facts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The cells of the single copies -/

def cX : DmaSems sig S_ := cc0_scratch21
def cS0 : DmaSems sig S_ := (cc0_scratch22.slice (Rect.unit (s := S3) ![0] S1.size inb_S3_S1_0)).squeeze S_ squeezes_S1_S_
@[sl_canon] theorem cSL0 (hh) : (cc0_scratch22.slice (Rect.unit (s := S3) ![0] S1.size hh)).squeeze S_ squeezes_S1_S_ = cS0 := rfl
def cS1 : DmaSems sig S_ := (cc0_scratch22.slice (Rect.unit (s := S3) ![1] S1.size inb_S3_S1_1)).squeeze S_ squeezes_S1_S_
@[sl_canon] theorem cSL1 (hh) : (cc0_scratch22.slice (Rect.unit (s := S3) ![1] S1.size hh)).squeeze S_ squeezes_S1_S_ = cS1 := rfl
def cS2 : DmaSems sig S_ := (cc0_scratch22.slice (Rect.unit (s := S3) ![2] S1.size inb_S3_S1_2)).squeeze S_ squeezes_S1_S_
@[sl_canon] theorem cSL2 (hh) : (cc0_scratch22.slice (Rect.unit (s := S3) ![2] S1.size hh)).squeeze S_ squeezes_S1_S_ = cS2 := rfl
def cO0 : DmaSems sig S_ := (cc0_scratch23.slice (Rect.unit (s := S5) ![0] S1.size inb_S5_S1_0)).squeeze S_ squeezes_S1_S_
@[sl_canon] theorem cOL0 (hh) : (cc0_scratch23.slice (Rect.unit (s := S5) ![0] S1.size hh)).squeeze S_ squeezes_S1_S_ = cO0 := rfl
def cO1 : DmaSems sig S_ := (cc0_scratch23.slice (Rect.unit (s := S5) ![1] S1.size inb_S5_S1_1)).squeeze S_ squeezes_S1_S_
@[sl_canon] theorem cOL1 (hh) : (cc0_scratch23.slice (Rect.unit (s := S5) ![1] S1.size hh)).squeeze S_ squeezes_S1_S_ = cO1 := rfl
def cO2 : DmaSems sig S_ := (cc0_scratch23.slice (Rect.unit (s := S5) ![2] S1.size inb_S5_S1_2)).squeeze S_ squeezes_S1_S_
@[sl_canon] theorem cOL2 (hh) : (cc0_scratch23.slice (Rect.unit (s := S5) ![2] S1.size hh)).squeeze S_ squeezes_S1_S_ = cO2 := rfl
def cO3 : DmaSems sig S_ := (cc0_scratch23.slice (Rect.unit (s := S5) ![3] S1.size inb_S5_S1_3)).squeeze S_ squeezes_S1_S_
@[sl_canon] theorem cOL3 (hh) : (cc0_scratch23.slice (Rect.unit (s := S5) ![3] S1.size hh)).squeeze S_ squeezes_S1_S_ = cO3 := rfl
def cO4 : DmaSems sig S_ := (cc0_scratch23.slice (Rect.unit (s := S5) ![4] S1.size inb_S5_S1_4)).squeeze S_ squeezes_S1_S_
@[sl_canon] theorem cOL4 (hh) : (cc0_scratch23.slice (Rect.unit (s := S5) ![4] S1.size hh)).squeeze S_ squeezes_S1_S_ = cO4 := rfl

abbrev cellD (c : Dev nD) (s : DmaSems sig S_) : sProp 𝕄 := semVal ((c : Thread nD τ), SemLoc.dma s.sem) 0

section
variable (c : Dev nD) (XW : BufOf F c aW) (Q : Fin 9 → PosShare TreeShare)
  (xX : BufOf F c aX) (xWs : BufOf F c aWs) (xBm : BufOf F c aBm) (xId : BufOf F c aId)

/-- What the loop leaves: the last block's pieces on their way into slot 2, the other slots free. -/
theorem InvExit (v27 : IVec S8x128 32) (v173 : IVec S40x128 32)
  (fa : BufOf F c bXq) (fw : BufOf F c bWords) (fs : BufOf F c bXsb) (fws : BufOf F c bWs) (fcid : BufOf F c bCid)
  (raw : ℕ → FVec F S8x512 .f32) (st0 : St F) (acc : FVec F S8x512 .f32) :
    (InvP c XW Q v27 v173 fa fw fs fws fcid raw st0 k0_t1_loop.trips acc : sProp 𝕄)
      ⊢ iprop(⌜acc = raw 61⌝ ∗ TailFly c XW Q ∗ FreeP c XW Q 3 ∗ FreeP c XW Q 0 ∗ FreeP c XW Q 1
        ∗ FixP c fa fw fs fws fcid ∗ AccP c v27 v173 fw fs fws fcid raw st0 61 ∗ (∃ W, owes (c : Thread nD τ) 0 W)) := by
  rw [trips_eq]
  unfold InvP
  rw [show 61 + 1 = 62 from rfl, RoleP_tail, RoleP_free c XW Q (show 62 < 61 + 2 by omega), RoleP_free c XW Q (show 62 < 61 + 3 by omega),
    show Ring.sl 4 (61 + 2) = 3 from rfl, show Ring.sl 4 (61 + 3) = 0 from rfl, show Ring.sl 4 (61 + 4) = 1 from rfl]
  iintro ⟨-, H1, H2, H3, H4, H5, -, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

abbrev bodyG : Prog (TpuEff nD τ sig (Elt F) Λ₀ .tc) PUnit :=
  cc0__body (F := F) aX (Memref.isWhole_whole _) aW (Memref.isWhole_whole _) aWs (Memref.isWhole_whole _) aBm (Memref.isWhole_whole _)
    aId (Memref.isWhole_whole _) oMl (Memref.isWhole_whole _) oLse (Memref.isWhole_whole _) oClp (Memref.isWhole_whole _)
    oXc (Memref.isWhole_whole _) oXs (Memref.isWhole_whole _) bRing (Memref.isWhole_whole _) bX (Memref.isWhole_whole _)
    bWs (Memref.isWhole_whole _) bBm (Memref.isWhole_whole _) bId (Memref.isWhole_whole _) bMl (Memref.isWhole_whole _)
    bLse (Memref.isWhole_whole _) bClp (Memref.isWhole_whole _) bXc (Memref.isWhole_whole _) bXs (Memref.isWhole_whole _)
    bXf (Memref.isWhole_whole _) bXq (Memref.isWhole_whole _) bWords (Memref.isWhole_whole _) bCid (Memref.isWhole_whole _)
    bCok (Memref.isWhole_whole _) bCacc (Memref.isWhole_whole _) bXsb (Memref.isWhole_whole _) bM (Memref.isWhole_whole _)
    bS (Memref.isWhole_whole _) cc0_scratch19 cc0_scratch20 cc0_scratch21 cc0_scratch22 cc0_scratch23

/-- What the body is handed: the operands, every buffer at anything, every cell at zero, nine read tokens of the weight codes. -/
def bodyPre : sProp 𝕄 := iprop(pt c aX xX ∗ pt c aWs xWs ∗ pt c aBm xBm ∗ pt c aId xId
      ∗ (∃ f, pt c oMl f) ∗ (∃ f, pt c oLse f) ∗ (∃ f, pt c oClp f) ∗ (∃ f, pt c oXc f) ∗ (∃ f, pt c oXs f) ∗ (∃ f, pt c bX f) ∗ (∃ f, pt c bWs f) ∗ (∃ f, pt c bBm f) ∗ (∃ f, pt c bId f) ∗ (∃ f, pt c bMl f) ∗ (∃ f, pt c bLse f) ∗ (∃ f, pt c bClp f) ∗ (∃ f, pt c bXc f) ∗ (∃ f, pt c bXs f) ∗ (∃ f, pt c bXf f) ∗ (∃ f, pt c bXq f) ∗ (∃ f, pt c bWords f) ∗ (∃ f, pt c bCid f) ∗ (∃ f, pt c bCok f) ∗ (∃ f, pt c bCacc f) ∗ (∃ f, pt c bXsb f) ∗ (∃ f, pt c bM f) ∗ (∃ f, pt c bS f)
      ∗ cellD c cX ∗ cellD c cS0 ∗ cellD c cS1 ∗ cellD c cS2 ∗ cellD c cO0 ∗ cellD c cO1 ∗ cellD c cO2 ∗ cellD c cO3 ∗ cellD c cO4
      ∗ (∃ f, slotP c 0 f) ∗ (∃ f, slotP c 1 f) ∗ (∃ f, slotP c 2 f) ∗ (∃ f, slotP c 3 f) ∗ cellP c 0 ∗ cellP c 1 ∗ cellP c 2 ∗ cellP c 3
      ∗ wTok c XW Q 0 ∗ wTok c XW Q 1 ∗ wTok c XW Q 2 ∗ wTok c XW Q 3
      ∗ TailFree c XW Q ∗ (∃ W, owes (c : Thread nD τ) 0 W))
/-- What it hands back: the same, the results holding what they should. -/
def bodyPost : sProp 𝕄 := iprop(pt c aX xX ∗ pt c aWs xWs ∗ pt c aBm xBm ∗ pt c aId xId
      ∗ (∃ f, ⌜FactMl c XW xX xWs xBm f⌝ ∗ pt c oMl f) ∗ (∃ f, ⌜FactLse c XW xX xWs xBm xId f⌝ ∗ pt c oLse f) ∗ (∃ f, ⌜FactClp c XW xX xWs xBm xId f⌝ ∗ pt c oClp f) ∗ (∃ f, ⌜FactXc c xX f⌝ ∗ pt c oXc f) ∗ (∃ f, ⌜FactXs c xX f⌝ ∗ pt c oXs f)
      ∗ (∃ f, pt c bX f) ∗ (∃ f, pt c bWs f) ∗ (∃ f, pt c bBm f) ∗ (∃ f, pt c bId f) ∗ (∃ f, pt c bMl f) ∗ (∃ f, pt c bLse f) ∗ (∃ f, pt c bClp f) ∗ (∃ f, pt c bXc f) ∗ (∃ f, pt c bXs f) ∗ (∃ f, pt c bXf f) ∗ (∃ f, pt c bXq f) ∗ (∃ f, pt c bWords f) ∗ (∃ f, pt c bCid f) ∗ (∃ f, pt c bCok f) ∗ (∃ f, pt c bCacc f) ∗ (∃ f, pt c bXsb f) ∗ (∃ f, pt c bM f) ∗ (∃ f, pt c bS f)
      ∗ cellD c cX ∗ cellD c cS0 ∗ cellD c cS1 ∗ cellD c cS2 ∗ cellD c cO0 ∗ cellD c cO1 ∗ cellD c cO2 ∗ cellD c cO3 ∗ cellD c cO4
      ∗ (∃ f, slotP c 0 f) ∗ (∃ f, slotP c 1 f) ∗ (∃ f, slotP c 2 f) ∗ (∃ f, slotP c 3 f) ∗ cellP c 0 ∗ cellP c 1 ∗ cellP c 2 ∗ cellP c 3
      ∗ wTok c XW Q 0 ∗ wTok c XW Q 1 ∗ wTok c XW Q 2 ∗ wTok c XW Q 3
      ∗ TailFree c XW Q ∗ (∃ W, owes (c : Thread nD τ) 0 W))

set_option maxHeartbeats 16000000 in
theorem bodyRun (K : PUnit → sProp 𝕄) :
    (iprop(bodyPre c XW Q xX xWs xBm xId ∗ (bodyPost c XW Q xX xWs xBm xId -∗ K ⟨⟩)) : sProp 𝕄)
      ⊢ wp frame (wpE (defs₀ (F := F)) 𝒱₀ (c : Thread nD τ) none) Set.univ (bodyG (F := F)) K := by
  unfold bodyPre bodyPost
  iintro ⟨⟨HaX, HaWs, HaBm, HaId, ⟨%foMl, HoMl⟩, ⟨%foLse, HoLse⟩, ⟨%foClp, HoClp⟩, ⟨%foXc, HoXc⟩, ⟨%foXs, HoXs⟩, ⟨%fbX, HbX⟩, ⟨%fbWs, HbWs⟩, ⟨%fbBm, HbBm⟩, ⟨%fbId, HbId⟩, ⟨%fbMl, HbMl⟩, ⟨%fbLse, HbLse⟩, ⟨%fbClp, HbClp⟩, ⟨%fbXc, HbXc⟩, ⟨%fbXs, HbXs⟩, ⟨%fbXf, HbXf⟩, ⟨%fbXq, HbXq⟩, ⟨%fbWords, HbWords⟩, ⟨%fbCid, HbCid⟩, ⟨%fbCok, HbCok⟩, ⟨%fbCacc, HbCacc⟩, ⟨%fbXsb, HbXsb⟩, ⟨%fbM, HbM⟩, ⟨%fbS, HbS⟩, HcX, HcS0, HcS1, HcS2, HcO0, HcO1, HcO2, HcO3, HcO4, ⟨%fs0, Hsl0⟩, ⟨%fs1, Hsl1⟩, ⟨%fs2, Hsl2⟩, ⟨%fs3, Hsl3⟩, Hce0, Hce1, Hce2, Hce3, Htk0, Htk1, Htk2, Htk3, HTail, ⟨%W, HW⟩⟩, HK⟩
  ihave Hl0 := (blk_lend c XW Q 0 0).1 $$ Htk0
  icases Hl0 with ⟨Hbl0, Hbr0⟩
  ihave Hl1 := (blk_lend c XW Q 1 1).1 $$ Htk1
  icases Hl1 with ⟨Hbl1, Hbr1⟩
  ihave Hl2 := (blk_lend c XW Q 2 2).1 $$ Htk2
  icases Hl2 with ⟨Hbl2, Hbr2⟩
  ihave Hl3 := (blk_lend c XW Q 3 3).1 $$ Htk3
  icases Hl3 with ⟨Hbl3, Hbr3⟩
  dsimp only [bodyG]
  simp only [cc0__body_eq_skeleton]
  sl_unfold [cc0__body_skel]
  sl_exec
  ihave HT0 := (blk_lend c XW Q 0 0).2 $$ [Hbl0 Hbr0]
  · isplitl [Hbl0]; · iexact Hbl0
    iexact Hbr0
  sl_for (InvP c XW Q bodyRun.sl.v27 bodyRun.sl.v173 (bXq.view.writes (Elt F) bXq.view.junk (bodyRun.sl.HbXq_1 c xX)) (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3))) $$ [HbXq HbWords HbXsb HbWs HbCid HbMl HbM HbS HbCacc Hsl0 Hce0 HT0 Hce1 Hbr1 Hce2 Hbr2 Hce3 Hbr3 HTail HW]
  · intro k acc; exact (loopInv1 c XW Q bodyRun.sl.v27 bodyRun.sl.v173 _ _ _ _ _ _ _ 1#32 rfl (bodyRun.sl.r_15 c XW xX)).step k acc
  · unfold InvP
    isplitr
    swap
    isplitr
    swap
    isplitl [Hce1 Hbr1]
    · rw [RoleP_fly c XW Q (show 0 + 1 < 62 by omega)]
      unfold FlyP
      isplitl [Hce1]
      · iexists fs1; iexact Hce1
      iexact Hbr1
    isplitl [Hce2 Hbr2]
    · rw [RoleP_fly c XW Q (show 0 + 2 < 62 by omega)]
      unfold FlyP
      isplitl [Hce2]
      · iexists fs2; iexact Hce2
      iexact Hbr2
    isplitl [Hce3 Hbr3]
    · rw [RoleP_fly c XW Q (show 0 + 3 < 62 by omega)]
      unfold FlyP
      isplitl [Hce3]
      · iexists fs3; iexact Hce3
      iexact Hbr3
    isplitl [Hsl0 Hce0 HT0]
    · unfold FreeP
      isplitl [Hsl0]; · iexists _; iexact Hsl0
      isplitl [Hce0]; · iexact Hce0
      iexact HT0
    isplitl [HTail]
    · rw [TailP_le c XW Q (show 0 ≤ 58 by omega)]; iexact HTail
    isplitl [HbXq HbWords HbXsb HbWs HbCid]
    · isplitl [HbXq]; · iexact HbXq
      isplitl [HbWords]; · iexact HbWords
      isplitl [HbXsb]; · iexact HbXsb
      isplitl [HbWs]; · iexact HbWs
      iexact HbCid
    isplitl [HbMl HbM HbS HbCacc]
    · isplitl [HbMl]
      · iexists fbMl; isplitr
        · ipureintro; intro b p hp j h; omega
        · iexact HbMl
      isplitl [HbM]
      · iexists _; isplitr; swap; · iexact HbM
        ipureintro; exact rfl
      isplitl [HbS]
      · iexists _; isplitr; swap; · iexact HbS
        ipureintro; exact rfl
      · iexists _; isplitr; swap; · iexact HbCacc
        ipureintro; exact ⟨rfl, rfl, rfl⟩
    iexists _; iexact HW
    · ipureintro
      refine (congrArg (dotBlk _) (slotRead c XW 0 0 _ rfl _)).trans ?_
      exact (if_pos (by omega)).symm
    · ipureintro; intro p hp; exact (if_pos hp).symm
  iintro %acc HI
  ihave HI2 := (InvExit c XW Q bodyRun.sl.v27 bodyRun.sl.v173 _ _ _ _ _ _ _ acc) $$ HI
  icases HI2 with ⟨%hacc, HTF, HF3, HF0, HF1, ⟨HbXq, HbWords, HbXsb, HbWs, HbCid⟩, ⟨⟨%fml, %hml, HbMl⟩, ⟨%fm, %hm, HbM⟩, ⟨%fss, %hs, HbS⟩, ⟨%fca, %hca, HbCacc⟩⟩, ⟨%W2, HW⟩⟩
  unfold TailFly
  icases HTF with ⟨⟨⟨%g0, HG0⟩, HR0⟩, ⟨⟨%g1, HG1⟩, HR1⟩, ⟨⟨%g2, HG2⟩, HR2⟩, ⟨⟨%g3, HG3⟩, HR3⟩, ⟨⟨%g4, HG4⟩, HR4⟩, HC2, HT2⟩
  sl_exec
  unfold FreeP
  icases HF0 with ⟨Hsl0, Hce0, Htk0⟩
  icases HF1 with ⟨Hsl1, Hce1, Htk1⟩
  icases HF3 with ⟨Hsl3, Hce3, Htk3⟩
  ihave Hsl2 := (slot2_join c) $$ [HG0_dst HG1_dst HG2_dst HG3_dst HG4_dst]
  · isplitl [HG0_dst]; · iexists _; iexact HG0_dst
    isplitl [HG1_dst]; · iexists _; iexact HG1_dst
    isplitl [HG2_dst]; · iexists _; iexact HG2_dst
    isplitl [HG3_dst]; · iexists _; iexact HG3_dst
    iexists _; iexact HG4_dst
  ihave HQ0 := (tail_lend0 c XW Q).2 $$ [HG0_src HR0]
  · isplitl [HG0_src]; · iexact HG0_src
    iexact HR0
  ihave HQ1 := (tail_lend1 c XW Q).2 $$ [HG1_src HR1]
  · isplitl [HG1_src]; · iexact HG1_src
    iexact HR1
  ihave HQ2 := (tail_lend2 c XW Q).2 $$ [HG2_src HR2]
  · isplitl [HG2_src]; · iexact HG2_src
    iexact HR2
  ihave HQ3 := (tail_lend3 c XW Q).2 $$ [HG3_src HR3]
  · isplitl [HG3_src]; · iexact HG3_src
    iexact HR3
  ihave HQ4 := (tail_lend4 c XW Q).2 $$ [HG4_src HR4]
  · isplitl [HG4_src]; · iexact HG4_src
    iexact HR4
  sl_step
  have p_v36 : bodyRun.sl.v36 c xX = xV c xX := by
    unfold bodyRun.sl.v36 View.readCov
    rw [View.readAt_full]
    exact View.read_writes_whole bX.view _ _
  have p_v41 : bodyRun.sl.v41 c xX = xfV c xX := by
    unfold bodyRun.sl.v41 View.readCov
    rw [View.readAt_full]
    unfold bodyRun.sl.HbXf_2
    rw [p_v36]
    funext i
    unfold xfV
    split
    · rename_i h
      refine View.read_writes_cons_unit_of_mem bXf.view _ _ _ _ i (ix2 ⟨(i 0).val, h⟩ (i 1)) rfl ?_
      intro a; fin_cases a
      · show (i 0).val = 0 + (i 0).val; omega
      · show (i 1).val = 0 + (i 1).val; omega
    · rename_i h
      refine (View.read_writes_cons_unit_of_not_mem bXf.view _ _ _ _ i rfl (0 : Fin 2) (.inr ?_)).trans ?_
      · show 0 + 3 ≤ (i 0).val; omega
      · exact congrFun (View.read_writes_full bXf.view _ _ _ _) i
  have p_v168 : bodyRun.sl.v168 c xBm = fun i => aBm.view.read (Elt F) xBm i := by
    unfold bodyRun.sl.v168 View.readCov
    rw [View.readAt_full]
    exact View.read_writes_whole bBm.view _ _
  have p_m61 : bodyRun.sl.r_17 (F := F) c xBm = maskV c bodyRun.sl.v27 (bWords.view.writes (Elt F) bWords.view.junk (bodyRun.sl.HbWords_2 c xBm)) 61 := by
    have eW : bodyRun.sl.v1508 c xBm = rdWords c 61 (bWords.view.writes (Elt F) bWords.view.junk (bodyRun.sl.HbWords_2 c xBm)) := rdWords_eq c (bWords.view.writes (Elt F) bWords.view.junk (bodyRun.sl.HbWords_2 c xBm)) 61 (by decide +kernel) _ (by omega)
    rw [maskV, ← eW]; rfl
  have p_m62 : bodyRun.sl.r_21 (F := F) c xBm = maskV c bodyRun.sl.v27 (bWords.view.writes (Elt F) bWords.view.junk (bodyRun.sl.HbWords_2 c xBm)) 62 := by
    have eW : bodyRun.sl.v1894 c xBm = rdWords c 62 (bWords.view.writes (Elt F) bWords.view.junk (bodyRun.sl.HbWords_2 c xBm)) := rdWords_eq c (bWords.view.writes (Elt F) bWords.view.junk (bodyRun.sl.HbWords_2 c xBm)) 62 (by decide +kernel) _ (by omega)
    rw [maskV, ← eW]; rfl
  have p_l61 : bodyRun.sl.r_18 c xX xWs fbWs acc = lgV c (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (rawAll c XW (bXq.view.writes (Elt F) bXq.view.junk (bodyRun.sl.HbXq_1 c xX))) 61 := by
    have eS : bodyRun.sl.v1735 c xWs fbWs = rdWs c 61 (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) := rdWs_eq c (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) 61 (by decide +kernel) _ (by omega)
    rw [lgV, ← eS, ← hacc]; rfl
  have p_id0 : bodyRun.sl.v175 c xId = idRow c xId 0 := by
    unfold bodyRun.sl.v175 View.readCov
    funext i
    refine (congrFun (View.read_writes_whole bId.view _ _) _).trans ?_
    show aId.view.read (Elt F) xId _ = aId.view.read (Elt F) xId _
    refine congrArg _ (funext fun a => Fin.ext ?_)
    have h0 : (i 0).val < 1 := (i 0).isLt
    have h1 : (i 1).val < 1 := (i 1).isLt
    fin_cases a
    · show 0 + 1 * (i 0).val = 0; omega
    · show 0 + 1 * (i 1).val = 0; omega
    · show 0 + 1 * (i 2).val = (i 2).val; omega
  have p_id1 : bodyRun.sl.v605 c xId = idRow c xId 1 := by
    unfold bodyRun.sl.v605 View.readCov
    funext i
    refine (congrFun (View.read_writes_whole bId.view _ _) _).trans ?_
    show aId.view.read (Elt F) xId _ = aId.view.read (Elt F) xId _
    refine congrArg _ (funext fun a => Fin.ext ?_)
    have h0 : (i 0).val < 1 := (i 0).isLt
    have h1 : (i 1).val < 1 := (i 1).isLt
    fin_cases a
    · show 1 + 1 * (i 0).val = 1; omega
    · show 0 + 1 * (i 1).val = 0; omega
    · show 0 + 1 * (i 2).val = (i 2).val; omega
  have p_id2 : bodyRun.sl.v1035 c xId = idRow c xId 2 := by
    unfold bodyRun.sl.v1035 View.readCov
    funext i
    refine (congrFun (View.read_writes_whole bId.view _ _) _).trans ?_
    show aId.view.read (Elt F) xId _ = aId.view.read (Elt F) xId _
    refine congrArg _ (funext fun a => Fin.ext ?_)
    have h0 : (i 0).val < 1 := (i 0).isLt
    have h1 : (i 1).val < 1 := (i 1).isLt
    fin_cases a
    · show 2 + 1 * (i 0).val = 2; omega
    · show 0 + 1 * (i 1).val = 0; omega
    · show 0 + 1 * (i 2).val = (i 2).val; omega
  have p_raw62 : bodyRun.sl.r_23 c XW xX = rawAll c XW (bXq.view.writes (Elt F) bXq.view.junk (bodyRun.sl.HbXq_1 c xX)) 62 := by
    have hT : rawAll c XW (bXq.view.writes (Elt F) bXq.view.junk (bodyRun.sl.HbXq_1 c xX)) 62 = rawLast c XW (bXq.view.writes (Elt F) bXq.view.junk (bodyRun.sl.HbXq_1 c xX)) := if_neg (by omega)
    rw [hT, rawLast, ← tail0 c XW ts0.view.junk, ← tail1 c XW ts1.view.junk, ← tail2 c XW ts2.view.junk, ← tail3 c XW ts3.view.junk, ← tail4 c XW ts4.view.junk]
    rfl
  have p_l62 : bodyRun.sl.r_24 c XW xX xWs fbWs = lgV c (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (rawAll c XW (bXq.view.writes (Elt F) bXq.view.junk (bodyRun.sl.HbXq_1 c xX))) 62 := by
    have eS : bodyRun.sl.v2165 c xWs fbWs = rdWs c 62 (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) := rdWs_eq c (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) 62 (by decide +kernel) _ (by omega)
    rw [lgV, ← eS, ← p_raw62]; rfl
  have p_ml : mlFact c (maskV c bodyRun.sl.v27 (bWords.view.writes (Elt F) bWords.view.junk (bodyRun.sl.HbWords_2 c xBm))) (lgV c (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (rawAll c XW (bXq.view.writes (Elt F) bXq.view.junk (bodyRun.sl.HbXq_1 c xX)))) 63 (bMl.view.writes (Elt F) fml (bodyRun.sl.HbMl_6 c XW xX xWs xBm fbWs acc)) := by
    refine mlFact_two c _ _ fml hml _ _ _ _ _ _ _ _ _ _ _ _ ?_ ?_ ?_ ?_ ?_ ?_
    · intro x; rw [← p_m61, ← p_l61]; exact row_at0 (mlBlk (bodyRun.sl.r_17 c xBm) (bodyRun.sl.r_18 c xX xWs fbWs acc)) x
    · intro x; rw [← p_m61, ← p_l61]; exact row_at1 (mlBlk (bodyRun.sl.r_17 c xBm) (bodyRun.sl.r_18 c xX xWs fbWs acc)) x
    · intro x; rw [← p_m61, ← p_l61]; exact row_at2 (mlBlk (bodyRun.sl.r_17 c xBm) (bodyRun.sl.r_18 c xX xWs fbWs acc)) x
    · intro x; rw [← p_m62, ← p_l62]; exact row_at0 (mlBlk (bodyRun.sl.r_21 c xBm) (bodyRun.sl.r_24 c XW xX xWs fbWs)) x
    · intro x; rw [← p_m62, ← p_l62]; exact row_at1 (mlBlk (bodyRun.sl.r_21 c xBm) (bodyRun.sl.r_24 c XW xX xWs fbWs)) x
    · intro x; rw [← p_m62, ← p_l62]; exact row_at2 (mlBlk (bodyRun.sl.r_21 c xBm) (bodyRun.sl.r_24 c XW xX xWs fbWs)) x
  have p_m62' : bodyRun.sl.v2188 c XW xX xWs xBm xId fbWs acc = (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 62).m := by
    unfold bodyRun.sl.v2188 bodyRun.sl.HbM_1_1
    rw [View.readCov_full, p_m61, p_l61]
    rfl
  have p_s62' : bodyRun.sl.v2195 c XW xX xWs xBm xId fbWs acc = (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 62).s := by
    unfold bodyRun.sl.v2195 bodyRun.sl.HbS_1_1
    rw [View.readCov_full, p_m61, p_l61]
    rfl
  have p_m63 : bodyRun.sl.v2322 c XW xX xWs xBm xId fbWs acc = (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 63).m := by
    unfold bodyRun.sl.v2322 bodyRun.sl.HbM_2
    rw [View.readCov_full]
    show k0_pay34 (bodyRun.sl.r_21 c xBm) (bodyRun.sl.r_24 c XW xX xWs fbWs) (bodyRun.sl.v2188 c XW xX xWs xBm xId fbWs acc) = _
    rw [p_m62, p_l62, p_m62']
    rfl
  have p_s63 : bodyRun.sl.v2325 c XW xX xWs xBm xId fbWs acc = (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 63).s := by
    unfold bodyRun.sl.v2325 bodyRun.sl.HbS_2
    rw [View.readCov_full]
    show k0_pay35 (bodyRun.sl.r_21 c xBm) (bodyRun.sl.r_24 c XW xX xWs fbWs) (bodyRun.sl.v2188 c XW xX xWs xBm xId fbWs acc) (bodyRun.sl.v2195 c XW xX xWs xBm xId fbWs acc) = _
    rw [p_m62, p_l62, p_m62', p_s62']
    rfl
  have p_ok0 : bodyRun.sl.v2349 (F := F) c xBm xId = cokV (F := F) (hitV (idsV (F := F) c xId 0) (wRow c (bWords.view.writes (Elt F) bWords.view.junk (bodyRun.sl.HbWords_2 c xBm)) 0)) := by
    refine (cok_rows (F := F) c _ _ _ _).1.trans ?_
    unfold idsV; rw [← p_id0]; rfl
  have p_ok1 : bodyRun.sl.v2372 (F := F) c xBm xId = cokV (F := F) (hitV (idsV (F := F) c xId 1) (wRow c (bWords.view.writes (Elt F) bWords.view.junk (bodyRun.sl.HbWords_2 c xBm)) 1)) := by
    refine (cok_rows (F := F) c _ _ _ _).2.1.trans ?_
    unfold idsV; rw [← p_id1]; rfl
  have p_ok2 : bodyRun.sl.v2395 (F := F) c xBm xId = cokV (F := F) (hitV (idsV (F := F) c xId 2) (wRow c (bWords.view.writes (Elt F) bWords.view.junk (bodyRun.sl.HbWords_2 c xBm)) 2)) := by
    refine (cok_rows (F := F) c _ _ _ _).2.2.trans ?_
    unfold idsV; rw [← p_id2]; rfl
  have p_ca62 : caFact c (bCacc.view.writes (Elt F) bCacc.view.junk (bodyRun.sl.HbCacc_3_1 c xX xWs xId fbWs acc fca)) (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 62) := by
    obtain ⟨h0, h1, h2⟩ := hca
    refine ca_step c _ _ _ _ _ _ _ _ _ (show (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 62) = _ from rfl) bCacc.view.junk _ _ _ ?_ ?_ ?_
    · rw [← p_l61, ← h0, colW61]; rfl
    · rw [← p_l61, ← h1, colW61]; rfl
    · rw [← p_l61, ← h2, colW61]; rfl
  have p_ca63 : caFact c (bCacc.view.writes (Elt F) bCacc.view.junk (bodyRun.sl.HbCacc_6 c XW xX xWs xId fbWs acc fca)) (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 63) := by
    obtain ⟨h0, h1, h2⟩ := p_ca62
    have e1 : bodyRun.sl.v2252 c XW xX xWs xId fbWs acc fca = (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 62).c1 := (ca_skip1 c bCacc.view.junk (bodyRun.sl.v2251 c XW xX xWs xId fbWs acc fca) (bodyRun.sl.HbCacc_3_1 c xX xWs xId fbWs acc fca)).trans h1
    have e2 : bodyRun.sl.v2287 c XW xX xWs xId fbWs acc fca = (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 62).c2 := (ca_skip2 c bCacc.view.junk (bodyRun.sl.v2251 c XW xX xWs xId fbWs acc fca) (bodyRun.sl.v2286 c XW xX xWs xId fbWs acc fca) (bodyRun.sl.HbCacc_3_1 c xX xWs xId fbWs acc fca)).trans h2
    have e0 : bodyRun.sl.v2217 c xX xWs xId fbWs acc fca = (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 62).c0 := h0
    refine ca_two c _ _ _ _ _ _ _ _ _ (show (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 63) = _ from rfl) bCacc.view.junk (bodyRun.sl.HbCacc_3_1 c xX xWs xId fbWs acc fca) _ _ _ ?_ ?_ ?_
    · rw [← p_l62, ← e0, colW62]; rfl
    · rw [← p_l62, ← e1, colW62]; rfl
    · rw [← p_l62, ← e2, colW62]; rfl
  have p_st0 : (st0Of c (bM.view.writes (Elt F) bM.view.junk bodyRun.sl.HbM_1) (bS.view.writes (Elt F) bS.view.junk bodyRun.sl.HbS_1) (bCacc.view.writes (Elt F) bCacc.view.junk bodyRun.sl.HbCacc_3)) = stInit := by
    have e1 : rdM c (bM.view.writes (Elt F) bM.view.junk bodyRun.sl.HbM_1) = (k0_pay179 : Vec F S8x128 .f32) := View.readAt_writes_full bM.view _ _ _ _ _
    have e2 : rdS c (bS.view.writes (Elt F) bS.view.junk bodyRun.sl.HbS_1) = (k0_pay180 : Vec F S8x128 .f32) := View.readAt_writes_full bS.view _ _ _ _ _
    obtain ⟨h0, h1, h2⟩ := caFact_step c bCacc.view.junk k0_pay105 k0_pay144 k0_pay178 (stInit (F := F)) rfl rfl rfl
    have h0' : rdCacc c Rc0 (bCacc.view.writes (Elt F) bCacc.view.junk bodyRun.sl.HbCacc_3) = (k0_pay105 : Vec F S1x40x128 .f32) := h0
    have h1' : rdCacc c Rc1 (bCacc.view.writes (Elt F) bCacc.view.junk bodyRun.sl.HbCacc_3) = (k0_pay144 : Vec F S1x40x128 .f32) := h1
    have h2' : rdCacc c Rc2 (bCacc.view.writes (Elt F) bCacc.view.junk bodyRun.sl.HbCacc_3) = (k0_pay178 : Vec F S1x40x128 .f32) := h2
    unfold st0Of stInit
    rw [e1, e2, h0', h1', h2']
  have eQ : (bXq.view.writes (Elt F) bXq.view.junk (bodyRun.sl.HbXq_1 c xX)) = KQ c xX := by
    refine Memref.IsWhole.eq_unread (Memref.isWhole_whole _ : bXq.IsWhole) ?_
    refine (View.read_writes_full bXq.view _ _ _ _).trans ?_; rw [← p_v41]; rfl
  have eS : (bXsb.view.writes (Elt F) bXsb.view.junk (bodyRun.sl.HbXsb_1 c xX)) = KS c xX := by
    refine Memref.IsWhole.eq_unread (Memref.isWhole_whole _ : bXsb.IsWhole) ?_
    refine (View.read_writes_full bXsb.view _ _ _ _).trans ?_; rw [← p_v41]; rfl
  have eW : (bWords.view.writes (Elt F) bWords.view.junk (bodyRun.sl.HbWords_2 c xBm)) = KW c xBm := words_of c xBm _ _ _ rfl ((shapeCast_self _ _).trans p_v168) _ _
  have eN : (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) = KN c xWs := ws_of c xWs _ _ rfl
  have eC : (bCid.view.writes (Elt F) bCid.view.junk (bodyRun.sl.HbCid_3 c xId)) = KC c xId := by
    refine cid_of c xId _ _ _ _ ?_ ?_ ?_
    · unfold idsV; rw [← p_id0]; rfl
    · unfold idsV; rw [← p_id1]; rfl
    · unfold idsV; rw [← p_id2]; rfl
  have eL : (bodyRun.sl.v27 : IVec S8x128 32) = laneI := rfl
  have eK : (bodyRun.sl.v173 : IVec S40x128 32) = candI := rfl
  have p_st63 : (stV c bodyRun.sl.v27 bodyRun.sl.v173 (bWords.view.writes (Elt F) bWords.view.junk (bodyRun.sl.HbWords_2 c xBm)) (bXsb.view.writes (Elt F) bXsb.view.junk (bodyRun.sl.HbXsb_1 c xX)) (View.write (Elt F) ((bWs.slice (Rect.unit (s := S1x32256) ![0, 0] S1x32256.size inb_S1x32256_S1x32256_0_0) (fun _ => rfl)).squeeze S32256 squeezes_S1x32256_S32256).view fbWs (bodyRun.sl.dma0_3 c xWs) Finset.univ) (bCid.view.writes (Elt F) bCid.view.junk (bodyRun.sl.HbCid_3 c xId)) (rawAll c XW (bXq.view.writes (Elt F) bXq.view.junk (bodyRun.sl.HbXq_1 c xX))) (st0Of c (bM.view.writes (Elt F) bM.view.junk bodyRun.sl.HbM_1) (bS.view.writes (Elt F) bS.view.junk bodyRun.sl.HbS_1) (bCacc.view.writes (Elt F) bCacc.view.junk bodyRun.sl.HbCacc_3)) 63) = stA c XW xX xWs xBm xId 63 := by
    rw [eQ, eS, eW, eN, eC, eL, eK, p_st0]; rfl
  have f_ml : bMl.view.read (Elt F) (bMl.view.writes (Elt F) fml (bodyRun.sl.HbMl_6 c XW xX xWs xBm fbWs acc)) = mlV c XW xX xWs xBm := by
    rw [eQ, eS, eW, eN, eL] at p_ml
    exact mlV_of c _ _ _ p_ml
  rw [p_st63] at p_m63 p_s63 p_ca63
  rw [eW] at p_ok0 p_ok1 p_ok2
  obtain ⟨q0, q1, q2⟩ := p_ca63
  have f_lse : ∀ f, bLse.view.read (Elt F) (bLse.view.writes (Elt F) f (bodyRun.sl.HbLse_1 c XW xX xWs xBm xId fbWs acc)) = lseV (stA c XW xX xWs xBm xId 63) := by
    intro f; unfold lseV; rw [← p_m63, ← p_s63]
    unfold bodyRun.sl.HbLse_1; rw [View.read_writes_full]; rfl
  have f_clp : ∀ f, bClp.view.read (Elt F) (bClp.view.writes (Elt F) f (bodyRun.sl.HbClp_3 c XW xX xWs xBm xId fbWs acc fca)) = clpV c XW xX xWs xBm xId := by
    intro f; refine (clp_of c f _ _ _ _ _ _).trans ?_
    unfold clpV clp0 clp1 clp2 lseCol
    rw [← p_m63, ← p_s63, ← p_ok0, ← p_ok1, ← p_ok2, ← q0, ← q1, ← q2]
    rfl
  have f_xc : bXc.view.read (Elt F) (bXc.view.writes (Elt F) bXc.view.junk (bodyRun.sl.HbXc_1 c xX)) = codesV (xfV c xX) := by
    refine (View.read_writes_full bXc.view _ _ _ _).trans ?_; rw [← p_v41]; rfl
  have f_xs : bXs.view.read (Elt F) (bXs.view.writes (Elt F) bXs.view.junk (bodyRun.sl.HbXs_1 c xX)) = xsV (xfV c xX) := by
    refine (View.read_writes_full bXs.view _ _ _ _).trans ?_; rw [← p_v41]; rfl
  iapply HK
  isplitl [HaX]; · iexact HaX
  isplitl [HaWs]; · iexact HaWs
  isplitl [HaBm]; · iexact HaBm
  isplitl [HaId]; · iexact HaId
  isplitl [HoMl]
  · iexists _; isplitr; swap; · iexact HoMl
    ipureintro; exact (read_wholeW _ _ _).trans f_ml
  isplitl [HoLse]
  · iexists _; isplitr; swap; · iexact HoLse
    ipureintro; exact (read_wholeW _ _ _).trans (f_lse fbLse)
  isplitl [HoClp]
  · iexists _; isplitr; swap; · iexact HoClp
    ipureintro; exact (read_wholeW _ _ _).trans (f_clp fbClp)
  isplitl [HoXc]
  · iexists _; isplitr; swap; · iexact HoXc
    ipureintro; exact (read_wholeW _ _ _).trans f_xc
  isplitl [HoXs]
  · iexists _; isplitr; swap; · iexact HoXs
    ipureintro; exact (read_wholeW _ _ _).trans f_xs
  isplitl [HbX]; · iexists _; iexact HbX
  isplitl [HbWs]; · iexists _; iexact HbWs
  isplitl [HbBm]; · iexists _; iexact HbBm
  isplitl [HbId]; · iexists _; iexact HbId
  isplitl [HbMl]; · iexists _; iexact HbMl
  isplitl [HbLse]; · iexists _; iexact HbLse
  isplitl [HbClp]; · iexists _; iexact HbClp
  isplitl [HbXc]; · iexists _; iexact HbXc
  isplitl [HbXs]; · iexists _; iexact HbXs
  isplitl [HbXf]; · iexists _; iexact HbXf
  isplitl [HbXq]; · iexists _; iexact HbXq
  isplitl [HbWords]; · iexists _; iexact HbWords
  isplitl [HbCid]; · iexists _; iexact HbCid
  isplitl [HbCok]; · iexists _; iexact HbCok
  isplitl [HbCacc]; · iexists _; iexact HbCacc
  isplitl [HbXsb]; · iexists _; iexact HbXsb
  isplitl [HbM]; · iexists _; iexact HbM
  isplitl [HbS]; · iexists _; iexact HbS
  isplitl [HcX]; · iexact HcX
  isplitl [HcS0]; · iexact HcS0
  isplitl [HcS1]; · iexact HcS1
  isplitl [HcS2]; · iexact HcS2
  isplitl [HcO0]; · iexact HcO0
  isplitl [HcO1]; · iexact HcO1
  isplitl [HcO2]; · iexact HcO2
  isplitl [HcO3]; · iexact HcO3
  isplitl [HcO4]; · iexact HcO4
  isplitl [Hsl0]; · iexact Hsl0
  isplitl [Hsl1]; · iexact Hsl1
  isplitl [Hsl2]; · iexact Hsl2
  isplitl [Hsl3]; · iexact Hsl3
  isplitl [Hce0]; · iexact Hce0
  isplitl [Hce1]; · iexact Hce1
  isplitl [HC2]; · iexact HC2
  isplitl [Hce3]; · iexact Hce3
  isplitl [Htk0]; · iexact Htk0
  isplitl [Htk1]; · iexact Htk1
  isplitl [HT2]; · iexact HT2
  isplitl [Htk3]; · iexact Htk3
  isplitl [HG0 HQ0 HG1 HQ1 HG2 HQ2 HG3 HQ3 HG4 HQ4]
  · unfold TailFree
    isplitl [HG0 HQ0]
    · isplitl [HG0]; · iexact HG0
      iexact HQ0
    isplitl [HG1 HQ1]
    · isplitl [HG1]; · iexact HG1
      iexact HQ1
    isplitl [HG2 HQ2]
    · isplitl [HG2]; · iexact HG2
      iexact HQ2
    isplitl [HG3 HQ3]
    · isplitl [HG3]; · iexact HG3
      iexact HQ3
    isplitl [HG4]; · iexact HG4
    iexact HQ4
  iexists _; iexact HW
end

end Cert.KernelIdeal.Hand

end
-- ==== Proof.KI.Frame.lean ====
/-
  The launch: the body run under the frame of its own transfers, the arguments unchanged at the end.
-/
module

public import proofs.«01_k».proof.Proof.Gen.KernelIdeal.Frame
public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The unscoped buffers the body writes itself: the five results. -/
def R0 : Finset (Ref sig .tc) := {main_v1_0, main_v1_1, main_v1_2, main_v1_3, main_v1_4}
/-- The unscoped buffers the body's transfers read: the operands. -/
def H0 : Finset (Ref sig .tc) := {main_v0, main_arg1, main_arg2, main_arg3, main_arg4}
theorem H0_sub : H0 ⊆ Pipeline.restRefs sig (cfg0.spec) := by decide
theorem R0_sub : R0 ⊆ Pipeline.restRefs sig (cfg0.spec) \ H0 := by decide

set_option maxHeartbeats 800000 in
theorem hmain (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

/-- The body's eighteen cells. -/
abbrev osem0 : Fin 18 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 18 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3, 4, 5, 6, 7, 8, 9, 10, 11, 12, 13, 14, 15, 16, 17] (by decide) (by decide)]; rfl

abbrev hw (c : Dev nD) (b : Ref sig .tc) (f : Buf (Elt F) ((c : Thread nD τ).loc b)) : sProp 𝕄 := ((c : Thread nD τ).loc b) ↦{fullShare} f
theorem hbmPts0_eq (c : Dev nD) (Vv : (b : Ref sig .tc) → Buf (Elt F) ((c : Thread nD τ).loc b)) :
    (bigSep H0 (fun b => ((c : Thread nD τ).loc b) ↦{fullShare} Vv b) : sProp 𝕄)
      = iprop(hw c main_v0 (Vv main_v0) ∗ hw c main_arg1 (Vv main_arg1) ∗ hw c main_arg2 (Vv main_arg2) ∗ hw c main_arg3 (Vv main_arg3) ∗ hw c main_arg4 (Vv main_arg4)) := by
  rw [BI.bigSep_eq_bigSepL_of_eq [main_v0, main_arg1, main_arg2, main_arg3, main_arg4] (by decide) (by decide)]; rfl
theorem routed0_eq (c : Dev nD) (Vv : (b : Ref sig .tc) → Buf (Elt F) ((c : Thread nD τ).loc b)) :
    (Pipeline.routed R0 c Vv : sProp 𝕄) = iprop(hw c main_v1_0 (Vv main_v1_0) ∗ hw c main_v1_1 (Vv main_v1_1) ∗ hw c main_v1_2 (Vv main_v1_2) ∗ hw c main_v1_3 (Vv main_v1_3) ∗ hw c main_v1_4 (Vv main_v1_4)) := by
  unfold Pipeline.routed; rw [BI.bigSep_eq_bigSepL_of_eq [main_v1_0, main_v1_1, main_v1_2, main_v1_3, main_v1_4] (by decide) (by decide)]; rfl

/-- What result 1 holds at the end. -/
def fin0 (c : Dev nD) : Buf (Elt F) ((c : Thread nD τ).loc main_v1_0) := (Memref.isWhole_whole _ : oMl.IsWhole).unread (mlV c (V m c main_arg1) (V m c main_v0) (V m c main_arg2) (V m c main_arg3))
/-- What result 2 holds at the end. -/
def fin1 (c : Dev nD) : Buf (Elt F) ((c : Thread nD τ).loc main_v1_1) := (Memref.isWhole_whole _ : oLse.IsWhole).unread (lseV (stA c (V m c main_arg1) (V m c main_v0) (V m c main_arg2) (V m c main_arg3) (V m c main_arg4) 63))
/-- What result 3 holds at the end. -/
def fin2 (c : Dev nD) : Buf (Elt F) ((c : Thread nD τ).loc main_v1_2) := (Memref.isWhole_whole _ : oClp.IsWhole).unread (clpV c (V m c main_arg1) (V m c main_v0) (V m c main_arg2) (V m c main_arg3) (V m c main_arg4))
/-- What result 4 holds at the end. -/
def fin3 (c : Dev nD) : Buf (Elt F) ((c : Thread nD τ).loc main_v1_3) := (Memref.isWhole_whole _ : oXc.IsWhole).unread (codesV (xfV c (V m c main_v0)))
/-- What result 5 holds at the end. -/
def fin4 (c : Dev nD) : Buf (Elt F) ((c : Thread nD τ).loc main_v1_4) := (Memref.isWhole_whole _ : oXs.IsWhole).unread (xsV (xfV c (V m c main_v0)))

/-- What the buffers hold when the body has run: the results at the values their facts name. -/
def Gv (c : Dev nD) : (b : Ref sig .tc) → Buf (Elt F) ((c : Thread nD τ).loc b) :=
  Function.update (Function.update (Function.update (Function.update (Function.update (V m c) main_v1_0 (fin0 m c)) main_v1_1 (fin1 m c)) main_v1_2 (fin2 m c)) main_v1_3 (fin3 m c)) main_v1_4 (fin4 m c)
theorem Gv_0 (c : Dev nD) : Gv m c main_v1_0 = fin0 m c := (Function.update_of_ne (by decide) _ _).trans ((Function.update_of_ne (by decide) _ _).trans ((Function.update_of_ne (by decide) _ _).trans ((Function.update_of_ne (by decide) _ _).trans (Function.update_self _ _ _))))
theorem Gv_1 (c : Dev nD) : Gv m c main_v1_1 = fin1 m c := (Function.update_of_ne (by decide) _ _).trans ((Function.update_of_ne (by decide) _ _).trans ((Function.update_of_ne (by decide) _ _).trans (Function.update_self _ _ _)))
theorem Gv_2 (c : Dev nD) : Gv m c main_v1_2 = fin2 m c := (Function.update_of_ne (by decide) _ _).trans ((Function.update_of_ne (by decide) _ _).trans (Function.update_self _ _ _))
theorem Gv_3 (c : Dev nD) : Gv m c main_v1_3 = fin3 m c := (Function.update_of_ne (by decide) _ _).trans (Function.update_self _ _ _)
theorem Gv_4 (c : Dev nD) : Gv m c main_v1_4 = fin4 m c := Function.update_self _ _ _

theorem Phi_eq (c : Dev nD) (Gg : (c : Dev nD) → (b : Ref sig .tc) → Buf (Elt F) ((c : Thread nD τ).loc b)) :
    (Pipeline.ΦDRG osem0 (cfg0.spec) H0 R0 (V m) Gg c : sProp 𝕄)
      = iprop(iprop((∃ f, hw c cc0_scratch0 f) ∗ (∃ f, hw c cc0_scratch1 f) ∗ (∃ f, hw c cc0_scratch2 f) ∗ (∃ f, hw c cc0_scratch3 f) ∗ (∃ f, hw c cc0_scratch4 f) ∗ (∃ f, hw c cc0_scratch5 f) ∗ (∃ f, hw c cc0_scratch6 f) ∗ (∃ f, hw c cc0_scratch7 f) ∗ (∃ f, hw c cc0_scratch8 f) ∗ (∃ f, hw c cc0_scratch9 f) ∗ (∃ f, hw c cc0_scratch10 f) ∗ (∃ f, hw c cc0_scratch11 f) ∗ (∃ f, hw c cc0_scratch12 f) ∗ (∃ f, hw c cc0_scratch13 f) ∗ (∃ f, hw c cc0_scratch14 f) ∗ (∃ f, hw c cc0_scratch15 f) ∗ (∃ f, hw c cc0_scratch16 f) ∗ (∃ f, hw c cc0_scratch17 f) ∗ (∃ f, hw c cc0_scratch18 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
          ∗ iprop(hw c main_v0 (V m c main_v0) ∗ hw c main_arg1 (V m c main_arg1) ∗ hw c main_arg2 (V m c main_arg2) ∗ hw c main_arg3 (V m c main_arg3) ∗ hw c main_arg4 (V m c main_arg4))
          ∗ iprop(hw c main_v1_0 (Gg c main_v1_0) ∗ hw c main_v1_1 (Gg c main_v1_1) ∗ hw c main_v1_2 (Gg c main_v1_2) ∗ hw c main_v1_3 (Gg c main_v1_3) ∗ hw c main_v1_4 (Gg c main_v1_4))) := by
  rw [Pipeline.ΦDRG_eq, scopedRest0_eq, ownSems00_eq, hbmPts0_eq c (V m c), routed0_eq]

def dats (_ : Fin 1) (c : Dev nD) : Dat τ (Elt F) Unit ℕ (Pipeline.UD sig nD τ) ℕ cfg0 c where
  A w := V m c (Pipeline.arrRef (cfg0.spec) w)
  after w _ := w.elim0
  Φ t := if t = 0 then Pipeline.ΦDRG osem0 (cfg0.spec) H0 R0 (V m) (V m) c else Pipeline.ΦDRG osem0 (cfg0.spec) H0 R0 (V m) (Gv m) c
  q _ := fullShare
  owed _ := 0
theorem Phi_zero (c : Dev nD) (t : Fin (cfg0.N + 1)) (h : t = 0) : (dats m 0 c).Φ t = Pipeline.ΦDRG osem0 (cfg0.spec) H0 R0 (V m) (V m) c := by
  dsimp only [dats]; rw [if_pos h]
theorem Phi_pos (c : Dev nD) (t : Fin (cfg0.N + 1)) (h : t ≠ 0) : (dats m 0 c).Φ t = Pipeline.ΦDRG osem0 (cfg0.spec) H0 R0 (V m) (Gv m) c := by
  dsimp only [dats]; rw [if_neg h]
theorem Phi_first (c : Dev nD) (t : Fin cfg0.N) : (dats m 0 c).Φ t.castSucc = Pipeline.ΦDRG osem0 (cfg0.spec) H0 R0 (V m) (V m) c :=
  Phi_zero m c _ (by have ht := fin_N0 t; subst ht; rfl)
theorem Phi_last (c : Dev nD) (t : Fin cfg0.N) : (dats m 0 c).Φ t.succ = Pipeline.ΦDRG osem0 (cfg0.spec) H0 R0 (V m) (Gv m) c :=
  Phi_pos m c _ (by have ht := fin_N0 t; subst ht; exact Fin.succ_ne_zero _)
theorem A_eq (c : Dev nD) (w : Fin cfg0.W) : (dats m 0 c).A w = V m c (Pipeline.arrRef (cfg0.spec) w) := by
  dsimp only [dats]

/-- The nine read tokens. -/
def Qt : Fin 9 → PosShare TreeShare := Transfers.shareTok fullShare 9

omit [FloatOps F] in
/-- The weight codes whole are nine read tokens and a remainder, and back. -/
theorem toks_split (c : Dev nD) (XW : BufOf F c aW) :
    (hw c main_arg1 XW : sProp 𝕄) ⊣⊢ iprop((aW.view.loc (c : Thread nD τ) ↦[aW.view.set]{Transfers.shareDrop fullShare 9} XW)
      ∗ wTok c XW Qt 0 ∗ wTok c XW Qt 1 ∗ wTok c XW Qt 2 ∗ wTok c XW Qt 3 ∗ wTok c XW Qt 4 ∗ wTok c XW Qt 5 ∗ wTok c XW Qt 6 ∗ wTok c XW Qt 7 ∗ wTok c XW Qt 8) := by
  have e : (hw c main_arg1 XW : sProp 𝕄) = (aW.view.loc (c : Thread nD τ) ↦[aW.view.set]{fullShare} XW) := by rw [View.set_whole]
  rw [e]
  have h := Transfers.pointsTo_toks (Ix := Unit) (Name := ℕ) (U := Pipeline.UD sig nD τ) (Lvl := ℕ) (ℓ := aW.view.loc (c : Thread nD τ)) (S := aW.view.set) (f := XW) fullShare 9
  rw [bigSep_fin9] at h
  exact h

theorem bigSep_W0 {M : Type} [URA M] (Φ : Fin 0 → sProp M) : bigSep Finset.univ Φ = iprop(emp) := bigSep_empty

def bodyPreT (c : Dev nD) (t : Fin cfg0.N) : sProp 𝕄 :=
  iprop((dats m 0 c).Φ t.castSucc ∗ (dats m 0 c).owesAt () t.castSucc ∗ emp)
def bodyPostT (c : Dev nD) (t : Fin cfg0.N) : sProp 𝕄 :=
  iprop((dats m 0 c).Φ t.succ ∗ (dats m 0 c).owesAt () t.succ ∗ emp)

omit [FloatOps F] in
theorem pt_whole (c : Dev nD) {sp : Space} {S : Shape} {e : EltTy} (M : Memref sig .tc sp S e) (h : M.view.set = Finset.univ) (f : BufOf F c M) :
    (pt c M f : sProp 𝕄) = (M.view.loc (c : Thread nD τ) ↦{fullShare} f) := by unfold pt; rw [h]
theorem out_0 (c : Dev nD) (f : BufOf F c oMl) (h : FactMl c (V m c main_arg1) (V m c main_v0) (V m c main_arg2) (V m c main_arg3) f) : (pt c oMl f : sProp 𝕄) ⊢ hw c main_v1_0 (Gv m c main_v1_0) := by
  have e : f = fin0 m c := (Memref.isWhole_whole _ : oMl.IsWhole).eq_unread h
  rw [Gv_0, ← e]
  exact Entails.of_eq (pt_whole c oMl (View.set_whole _) f)
theorem out_1 (c : Dev nD) (f : BufOf F c oLse) (h : FactLse c (V m c main_arg1) (V m c main_v0) (V m c main_arg2) (V m c main_arg3) (V m c main_arg4) f) : (pt c oLse f : sProp 𝕄) ⊢ hw c main_v1_1 (Gv m c main_v1_1) := by
  have e : f = fin1 m c := (Memref.isWhole_whole _ : oLse.IsWhole).eq_unread h
  rw [Gv_1, ← e]
  exact Entails.of_eq (pt_whole c oLse (View.set_whole _) f)
theorem out_2 (c : Dev nD) (f : BufOf F c oClp) (h : FactClp c (V m c main_arg1) (V m c main_v0) (V m c main_arg2) (V m c main_arg3) (V m c main_arg4) f) : (pt c oClp f : sProp 𝕄) ⊢ hw c main_v1_2 (Gv m c main_v1_2) := by
  have e : f = fin2 m c := (Memref.isWhole_whole _ : oClp.IsWhole).eq_unread h
  rw [Gv_2, ← e]
  exact Entails.of_eq (pt_whole c oClp (View.set_whole _) f)
theorem out_3 (c : Dev nD) (f : BufOf F c oXc) (h : FactXc c (V m c main_v0) f) : (pt c oXc f : sProp 𝕄) ⊢ hw c main_v1_3 (Gv m c main_v1_3) := by
  have e : f = fin3 m c := (Memref.isWhole_whole _ : oXc.IsWhole).eq_unread h
  rw [Gv_3, ← e]
  exact Entails.of_eq (pt_whole c oXc (View.set_whole _) f)
theorem out_4 (c : Dev nD) (f : BufOf F c oXs) (h : FactXs c (V m c main_v0) f) : (pt c oXs f : sProp 𝕄) ⊢ hw c main_v1_4 (Gv m c main_v1_4) := by
  have e : f = fin4 m c := (Memref.isWhole_whole _ : oXs.IsWhole).eq_unread h
  rw [Gv_4, ← e]
  exact Entails.of_eq (pt_whole c oXs (View.set_whole _) f)

set_option maxHeartbeats 4000000 in
theorem sound_body (c : Dev nD) (t : Fin cfg0.N) :
    bodyPreT m c t ⊢ wp frame (wpE (defs₀ (F := F)) Variants.none c none) Set.univ (bodyAt0 t) (fun _ => bodyPostT m c t) := by
  unfold bodyPreT bodyPostT bodyAt0
  rw [Phi_first, Phi_last, Phi_eq, Phi_eq]
  unfold Dat.owesAt Pipeline.owesWithin
  rw [show (dats m 0 c).owed t.castSucc = 0 from rfl, show (dats m 0 c).owed t.succ = 0 from rfl]
  iintro ⟨⟨⟨S0, S1, S2, S3, S4, S5, S6, S7, S8, S9, S10, S11, S12, S13, S14, S15, S16, S17, S18⟩, Hg, ⟨q0, q1, q2, q3, q4, q5, q6, q7, q8, q9, q10, q11, q12, q13, q14, q15, q16, q17⟩, ⟨Ha0, Ha1, Ha2, Ha3, Ha4⟩, ⟨Ho0, Ho1, Ho2, Ho3, Ho4⟩⟩, ⟨%W, -, HW⟩, -⟩
  icases S0 with ⟨%fr, S0⟩
  ihave SR := (ring_split c fr) $$ S0
  icases SR with ⟨R0, R1, R2, R3⟩
  ihave HT := (toks_split c (V m c main_arg1)).1 $$ Ha1
  icases HT with ⟨HD, T0, T1, T2, T3, T4, T5, T6, T7, T8⟩
  iapply (bodyRun c (V m c main_arg1) Qt (V m c main_v0) (V m c main_arg2) (V m c main_arg3) (V m c main_arg4) _)
  isplitr [HD Hg]
  · unfold bodyPre
    isplitl [Ha0]; · irw [pt_whole c aX (View.set_whole _)]; iexact Ha0
    isplitl [Ha2]; · irw [pt_whole c aWs (View.set_whole _)]; iexact Ha2
    isplitl [Ha3]; · irw [pt_whole c aBm (View.set_whole _)]; iexact Ha3
    isplitl [Ha4]; · irw [pt_whole c aId (View.set_whole _)]; iexact Ha4
    isplitl [Ho0]
    · iexists (V m c main_v1_0); irw [pt_whole c oMl (View.set_whole _)]; iexact Ho0
    isplitl [Ho1]
    · iexists (V m c main_v1_1); irw [pt_whole c oLse (View.set_whole _)]; iexact Ho1
    isplitl [Ho2]
    · iexists (V m c main_v1_2); irw [pt_whole c oClp (View.set_whole _)]; iexact Ho2
    isplitl [Ho3]
    · iexists (V m c main_v1_3); irw [pt_whole c oXc (View.set_whole _)]; iexact Ho3
    isplitl [Ho4]
    · iexists (V m c main_v1_4); irw [pt_whole c oXs (View.set_whole _)]; iexact Ho4
    isplitl [S1]
    · icases S1 with ⟨%f, H⟩; iexists f; irw [pt_whole c bX (View.set_whole _)]; iexact H
    isplitl [S2]
    · icases S2 with ⟨%f, H⟩; iexists f; irw [pt_whole c bWs (View.set_whole _)]; iexact H
    isplitl [S3]
    · icases S3 with ⟨%f, H⟩; iexists f; irw [pt_whole c bBm (View.set_whole _)]; iexact H
    isplitl [S4]
    · icases S4 with ⟨%f, H⟩; iexists f; irw [pt_whole c bId (View.set_whole _)]; iexact H
    isplitl [S5]
    · icases S5 with ⟨%f, H⟩; iexists f; irw [pt_whole c bMl (View.set_whole _)]; iexact H
    isplitl [S6]
    · icases S6 with ⟨%f, H⟩; iexists f; irw [pt_whole c bLse (View.set_whole _)]; iexact H
    isplitl [S7]
    · icases S7 with ⟨%f, H⟩; iexists f; irw [pt_whole c bClp (View.set_whole _)]; iexact H
    isplitl [S8]
    · icases S8 with ⟨%f, H⟩; iexists f; irw [pt_whole c bXc (View.set_whole _)]; iexact H
    isplitl [S9]
    · icases S9 with ⟨%f, H⟩; iexists f; irw [pt_whole c bXs (View.set_whole _)]; iexact H
    isplitl [S10]
    · icases S10 with ⟨%f, H⟩; iexists f; irw [pt_whole c bXf (View.set_whole _)]; iexact H
    isplitl [S11]
    · icases S11 with ⟨%f, H⟩; iexists f; irw [pt_whole c bXq (View.set_whole _)]; iexact H
    isplitl [S12]
    · icases S12 with ⟨%f, H⟩; iexists f; irw [pt_whole c bWords (View.set_whole _)]; iexact H
    isplitl [S13]
    · icases S13 with ⟨%f, H⟩; iexists f; irw [pt_whole c bCid (View.set_whole _)]; iexact H
    isplitl [S14]
    · icases S14 with ⟨%f, H⟩; iexists f; irw [pt_whole c bCok (View.set_whole _)]; iexact H
    isplitl [S15]
    · icases S15 with ⟨%f, H⟩; iexists f; irw [pt_whole c bCacc (View.set_whole _)]; iexact H
    isplitl [S16]
    · icases S16 with ⟨%f, H⟩; iexists f; irw [pt_whole c bXsb (View.set_whole _)]; iexact H
    isplitl [S17]
    · icases S17 with ⟨%f, H⟩; iexists f; irw [pt_whole c bM (View.set_whole _)]; iexact H
    isplitl [S18]
    · icases S18 with ⟨%f, H⟩; iexists f; irw [pt_whole c bS (View.set_whole _)]; iexact H
    isplitl [q9]; · iexact q9
    isplitl [q10]; · iexact q10
    isplitl [q11]; · iexact q11
    isplitl [q12]; · iexact q12
    isplitl [q13]; · iexact q13
    isplitl [q14]; · iexact q14
    isplitl [q15]; · iexact q15
    isplitl [q16]; · iexact q16
    isplitl [q17]; · iexact q17
    isplitl [R0]; · iexists _; iexact R0
    isplitl [R1]; · iexists _; iexact R1
    isplitl [R2]; · iexists _; iexact R2
    isplitl [R3]; · iexists _; iexact R3
    isplitl [q0]; · iexact q0
    isplitl [q1]; · iexact q1
    isplitl [q2]; · iexact q2
    isplitl [q3]; · iexact q3
    isplitl [T0]; · iexact T0
    isplitl [T1]; · iexact T1
    isplitl [T2]; · iexact T2
    isplitl [T3]; · iexact T3
    isplitl [q4 q5 q6 q7 q8 T4 T5 T6 T7 T8]
    · unfold TailFree
      isplitl [q4 T4]
      · isplitl [q4]; · iexact q4
        iexact T4
      isplitl [q5 T5]
      · isplitl [q5]; · iexact q5
        iexact T5
      isplitl [q6 T6]
      · isplitl [q6]; · iexact q6
        iexact T6
      isplitl [q7 T7]
      · isplitl [q7]; · iexact q7
        iexact T7
      isplitl [q8]; · iexact q8
      iexact T8
    iexists _; iexact HW
  unfold bodyPost TailFree
  iintro ⟨Ha0, Ha2, Ha3, Ha4, ⟨%g0, %hg0, Ho0⟩, ⟨%g1, %hg1, Ho1⟩, ⟨%g2, %hg2, Ho2⟩, ⟨%g3, %hg3, Ho3⟩, ⟨%g4, %hg4, Ho4⟩, ⟨%h1, S1⟩, ⟨%h2, S2⟩, ⟨%h3, S3⟩, ⟨%h4, S4⟩, ⟨%h5, S5⟩, ⟨%h6, S6⟩, ⟨%h7, S7⟩, ⟨%h8, S8⟩, ⟨%h9, S9⟩, ⟨%h10, S10⟩, ⟨%h11, S11⟩, ⟨%h12, S12⟩, ⟨%h13, S13⟩, ⟨%h14, S14⟩, ⟨%h15, S15⟩, ⟨%h16, S16⟩, ⟨%h17, S17⟩, ⟨%h18, S18⟩, q9, q10, q11, q12, q13, q14, q15, q16, q17, R0, R1, R2, R3, q0, q1, q2, q3, T0, T1, T2, T3, HTF, ⟨%W', HW'⟩⟩
  icases HTF with ⟨⟨q4, T4⟩, ⟨q5, T5⟩, ⟨q6, T6⟩, ⟨q7, T7⟩, q8, T8⟩
  ihave S0 := (ring_join c) $$ [R0 R1 R2 R3]
  · isplitl [R0]; · iexact R0
    isplitl [R1]; · iexact R1
    isplitl [R2]; · iexact R2
    iexact R3
  ihave Ha1 := (toks_split c (V m c main_arg1)).2 $$ [HD T0 T1 T2 T3 T4 T5 T6 T7 T8]
  · isplitl [HD]; · iexact HD
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8
  isplitr [HW']
  · isplitl [S0 S1 S2 S3 S4 S5 S6 S7 S8 S9 S10 S11 S12 S13 S14 S15 S16 S17 S18]
    · isplitl [S0]; · iexact S0
      isplitl [S1]; · iexists h1; ihave S1 := (Entails.of_eq (pt_whole c bX (View.set_whole _) _)) $$ S1; iexact S1
      isplitl [S2]; · iexists h2; ihave S2 := (Entails.of_eq (pt_whole c bWs (View.set_whole _) _)) $$ S2; iexact S2
      isplitl [S3]; · iexists h3; ihave S3 := (Entails.of_eq (pt_whole c bBm (View.set_whole _) _)) $$ S3; iexact S3
      isplitl [S4]; · iexists h4; ihave S4 := (Entails.of_eq (pt_whole c bId (View.set_whole _) _)) $$ S4; iexact S4
      isplitl [S5]; · iexists h5; ihave S5 := (Entails.of_eq (pt_whole c bMl (View.set_whole _) _)) $$ S5; iexact S5
      isplitl [S6]; · iexists h6; ihave S6 := (Entails.of_eq (pt_whole c bLse (View.set_whole _) _)) $$ S6; iexact S6
      isplitl [S7]; · iexists h7; ihave S7 := (Entails.of_eq (pt_whole c bClp (View.set_whole _) _)) $$ S7; iexact S7
      isplitl [S8]; · iexists h8; ihave S8 := (Entails.of_eq (pt_whole c bXc (View.set_whole _) _)) $$ S8; iexact S8
      isplitl [S9]; · iexists h9; ihave S9 := (Entails.of_eq (pt_whole c bXs (View.set_whole _) _)) $$ S9; iexact S9
      isplitl [S10]; · iexists h10; ihave S10 := (Entails.of_eq (pt_whole c bXf (View.set_whole _) _)) $$ S10; iexact S10
      isplitl [S11]; · iexists h11; ihave S11 := (Entails.of_eq (pt_whole c bXq (View.set_whole _) _)) $$ S11; iexact S11
      isplitl [S12]; · iexists h12; ihave S12 := (Entails.of_eq (pt_whole c bWords (View.set_whole _) _)) $$ S12; iexact S12
      isplitl [S13]; · iexists h13; ihave S13 := (Entails.of_eq (pt_whole c bCid (View.set_whole _) _)) $$ S13; iexact S13
      isplitl [S14]; · iexists h14; ihave S14 := (Entails.of_eq (pt_whole c bCok (View.set_whole _) _)) $$ S14; iexact S14
      isplitl [S15]; · iexists h15; ihave S15 := (Entails.of_eq (pt_whole c bCacc (View.set_whole _) _)) $$ S15; iexact S15
      isplitl [S16]; · iexists h16; ihave S16 := (Entails.of_eq (pt_whole c bXsb (View.set_whole _) _)) $$ S16; iexact S16
      isplitl [S17]; · iexists h17; ihave S17 := (Entails.of_eq (pt_whole c bM (View.set_whole _) _)) $$ S17; iexact S17
      iexists h18; ihave S18 := (Entails.of_eq (pt_whole c bS (View.set_whole _) _)) $$ S18; iexact S18
    isplitl [Hg]; · iexact Hg
    isplitl [q0 q1 q2 q3 q4 q5 q6 q7 q8 q9 q10 q11 q12 q13 q14 q15 q16 q17]
    · isplitl [q0]; · iexact q0
      isplitl [q1]; · iexact q1
      isplitl [q2]; · iexact q2
      isplitl [q3]; · iexact q3
      isplitl [q4]; · iexact q4
      isplitl [q5]; · iexact q5
      isplitl [q6]; · iexact q6
      isplitl [q7]; · iexact q7
      isplitl [q8]; · iexact q8
      isplitl [q9]; · iexact q9
      isplitl [q10]; · iexact q10
      isplitl [q11]; · iexact q11
      isplitl [q12]; · iexact q12
      isplitl [q13]; · iexact q13
      isplitl [q14]; · iexact q14
      isplitl [q15]; · iexact q15
      isplitl [q16]; · iexact q16
      iexact q17
    isplitl [Ha0 Ha1 Ha2 Ha3 Ha4]
    · isplitl [Ha0]; · ihave Ha0 := (Entails.of_eq (pt_whole c aX (View.set_whole _) _)) $$ Ha0; iexact Ha0
      isplitl [Ha1]; · iexact Ha1
      isplitl [Ha2]; · ihave Ha2 := (Entails.of_eq (pt_whole c aWs (View.set_whole _) _)) $$ Ha2; iexact Ha2
      isplitl [Ha3]; · ihave Ha3 := (Entails.of_eq (pt_whole c aBm (View.set_whole _) _)) $$ Ha3; iexact Ha3
      ihave Ha4 := (Entails.of_eq (pt_whole c aId (View.set_whole _) _)) $$ Ha4; iexact Ha4
    isplitl [Ho0]; · ihave Ho0 := (out_0 m c g0 hg0) $$ Ho0; iexact Ho0
    isplitl [Ho1]; · ihave Ho1 := (out_1 m c g1 hg1) $$ Ho1; iexact Ho1
    isplitl [Ho2]; · ihave Ho2 := (out_2 m c g2 hg2) $$ Ho2; iexact Ho2
    isplitl [Ho3]; · ihave Ho3 := (out_3 m c g3 hg3) $$ Ho3; iexact Ho3
    ihave Ho4 := (out_4 m c g4 hg4) $$ Ho4; iexact Ho4
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePostRG cfgs (dats m) 0 R0 (V m) (Gv m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := Gv m)
    (hin := fun c => Entails.of_eq (Phi_zero m c 0 rfl).symm) (hout := fun c => Entails.of_eq (Phi_pos m c (Fin.last _) (by decide)))

/-- Every argument ends as it was launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.Quant.lean ====
/-
  Powers of two and the scale of a row, at the real numbers: a search by halving finds the largest power of two not above a
  number, and the scale that follows from it is the smallest power of two above the number.
-/
module

public import Idealize.ShloMosaic.PureOps.Ideal.Laws

@[expose] public section

set_option maxRecDepth 16384

noncomputable section

namespace Cert.Quant

open Idealize.ShloMosaic

/-- The number whose pattern has exponent field `n` and no other bit. -/
def T (n : ℕ) : EReal := if n = 0 then 0 else if n < 255 then (((2 : ℝ) ^ ((n : ℤ) - 127) : ℝ) : EReal) else ⊤

theorem fields (n : Fin 256) : ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  revert n; decide +kernel

theorem ofBits_shl {n : ℕ} (h : n < 256) : Ideal.ofBits .f32 (BitVec.ofNat 32 n <<< 23) = T n := by
  obtain ⟨h1, h2, h3⟩ := fields ⟨n, h⟩
  simp only at h1 h2 h3
  show Ideal.ieee 8 23 _ = _
  unfold Ideal.ieee T
  simp only [h1, h2, h3]
  by_cases h0 : n = 0
  · subst h0; simp
  · by_cases h5 : n < 255
    · have : ¬ n = 255 := by omega
      simp only [h0, h5, this, if_false, if_true, Nat.add_zero, show (2 : ℕ) ^ 8 - 1 = 255 from rfl]
      refine congrArg _ ?_
      have e : (n : ℤ) - 127 = ((n : ℤ) - 127 - 23) + 23 := by ring
      rw [e, zpow_add₀ (by norm_num : (2 : ℝ) ≠ 0)]
      norm_num
      ring_nf
    · have : n = 255 := by omega
      subst this; simp

theorem T_lt {i j : ℕ} (h : i < j) (hj : j < 256) : T i < T j := by
  unfold T
  have hj0 : ¬ j = 0 := by omega
  have hi : i < 255 := by omega
  simp only [hj0, hi, if_false, if_true]
  by_cases h0 : i = 0
  · simp only [h0, if_true]
    split
    · exact EReal.coe_pos.mpr (by positivity)
    · exact EReal.coe_lt_top 0
  · simp only [h0, if_false]
    split
    · exact EReal.coe_lt_coe_iff.mpr (zpow_lt_zpow_right₀ (by norm_num) (by omega))
    · exact EReal.coe_lt_top _

theorem T_le {i j : ℕ} (h : i ≤ j) (hj : j < 256) : T i ≤ T j := by
  rcases Nat.lt_or_ge i j with h' | h'
  · exact (T_lt h' hj).le
  · rw [Nat.le_antisymm h h']

/-- One step of the search: the bit stays where the number reaches the power with it. -/
def stp (y : EReal) (e b : BitVec 32) : BitVec 32 := if Ideal.ofBits .f32 ((e + b) <<< 23) ≤ y then e + b else e

/-- The search. -/
def srch (y : EReal) : BitVec 32 := stp y (stp y (stp y (stp y (stp y (stp y (stp y (stp y 0#32 128#32) 64#32) 32#32) 16#32) 8#32) 4#32) 2#32) 1#32

/-- What the search keeps: the number lies between two powers. -/
def Inv (y : EReal) (w : ℕ) (e : BitVec 32) : Prop :=
  ∃ n, e = BitVec.ofNat 32 n ∧ n + w ≤ 256 ∧ (n = 0 ∨ T n ≤ y) ∧ (n + w = 256 ∨ y < T (n + w))

theorem Inv.step {y : EReal} {w : ℕ} {e : BitVec 32} (hw : 0 < w) (h : Inv y (2 * w) e) : Inv y w (stp y e (BitVec.ofNat 32 w)) := by
  obtain ⟨n, rfl, h1, h2, h3⟩ := h
  unfold stp
  have e' : BitVec.ofNat 32 n + BitVec.ofNat 32 w = BitVec.ofNat 32 (n + w) := by rw [BitVec.ofNat_add]
  rw [e', ofBits_shl (by omega)]
  by_cases hy : T (n + w) ≤ y
  · rw [if_pos hy]
    exact ⟨n + w, rfl, by omega, .inr hy, by rw [show n + w + w = n + 2 * w by omega]; exact h3⟩
  · rw [if_neg hy]
    exact ⟨n, rfl, by omega, h2, .inr (not_le.mp hy)⟩

theorem srch_spec (y : EReal) : Inv y 1 (srch y) := by
  have h8 : Inv y (2 * 128) 0#32 := ⟨0, rfl, by omega, .inl rfl, .inl rfl⟩
  have h7 : Inv y (2 * 64) _ := h8.step (by omega)
  have h6 : Inv y (2 * 32) _ := h7.step (by omega)
  have h5 : Inv y (2 * 16) _ := h6.step (by omega)
  have h4 : Inv y (2 * 8) _ := h5.step (by omega)
  have h3 : Inv y (2 * 4) _ := h4.step (by omega)
  have h2 : Inv y (2 * 2) _ := h3.step (by omega)
  have h1 : Inv y (2 * 1) _ := h2.step (by omega)
  exact h1.step (by omega)

/-- The exponent taken from the search: none where the number is zero, too small or infinite. -/
def expo (a y : EReal) : BitVec 32 := if a = 0 then 0#32 else if srch y = 0#32 ∨ srch y = 255#32 then 0#32 else srch y - 126#32

/-- The scale and its inverse. -/
def scl (a y : EReal) : EReal := Ideal.ofBits .f32 ((127#32 + expo a y) <<< 23)
def inv (a y : EReal) : EReal := Ideal.ofBits .f32 ((127#32 - expo a y) <<< 23)

/-- The smallest power of two above `y`, one for a `y` below the smallest normal number. -/
def sclR (y : EReal) : EReal := if y < T 1 then 1 else (Finset.univ : Finset (Fin 253)).fold min ⊤ fun i => if y < T (i.val + 2) then T (i.val + 2) else ⊤

theorem T127 : T 127 = 1 := by unfold T; norm_num

theorem T_inv {n : ℕ} (h1 : 2 ≤ n) (h2 : n ≤ 253) : T (254 - n) = Ideal.div 1 (T n) := by
  unfold T Ideal.div
  have a : ¬ n = 0 := by omega
  have b : n < 255 := by omega
  have c : ¬ 254 - n = 0 := by omega
  have d : 254 - n < 255 := by omega
  simp only [a, b, c, d, if_false, if_true]
  have hp : (0 : ℝ) < (2 : ℝ) ^ ((n : ℤ) - 127) := by positivity
  rw [if_neg (fun h => hp.ne' (EReal.coe_eq_zero.mp h)), one_mul, ← EReal.coe_inv, ← zpow_neg]
  refine congrArg _ (congrArg _ ?_)
  omega

theorem T_inv' {n : ℕ} (h1 : 2 ≤ n) (h2 : n ≤ 254) : T (254 - n) = Ideal.div 1 (T n) ∨ n = 254 := by
  rcases Nat.lt_or_ge n 254 with h | h
  · exact .inl (T_inv h1 (by omega))
  · exact .inr (by omega)

theorem bv (n : Fin 254) (h : 1 ≤ n.val) : 127#32 + (BitVec.ofNat 32 n.val - 126#32) = BitVec.ofNat 32 (n.val + 1)
    ∧ 127#32 - (BitVec.ofNat 32 n.val - 126#32) = BitVec.ofNat 32 (253 - n.val)
    ∧ ¬ (BitVec.ofNat 32 n.val = 0#32 ∨ BitVec.ofNat 32 n.val = 255#32) := by
  revert n; decide +kernel

theorem min_eq {y : EReal} {n : ℕ} (h1 : 1 ≤ n) (h2 : n ≤ 253) (hl : T n ≤ y) (hu : y < T (n + 1)) :
    ((Finset.univ : Finset (Fin 253)).fold min ⊤ fun i => if y < T (i.val + 2) then T (i.val + 2) else ⊤) = T (n + 1) := by
  apply le_antisymm
  · refine Finset.fold_min_le (c := T (n + 1)) |>.mpr (.inr ⟨⟨n - 1, by omega⟩, Finset.mem_univ _, ?_⟩)
    simp only [show n - 1 + 2 = n + 1 by omega]
    rw [if_pos hu]
  · refine Finset.le_fold_min (c := T (n + 1)) |>.mpr ⟨le_top, fun i _ => ?_⟩
    split
    · rename_i h
      refine T_le ?_ (by omega)
      by_contra hc
      have : T (i.val + 2) ≤ T n := T_le (by omega) (by omega)
      exact absurd (this.trans hl) (not_le.mpr h)
    · exact le_top

theorem main {a y : EReal} (h0 : a = 0 → y < T 1) (hy : y < T 253) : scl a y = sclR y ∧ inv a y = Ideal.div 1 (sclR y) := by
  obtain ⟨n, hn, h1, h2, h3⟩ := srch_spec y
  have n_lt : n < 253 := by
    by_contra hc
    rcases h2 with h2 | h2
    · omega
    · exact absurd ((T_le (show 253 ≤ n by omega) (by omega)).trans h2) (not_le.mpr hy)
  have hu : y < T (n + 1) := h3.resolve_left (by omega)
  by_cases hn0 : n = 0
  · subst hn0
    have e : expo a y = 0#32 := by
      unfold expo; rw [hn]; simp
    have es : sclR y = 1 := if_pos hu
    unfold scl inv
    rw [e, es]
    have t : Ideal.ofBits .f32 (BitVec.ofNat 32 127 <<< 23) = 1 := (ofBits_shl (by omega)).trans T127
    refine ⟨t, t.trans ?_⟩
    unfold Ideal.div
    simp
  · have hl : T n ≤ y := h2.resolve_left hn0
    have hy1 : ¬ y < T 1 := not_lt.mpr ((T_le (by omega) (by omega)).trans hl)
    obtain ⟨b1, b2, b3⟩ := bv ⟨n, by omega⟩ (by simp only; omega)
    simp only at b1 b2 b3
    have e : expo a y = BitVec.ofNat 32 n - 126#32 := by
      unfold expo; rw [if_neg (fun h => hy1 (h0 h)), hn, if_neg b3]
    have es : sclR y = T (n + 1) := (if_neg hy1).trans (min_eq (by omega) (by omega) hl hu)
    unfold scl inv
    rw [e, es, b1, b2, ofBits_shl (by omega), ofBits_shl (by omega)]
    refine ⟨rfl, ?_⟩
    rw [show 253 - n = 254 - (n + 1) by omega]
    exact T_inv (by omega) (by omega)

end Cert.Quant

end
-- ==== Proof.KI.Quantise.lean ====
/-
  The codes and the scales the kernel takes, at real numbers, entry by entry.
-/
module

public import proofs.«01_k».proof.Proof.KI.Facts
public import proofs.«01_k».proof.Proof.Quant
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- One step of the search for the exponent, entry by entry. -/
theorem search_step (y : FVec Ideal S8x1 .f32) (e : IVec S8x1 32) (b : BitVec 32) (j : S8x1.Idx) :
    select (cmpf .oge y (bitcastToFloat .f32 (shli (addi e (broadcast S8x1 b)) (broadcast S8x1 23#32) : IVec S8x1 32))) (addi e (broadcast S8x1 b)) e j
      = Quant.stp (y j) (e j) b := by
  show Scalar.select (BitVec.ofBool (decide (Ideal.ofBits .f32 ((e j + b) <<< (23#32)) ≤ y j))) (e j + b) (e j) = _
  unfold Quant.stp
  by_cases h : Ideal.ofBits .f32 ((e j + b) <<< 23) ≤ y j
  · rw [if_pos h, decide_eq_true (p := Ideal.ofBits .f32 ((e j + b) <<< (23#32)) ≤ y j) h]; rfl
  · rw [if_neg h, decide_eq_false (p := Ideal.ofBits .f32 ((e j + b) <<< (23#32)) ≤ y j) h]; rfl

section
variable (xf : Vec Ideal S8x7168 .f32)

theorem pay58_at (j : S8x1.Idx) : k0_pay58 (F := Ideal) (k0_pay54 xf) (k0_pay55 xf) (k0_pay56 xf) k0_pay57 j = Quant.srch (k0_pay54 xf j) := by
  unfold k0_pay58 k0_pay56 k0_pay57 k0_pay55
  dsimp only
  simp only [search_step]
  rfl

/-- The row's largest magnitude and what decides its scale. -/
def aK (b : Fin 8) : EReal := (Finset.univ : Finset (Fin 7168)).fold max (Ideal.ofBits .f32 0xFF800000#32) fun k => max (xf (ix2 b k)) (-(xf (ix2 b k)))
def yK (b : Fin 8) : EReal := aK xf b * Ideal.ofBits .f32 0x3B124925#32

theorem mxV_at (b : Fin 8) : mxV xf (ix2 b 0) = aK xf b := by
  unfold mxV aK
  pointwise [k0_pay53]
  rfl

theorem pay54_at (b : Fin 8) : k0_pay54 xf (ix2 b 0) = yK xf b := by
  unfold k0_pay54 yK
  show k0_pay53 xf (ix2 b 0) * _ = _
  rw [show k0_pay53 xf (ix2 b 0) = aK xf b from mxV_at xf b]
  rfl

omit xf in
theorem pay61_apply (m : FVec Ideal S8x1 .f32) (e4 : IVec S8x1 1) (e5 : IVec S8x1 32) (z : BitVec 32) (j : S8x1.Idx) :
    k0_pay61 (F := Ideal) m e4 e5 z j = Scalar.select (FloatOps.cmpf .oeq (m j) (Scalar.ofBits .f32 0x00000000#32)) 0#32 (Scalar.select (e4 j) z (e5 j)) := rfl

theorem pay61_at (b : Fin 8) : k0_pay61 (F := Ideal) (mxV xf) (eV4 xf) (eV5 xf) 0#32 (ix2 b 0) = Quant.expo (aK xf b) (yK xf b) := by
  have h58 := pay58_at xf (ix2 b 0)
  rw [pay54_at] at h58
  have ha := mxV_at xf b
  rw [pay61_apply]
  unfold Quant.expo
  have e4 : eV4 xf (ix2 b 0) = BitVec.ofBool (decide (Quant.srch (yK xf b) = 0#32 ∨ Quant.srch (yK xf b) = 255#32)) := by
    rw [← h58]
    show IntOp.ori (IntOp.cmpi .eq (k0_pay58 (F := Ideal) (k0_pay54 xf) (k0_pay55 xf) (k0_pay56 xf) k0_pay57 (ix2 b 0)) 0#32) (IntOp.cmpi .eq (k0_pay58 (F := Ideal) (k0_pay54 xf) (k0_pay55 xf) (k0_pay56 xf) k0_pay57 (ix2 b 0)) 255#32) = _
    generalize k0_pay58 (F := Ideal) (k0_pay54 xf) (k0_pay55 xf) (k0_pay56 xf) k0_pay57 (ix2 b 0) = z
    show BitVec.ofBool (z == 0#32) ||| BitVec.ofBool (z == 255#32) = _
    by_cases h1 : z = 0#32
    · subst h1; rfl
    · by_cases h2 : z = 255#32
      · subst h2; rfl
      · rw [beq_eq_false_iff_ne.mpr h1, beq_eq_false_iff_ne.mpr h2, decide_eq_false (by rintro (h | h); exacts [h1 h, h2 h])]; rfl
  have e5 : eV5 xf (ix2 b 0) = Quant.srch (yK xf b) - 126#32 := by
    rw [← h58]; rfl
  have ez : FloatOps.cmpf (F := Ideal) .oeq (aK xf b) (Scalar.ofBits .f32 0x00000000#32) = BitVec.ofBool (decide (aK xf b = 0)) := by
    rw [← Ideal.ofBits_zero_f32]; rfl
  rw [e4, e5, ha, ez]
  by_cases h0 : aK xf b = 0
  · simp [h0, Scalar.select]
  · by_cases h1 : Quant.srch (yK xf b) = 0#32 ∨ Quant.srch (yK xf b) = 255#32
    · simp [h0, h1, Scalar.select]
    · simp [h0, h1, Scalar.select]

theorem pay62_at (b : Fin 8) : k0_pay62 (F := Ideal) (mxV xf) (eV4 xf) (eV5 xf) 0#32 (ix2 b 0) = Quant.scl (aK xf b) (yK xf b) := by
  unfold Quant.scl
  rw [← pay61_at]
  rfl

theorem pay63_at (b : Fin 8) (k : Fin 7168) : k0_pay63 (F := Ideal) xf (mxV xf) (eV4 xf) (eV5 xf) 0#32 (ix2 b k)
    = min (Ideal.ofBits .f32 0x43E00000#32) (max (Ideal.ofBits .f32 0xC3E00000#32) (xf (ix2 b k) * Quant.inv (aK xf b) (yK xf b))) := by
  unfold Quant.inv
  rw [← pay61_at]
  pointwise [k0_pay63]
  rfl
end

end Cert.KernelIdeal.Hand

end
-- ==== Proof.KI.Mask.lean ====
/-
  The mask the kernel takes from the words, column by column.
-/
module

public import proofs.«01_k».proof.Proof.KI.Facts
public import proofs.«01_k».proof.Proof.Quant
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Four tiles of 128 lanes side by side, read at a column. -/
theorem concat4_at {α : Type} (A B C D : S8x128.Idx → α) (h) (r : Fin 8) (j : Fin 512) :
    concatenate S8x512 1 [⟨S8x128, A⟩, ⟨S8x128, B⟩, ⟨S8x128, C⟩, ⟨S8x128, D⟩] h (ix2 r j)
      = (if j.val < 128 then A else if j.val < 256 then B else if j.val < 384 then C else D) (ix2 r ⟨j.val % 128, Nat.mod_lt _ (by decide)⟩) := by
  pointwise []
  have hj := j.isLt
  by_cases h1 : j.val < 128
  · rw [dif_pos h1, if_pos h1]; exact congrArg A (congrArg (ix2 r) (Fin.ext (by show j.val = j.val % 128; omega)))
  · rw [dif_neg h1, if_neg h1]
    by_cases h2 : j.val < 256
    · rw [dif_pos (by omega), if_pos h2]; exact congrArg B (congrArg (ix2 r) (Fin.ext (by show j.val - 128 = j.val % 128; omega)))
    · rw [dif_neg (by omega), if_neg h2]
      by_cases h3 : j.val < 384
      · rw [dif_pos (by omega), if_pos h3]; exact congrArg C (congrArg (ix2 r) (Fin.ext (by show j.val - 128 - 128 = j.val % 128; omega)))
      · rw [dif_neg (by omega), if_neg h3]; exact congrArg D (congrArg (ix2 r) (Fin.ext (by show j.val - 128 - 128 - 128 = j.val % 128; omega)))

/-- The bit of a word that a lane asks for: the remainder of the lane by 32, rounded down. -/
def shOf (z : BitVec 32) : BitVec 32 :=
  Scalar.select (IntOp.andi (IntOp.xori (IntOp.cmpi .slt (IntOp.remsi .vector z 32#32) 0#32) (Scalar.cmpi .slt 32#32 0#32)) (IntOp.cmpi .ne (IntOp.remsi .vector z 32#32) 0#32))
    (IntOp.addi (IntOp.remsi .vector z 32#32) 32#32) (IntOp.remsi .vector z 32#32)
theorem shOf_eq : ∀ l : Fin 128, shOf (BitVec.ofNat 32 l.val) = BitVec.ofNat 32 (l.val % 32) := by decide +kernel

/-- The word a column asks for, counted from the tile's first: the column's quotient by 32, rounded down, from word `b` on. -/
def wdOf (b z : BitVec 32) : BitVec 32 :=
  let q := Scalar.select (IntOp.andi (IntOp.cmpi .ne (IntOp.subi ((IntOp.cmpi .sgt z 0#32).setWidth 32) ((IntOp.cmpi .slt z 0#32).setWidth 32)) 1#32)
    (IntOp.cmpi .ne (IntOp.remsi .vector z 32#32) 0#32)) (IntOp.subi (IntOp.divsi .vector z 32#32) 1#32) (IntOp.divsi .vector z 32#32)
  Scalar.select (IntOp.cmpi .slt (IntOp.addi b q) 0#32) (IntOp.addi (IntOp.addi b q) 128#32) (IntOp.addi b q)
theorem wdOf_eq : ∀ (p : Fin 8) (l : Fin 512), (wdOf (BitVec.ofNat 32 (16 * p.val)) (BitVec.ofNat 32 l.val)).toNat % 128 = 16 * p.val + l.val / 32 := by decide +kernel

theorem gather_at (w idx : IVec S8x128 32) (r : Fin 8) (l : Fin 128) :
    dynamicGather (s := S8x128) 1 w (shapeCast S8x128 (shapeCast S8x128x1 idx shapeCasts_S8x128_S8x128x1) shapeCasts_S8x128x1_S8x128) (ix2 r l)
      = w (ix2 r ⟨(idx (ix2 r l)).toNat % 128, Nat.mod_lt _ (by decide)⟩) := by
  have e : shapeCast S8x128 (shapeCast S8x128x1 idx shapeCasts_S8x128_S8x128x1) shapeCasts_S8x128x1_S8x128 = idx := by
    funext x
    rw [← ix2_eta x]
    pointwise []
  rw [e]
  refine congrArg w (funext fun a => ?_)
  match a with
  | ⟨0, _⟩ => rfl
  | ⟨1, _⟩ => rfl

section
variable (v b : BitVec 32)
theorem pay7_at (v27 w : IVec S8x128 32) (r : Fin 8) (l : Fin 128) :
    k0_pay7 (F := Ideal) b w (k0_pay4 v27) (k0_pay5 v27) (k0_pay6 v27) 0#32 (ix2 r l)
      = w (ix2 r ⟨(wdOf b (0#32 + v27 (ix2 r l))).toNat % 128, Nat.mod_lt _ (by decide)⟩) := gather_at w _ r l
theorem pay11_at (v27 w : IVec S8x128 32) (r : Fin 8) (l : Fin 128) :
    k0_pay11 (F := Ideal) w (k0_pay8 v27 b) (k0_pay9 v27 b) k0_pay10 (ix2 r l)
      = w (ix2 r ⟨(wdOf b (128#32 + v27 (ix2 r l))).toNat % 128, Nat.mod_lt _ (by decide)⟩) := gather_at w _ r l
theorem pay12_at (v27 w : IVec S8x128 32) (r : Fin 8) (l : Fin 128) :
    k0_pay12 (F := Ideal) v27 b w (ix2 r l)
      = w (ix2 r ⟨(wdOf b (256#32 + v27 (ix2 r l))).toNat % 128, Nat.mod_lt _ (by decide)⟩) := gather_at w _ r l
theorem pay16_at (v27 w : IVec S8x128 32) (r : Fin 8) (l : Fin 128) :
    k0_pay16 (F := Ideal) b w (k0_pay13 v27) 32#32 (k0_pay14 v27) (k0_pay15 v27) (ix2 r l)
      = w (ix2 r ⟨(wdOf b (384#32 + v27 (ix2 r l))).toNat % 128, Nat.mod_lt _ (by decide)⟩) := gather_at w _ r l
end

/-- A word's bit. -/
def bitOf (x s : BitVec 32) : BitVec 32 := IntOp.andi (IntOp.shrsi .vector x s) 1#32

theorem pay21_at (v27 A B C D : IVec S8x128 32) (r : Fin 8) (j : Fin 512) :
    k0_pay21 v27 D (k0_pay18 (k0_pay17 v27 A)) (k0_pay19 v27 B) (k0_pay20 v27 C) 32#32 (ix2 r j)
      = IntOp.cmpi .eq (bitOf ((if j.val < 128 then A else if j.val < 256 then B else if j.val < 384 then C else D) (ix2 r ⟨j.val % 128, Nat.mod_lt _ (by decide)⟩))
          (shOf (v27 (ix2 r ⟨j.val % 128, Nat.mod_lt _ (by decide)⟩)))) 1#32 := by
  unfold k0_pay21
  refine (congrArg (fun z => IntOp.cmpi .eq z 1#32) (concat4_at _ _ _ _ _ r j)).trans ?_
  congr 1
  split
  · rfl
  · split
    · rfl
    · split <;> rfl

theorem maskOf_at (p : Fin 8) (w : IVec S8x128 32) (r : Fin 8) (j : Fin 512) :
    maskOf (F := Ideal) laneI (BitVec.ofNat 32 (16 * p.val)) w (ix2 r j)
      = IntOp.cmpi .eq (bitOf (w (ix2 r ⟨16 * p.val + j.val / 32, by omega⟩)) (BitVec.ofNat 32 (j.val % 32))) 1#32 := by
  have hl : laneI (ix2 r ⟨j.val % 128, Nat.mod_lt _ (by decide)⟩) = BitVec.ofNat 32 (j.val % 128) := by unfold laneI; pointwise []
  unfold maskOf
  rw [pay21_at, hl, shOf_eq ⟨j.val % 128, Nat.mod_lt _ (by decide)⟩]
  have h32 : j.val % 128 % 32 = j.val % 32 := by omega
  have key : ∀ q : Fin 4, 128 * q.val + j.val % 128 = j.val →
      (wdOf (BitVec.ofNat 32 (16 * p.val)) (BitVec.ofNat 32 (128 * q.val) + laneI (ix2 r ⟨j.val % 128, Nat.mod_lt _ (by decide)⟩))).toNat % 128 = 16 * p.val + j.val / 32 := by
    intro q hq
    rw [hl, ← BitVec.ofNat_add, hq]
    exact wdOf_eq p j
  simp only [h32]
  congr 2
  have hj := j.isLt
  split
  · refine (pay7_at _ laneI w r _).trans (congrArg w (congrArg (ix2 r) (Fin.ext (key 0 ?_))))
    show 128 * 0 + j.val % 128 = j.val; omega
  · split
    · refine (pay11_at _ laneI w r _).trans (congrArg w (congrArg (ix2 r) (Fin.ext (key 1 ?_))))
      show 128 * 1 + j.val % 128 = j.val; omega
    · split
      · refine (pay12_at _ laneI w r _).trans (congrArg w (congrArg (ix2 r) (Fin.ext (key 2 ?_))))
        show 128 * 2 + j.val % 128 = j.val; omega
      · refine (pay16_at _ laneI w r _).trans (congrArg w (congrArg (ix2 r) (Fin.ext (key 3 ?_))))
        show 128 * 3 + j.val % 128 = j.val; omega

end Cert.KernelIdeal.Hand

end
-- ==== Proof.KI.Logits.lean ====
/-
  The codes, the scales and the masked logits of the kernel at real numbers, entry by entry.
-/
module

public import proofs.«01_k».proof.Proof.KI.Facts
public import proofs.«01_k».proof.Proof.KI.Quantise
public import proofs.«01_k».proof.Proof.KI.Mask
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The working buffers, read -/

section
variable (c : Dev nD) (XW : BufOf Ideal c aW) (xX : BufOf Ideal c aX) (xWs : BufOf Ideal c aWs) (xBm : BufOf Ideal c aBm)

theorem KQ_read : bXq.view.read (Elt Ideal) (KQ c xX) = xqV (xfV c xX) := Memref.IsWhole.read_unread _ _
theorem KS_read : bXsb.view.read (Elt Ideal) (KS c xX) = xsbV (xfV c xX) := Memref.IsWhole.read_unread _ _
theorem KW_read : bWords.view.read (Elt Ideal) (KW c xBm) = wordsV c xBm := Memref.IsWhole.read_unread _ _
theorem KN_read : bWs.view.read (Elt Ideal) (KN c xWs) = fun i => aWs.view.read (Elt Ideal) xWs (ix1 (i 1)) := Memref.IsWhole.read_unread _ _

theorem rdXq_eq : rdXq c (KQ c xX) = xqV (xfV c xX) := (View.readAt_full _ _ _).trans (KQ_read c xX)
theorem rdXsb_eq : rdXsb c (KS c xX) = xsbV (xfV c xX) := (View.readAt_full _ _ _).trans (KS_read c xX)

/-- The codes and the scale of a row. -/
def cdK (xf : Vec Ideal S8x7168 .f32) (b : Fin 8) (k : Fin 7168) : EReal :=
  min (Ideal.ofBits .f32 0x43E00000#32) (max (Ideal.ofBits .f32 0xC3E00000#32) (xf (ix2 b k) * Quant.inv (aK xf b) (yK xf b)))
def scK (xf : Vec Ideal S8x7168 .f32) (b : Fin 8) : EReal := Quant.scl (aK xf b) (yK xf b)

theorem xqV_at (xf : Vec Ideal S8x7168 .f32) (r : Fin 8) (k : Fin 7168) : xqV xf (ix2 (r.castLE (by decide) : Fin 32) k) = cdK xf r k := by
  unfold xqV cdK
  rw [← pay63_at]
  generalize e : k0_pay63 xf (mxV xf) (eV4 xf) (eV5 xf) 0#32 = z
  pointwise [k0_pay65]
  rw [e]
  exact dif_pos r.isLt

theorem xsbV_at (xf : Vec Ideal S8x7168 .f32) (r : Fin 8) (l : Fin 128) : xsbV xf (ix2 r l) = scK xf r := by
  unfold xsbV scK
  rw [← pay62_at]
  generalize e : k0_pay62 (mxV xf) (eV4 xf) (eV5 xf) 0#32 = z
  pointwise [k0_pay66]
  rw [e]

theorem codesV_at (xf : Vec Ideal S8x7168 .f32) (r : Fin 3) (k : Fin 7168) : codesV xf (ix2 r k) = cdK xf (r.castLE (by decide)) k := by
  unfold codesV cdK
  rw [← pay63_at]
  generalize e : k0_pay63 xf (mxV xf) (eV4 xf) (eV5 xf) 0#32 = z
  pointwise [k0_pay64]
  rw [e]
  rfl

theorem eye_at : ∀ (x : Fin 8) (r : Fin 3), IntOp.cmpi .eq (BitVec.ofNat 32 x.val) (BitVec.ofNat 32 r.val) = if x.val = r.val then 1#1 else 0#1 := by decide

theorem xsV_at (xf : Vec Ideal S8x7168 .f32) (r : Fin 3) : xsV xf (ix2 0 r) = scK xf (r.castLE (by decide)) := by
  unfold xsV scK
  rw [← pay62_at]
  pointwise [k0_pay69, k0_pay67, k0_pay68, rowI, laneI]
  refine (Finset.sum_eq_single (r.castLE (by decide) : Fin 8) (fun x _ hx => ?_) (fun h => absurd (Finset.mem_univ _) h)).trans ?_
  · rw [eye_at]; split
    · rename_i h; exact absurd (Fin.ext h) hx
    · rfl
  · rw [eye_at]; split
    · rfl
    · rename_i h; exact absurd rfl h

theorem pay22_at (raw : FVec Ideal S8x512 .f32) (s : Vec Ideal S8x128 .f32) (w : Vec Ideal S1x512 .f32) (r : Fin 8) (j : Fin 512) (z : EReal) (h : ∀ l, s (ix2 r l) = z) :
    k0_pay22 raw s w (ix2 r j) = raw (ix2 r j) * z * w (ix2 0 j) := by
  unfold k0_pay22
  refine (congrArg₂ (fun a b : EReal => a * b) (congrArg (fun a : EReal => raw (ix2 r j) * a) ((concat4_at s s s s _ r j).trans ?_)) (by pointwise [])).trans rfl
  · simp only [ite_self]
    exact h _

theorem dotBlk_at (xq : Vec Ideal S32x7168 .fp8e4m3) (B : Vec Ideal S7168x512 .fp8e4m3) (r : Fin 8) (j : Fin 512) :
    dotBlk xq B (ix2 r j) = ∑ k : Fin 7168, xq (ix2 (r.castLE (by decide) : Fin 32) k) * B (ix2 k j) := by
  pointwise [dotBlk]
  rfl
theorem payload_at (p : Fin 62) (k : Fin 7168) (j : Fin 512) : payload c XW p (ix2 k j) = aW.view.read (Elt Ideal) XW (ix2 k ⟨512 * p.val + j.val, by omega⟩) := by
  refine congrArg (aW.view.read (Elt Ideal) XW) (funext fun a => Fin.ext ?_)
  match a with
  | ⟨0, _⟩ => show 0 + 1 * k.val = k.val; omega
  | ⟨1, _⟩ => show 512 * p.val + 1 * j.val = 512 * p.val + j.val; omega

theorem pay183_at (A : Vec Ideal S32x3072 .fp8e4m3) (B : S3072x512.Idx → Elt Ideal .fp8e4m3) (h) (r : Fin 8) (j : Fin 512) :
    k0_pay183 (F := Ideal) A (shapeCast S1x3072x512 B h) (ix2 r j) = ∑ k : Fin 3072, A (ix2 (r.castLE (by decide) : Fin 32) k) * B (ix2 k j) := by
  pointwise [k0_pay183]
  rfl
theorem pay242_at (z : FVec Ideal S8x512 .f32) (A : Vec Ideal S32x2048 .fp8e4m3) (B : S2048x512.Idx → Elt Ideal .fp8e4m3) (h) (r : Fin 8) (j : Fin 512) :
    k0_pay242 (F := Ideal) z A (shapeCast S1x2048x512 B h) (ix2 r j) = z (ix2 r j) + ∑ k : Fin 2048, A (ix2 (r.castLE (by decide) : Fin 32) k) * B (ix2 k j) := by
  pointwise [k0_pay242]
  rfl
theorem pay243_at (z : FVec Ideal S8x512 .f32) (A : Vec Ideal S32x1280 .fp8e4m3) (B : S1280x512.Idx → Elt Ideal .fp8e4m3) (h)
    (A' : Vec Ideal S32x512 .fp8e4m3) (B' : S512x512.Idx → Elt Ideal .fp8e4m3) (h')
    (A'' : Vec Ideal S32x256 .fp8e4m3) (B'' : S256x512.Idx → Elt Ideal .fp8e4m3) (h'') (r : Fin 8) (j : Fin 512) :
    k0_pay243 (F := Ideal) z A (shapeCast S1x1280x512 B h) A' (shapeCast S1x512x512 B' h') A'' (shapeCast S1x256x512 B'' h'') (ix2 r j)
      = z (ix2 r j) + (∑ k : Fin 1280, A (ix2 (r.castLE (by decide) : Fin 32) k) * B (ix2 k j))
        + (∑ k : Fin 512, A' (ix2 (r.castLE (by decide) : Fin 32) k) * B' (ix2 k j))
        + ∑ k : Fin 256, A'' (ix2 (r.castLE (by decide) : Fin 32) k) * B'' (ix2 k j) := by
  pointwise [k0_pay243]
  rfl

section
variable (j : Fin 512)
theorem tpay0_at (k : Fin 3072) : tpay0 c XW (ix2 k j) = aW.view.read (Elt Ideal) XW (ix2 ⟨0 + k.val, by omega⟩ ⟨31744 + j.val, by omega⟩) := by
  refine congrArg (aW.view.read (Elt Ideal) XW) (funext fun a => Fin.ext ?_)
  match a with
  | ⟨0, _⟩ => show 0 + 1 * k.val = 0 + k.val; omega
  | ⟨1, _⟩ => show 31744 + 1 * j.val = 31744 + j.val; omega
theorem xq0_at (fa : BufOf Ideal c bXq) (h) (r : Fin 8) (k : Fin 3072) :
    bXq.view.readAt (Elt Ideal) (Rect.unit (s := S32x7168) ![0, 0] S32x3072.size h).toLoadRect fa (ix2 (r.castLE (by decide) : Fin 32) k)
      = bXq.view.read (Elt Ideal) fa (ix2 (r.castLE (by decide) : Fin 32) ⟨0 + k.val, by omega⟩) := by
  refine congrArg (bXq.view.read (Elt Ideal) fa) (funext fun a => Fin.ext ?_)
  match a with
  | ⟨0, _⟩ => show 0 + 1 * r.val = r.val; omega
  | ⟨1, _⟩ => show 0 + 1 * k.val = 0 + k.val; omega
theorem tpay1_at (k : Fin 2048) : tpay1 c XW (ix2 k j) = aW.view.read (Elt Ideal) XW (ix2 ⟨3072 + k.val, by omega⟩ ⟨31744 + j.val, by omega⟩) := by
  refine congrArg (aW.view.read (Elt Ideal) XW) (funext fun a => Fin.ext ?_)
  match a with
  | ⟨0, _⟩ => show 3072 + 1 * k.val = 3072 + k.val; omega
  | ⟨1, _⟩ => show 31744 + 1 * j.val = 31744 + j.val; omega
theorem xq1_at (fa : BufOf Ideal c bXq) (h) (r : Fin 8) (k : Fin 2048) :
    bXq.view.readAt (Elt Ideal) (Rect.unit (s := S32x7168) ![0, 3072] S32x2048.size h).toLoadRect fa (ix2 (r.castLE (by decide) : Fin 32) k)
      = bXq.view.read (Elt Ideal) fa (ix2 (r.castLE (by decide) : Fin 32) ⟨3072 + k.val, by omega⟩) := by
  refine congrArg (bXq.view.read (Elt Ideal) fa) (funext fun a => Fin.ext ?_)
  match a with
  | ⟨0, _⟩ => show 0 + 1 * r.val = r.val; omega
  | ⟨1, _⟩ => show 3072 + 1 * k.val = 3072 + k.val; omega
theorem tpay2_at (k : Fin 1280) : tpay2 c XW (ix2 k j) = aW.view.read (Elt Ideal) XW (ix2 ⟨5120 + k.val, by omega⟩ ⟨31744 + j.val, by omega⟩) := by
  refine congrArg (aW.view.read (Elt Ideal) XW) (funext fun a => Fin.ext ?_)
  match a with
  | ⟨0, _⟩ => show 5120 + 1 * k.val = 5120 + k.val; omega
  | ⟨1, _⟩ => show 31744 + 1 * j.val = 31744 + j.val; omega
theorem xq2_at (fa : BufOf Ideal c bXq) (h) (r : Fin 8) (k : Fin 1280) :
    bXq.view.readAt (Elt Ideal) (Rect.unit (s := S32x7168) ![0, 5120] S32x1280.size h).toLoadRect fa (ix2 (r.castLE (by decide) : Fin 32) k)
      = bXq.view.read (Elt Ideal) fa (ix2 (r.castLE (by decide) : Fin 32) ⟨5120 + k.val, by omega⟩) := by
  refine congrArg (bXq.view.read (Elt Ideal) fa) (funext fun a => Fin.ext ?_)
  match a with
  | ⟨0, _⟩ => show 0 + 1 * r.val = r.val; omega
  | ⟨1, _⟩ => show 5120 + 1 * k.val = 5120 + k.val; omega
theorem tpay3_at (k : Fin 512) : tpay3 c XW (ix2 k j) = aW.view.read (Elt Ideal) XW (ix2 ⟨6400 + k.val, by omega⟩ ⟨31744 + j.val, by omega⟩) := by
  refine congrArg (aW.view.read (Elt Ideal) XW) (funext fun a => Fin.ext ?_)
  match a with
  | ⟨0, _⟩ => show 6400 + 1 * k.val = 6400 + k.val; omega
  | ⟨1, _⟩ => show 31744 + 1 * j.val = 31744 + j.val; omega
theorem xq3_at (fa : BufOf Ideal c bXq) (h) (r : Fin 8) (k : Fin 512) :
    bXq.view.readAt (Elt Ideal) (Rect.unit (s := S32x7168) ![0, 6400] S32x512.size h).toLoadRect fa (ix2 (r.castLE (by decide) : Fin 32) k)
      = bXq.view.read (Elt Ideal) fa (ix2 (r.castLE (by decide) : Fin 32) ⟨6400 + k.val, by omega⟩) := by
  refine congrArg (bXq.view.read (Elt Ideal) fa) (funext fun a => Fin.ext ?_)
  match a with
  | ⟨0, _⟩ => show 0 + 1 * r.val = r.val; omega
  | ⟨1, _⟩ => show 6400 + 1 * k.val = 6400 + k.val; omega
theorem tpay4_at (k : Fin 256) : tpay4 c XW (ix2 k j) = aW.view.read (Elt Ideal) XW (ix2 ⟨6912 + k.val, by omega⟩ ⟨31744 + j.val, by omega⟩) := by
  refine congrArg (aW.view.read (Elt Ideal) XW) (funext fun a => Fin.ext ?_)
  match a with
  | ⟨0, _⟩ => show 6912 + 1 * k.val = 6912 + k.val; omega
  | ⟨1, _⟩ => show 31744 + 1 * j.val = 31744 + j.val; omega
theorem xq4_at (fa : BufOf Ideal c bXq) (h) (r : Fin 8) (k : Fin 256) :
    bXq.view.readAt (Elt Ideal) (Rect.unit (s := S32x7168) ![0, 6912] S32x256.size h).toLoadRect fa (ix2 (r.castLE (by decide) : Fin 32) k)
      = bXq.view.read (Elt Ideal) fa (ix2 (r.castLE (by decide) : Fin 32) ⟨6912 + k.val, by omega⟩) := by
  refine congrArg (bXq.view.read (Elt Ideal) fa) (funext fun a => Fin.ext ?_)
  match a with
  | ⟨0, _⟩ => show 0 + 1 * r.val = r.val; omega
  | ⟨1, _⟩ => show 6912 + 1 * k.val = 6912 + k.val; omega
end

/-- A sum over the rows is the sum over the five pieces of them. -/
theorem sum_five (f : Fin 7168 → EReal) : ∑ k, f k = (∑ k : Fin 3072, f ⟨0 + k.val, by omega⟩) + (∑ k : Fin 2048, f ⟨3072 + k.val, by omega⟩)
    + (∑ k : Fin 1280, f ⟨5120 + k.val, by omega⟩) + (∑ k : Fin 512, f ⟨6400 + k.val, by omega⟩) + ∑ k : Fin 256, f ⟨6912 + k.val, by omega⟩ := by
  rw [Fin.sum_univ_two_halves 6912 256 rfl f]
  rw [Fin.sum_univ_two_halves 6400 512 rfl (fun k : Fin 6912 => f ⟨k.val, by omega⟩)]
  rw [Fin.sum_univ_two_halves 5120 1280 rfl (fun k : Fin 6400 => f ⟨k.val, by omega⟩)]
  rw [Fin.sum_univ_two_halves 3072 2048 rfl (fun k : Fin 5120 => f ⟨k.val, by omega⟩)]
  simp only [Nat.zero_add]

/-- The product of a block, at real numbers: for the last block the five partial sums make up the whole one. -/
theorem rawAll_at (p : ℕ) (hp : p < 63) (r : Fin 8) (j : Fin 512) :
    rawAll c XW (KQ c xX) p (ix2 r j) = ∑ k : Fin 7168, cdK (xfV c xX) r k * aW.view.read (Elt Ideal) XW (ix2 k ⟨512 * p + j.val, by omega⟩) := by
  unfold rawAll
  by_cases h : p < 62
  · rw [if_pos h]
    unfold rawV
    rw [dotBlk_at, rdXq_eq]
    refine Finset.sum_congr rfl fun k _ => ?_
    rw [xqV_at, payload_at]
    refine congrArg (fun z => cdK (xfV c xX) r k * aW.view.read (Elt Ideal) XW (ix2 k z)) (Fin.ext ?_)
    show 512 * (p % 62) + j.val = 512 * p + j.val
    rw [Nat.mod_eq_of_lt h]
  · rw [if_neg h]
    obtain rfl : p = 62 := by omega
    unfold rawLast
    rw [pay243_at, pay242_at, pay183_at, sum_five]
    have e : ∀ (k : Fin 7168) (k' : Fin 7168) (v v' : Fin 32256), k' = k → v' = v →
        xqV (xfV c xX) (ix2 (r.castLE (by decide) : Fin 32) k') * aW.view.read (Elt Ideal) XW (ix2 k' v')
          = cdK (xfV c xX) r k * aW.view.read (Elt Ideal) XW (ix2 k v) := by
      rintro k _ v _ rfl rfl; rw [xqV_at]
    refine congrArg₂ (fun a b : EReal => a + b) (congrArg₂ (fun a b : EReal => a + b) (congrArg₂ (fun a b : EReal => a + b) (congrArg₂ (fun a b : EReal => a + b) ?_ ?_) ?_) ?_) ?_
    · refine Finset.sum_congr rfl fun k _ => ?_
      refine (congrArg₂ (fun a b : EReal => a * b) ((xq0_at c (KQ c xX) _ r k).trans (congrFun (KQ_read c xX) _)) (tpay0_at c XW j k)).trans (e _ _ _ _ rfl (Fin.ext ?_))
      show 31744 + j.val = 512 * 62 + j.val; omega
    · refine Finset.sum_congr rfl fun k _ => ?_
      refine (congrArg₂ (fun a b : EReal => a * b) ((xq1_at c (KQ c xX) _ r k).trans (congrFun (KQ_read c xX) _)) (tpay1_at c XW j k)).trans (e _ _ _ _ rfl (Fin.ext ?_))
      show 31744 + j.val = 512 * 62 + j.val; omega
    · refine Finset.sum_congr rfl fun k _ => ?_
      refine (congrArg₂ (fun a b : EReal => a * b) ((xq2_at c (KQ c xX) _ r k).trans (congrFun (KQ_read c xX) _)) (tpay2_at c XW j k)).trans (e _ _ _ _ rfl (Fin.ext ?_))
      show 31744 + j.val = 512 * 62 + j.val; omega
    · refine Finset.sum_congr rfl fun k _ => ?_
      refine (congrArg₂ (fun a b : EReal => a * b) ((xq3_at c (KQ c xX) _ r k).trans (congrFun (KQ_read c xX) _)) (tpay3_at c XW j k)).trans (e _ _ _ _ rfl (Fin.ext ?_))
      show 31744 + j.val = 512 * 62 + j.val; omega
    · refine Finset.sum_congr rfl fun k _ => ?_
      refine (congrArg₂ (fun a b : EReal => a * b) ((xq4_at c (KQ c xX) _ r k).trans (congrFun (KQ_read c xX) _)) (tpay4_at c XW j k)).trans (e _ _ _ _ rfl (Fin.ext ?_))
      show 31744 + j.val = 512 * 62 + j.val; omega

/-- The logits of a block at real numbers. -/
theorem lgA_at (p : ℕ) (hp : p < 63) (r : Fin 8) (j : Fin 512) :
    lgA c XW xX xWs p (ix2 r j) = (∑ k : Fin 7168, cdK (xfV c xX) r k * aW.view.read (Elt Ideal) XW (ix2 k ⟨512 * p + j.val, by omega⟩))
      * scK (xfV c xX) r * aWs.view.read (Elt Ideal) xWs (ix1 ⟨512 * p + j.val, by omega⟩) := by
  unfold lgA lgV
  rw [pay22_at _ _ _ r j (scK (xfV c xX) r) (fun l => by rw [rdXsb_eq, xsbV_at]), rawAll_at c XW xX p hp]
  congr 1
  unfold rdWs
  rw [KN_read]
  refine congrArg (aWs.view.read (Elt Ideal) xWs) (congrArg ix1 (Fin.ext ?_))
  show (512 * p + j.val) % 32256 = 512 * p + j.val
  exact Nat.mod_eq_of_lt (by omega)

/-- The mask of a block. -/
theorem mkA_at (p : ℕ) (hp : p < 63) (r : Fin 3) (j : Fin 512) :
    mkA c xBm p (ix2 (r.castLE (by decide) : Fin 8) j)
      = IntOp.cmpi .eq (bitOf (aBm.view.read (Elt Ideal) xBm (ix2 r ⟨(512 * p + j.val) / 32, by omega⟩)) (BitVec.ofNat 32 ((512 * p + j.val) % 32))) 1#32 := by
  unfold mkA maskV
  have hb : baseW p = BitVec.ofNat 32 (16 * ((⟨p % 8, Nat.mod_lt _ (by decide)⟩ : Fin 8)).val) := by
    unfold baseW; congr 1; show 16 * p % 128 = 16 * (p % 8); omega
  rw [hb, maskOf_at]
  have hw : rdWords c p (KW c xBm) (ix2 (r.castLE (by decide) : Fin 8) ⟨16 * (p % 8) + j.val / 32, by omega⟩)
      = aBm.view.read (Elt Ideal) xBm (ix2 r ⟨(512 * p + j.val) / 32, by omega⟩) := by
    unfold rdWords
    rw [KW_read]
    have hm : (128 * (p / 8) + (16 * (p % 8) + j.val / 32)) % 1024 = (512 * p + j.val) / 32 := by omega
    unfold wordsV
    have hlt : (128 * (p / 8) + (16 * (p % 8) + j.val / 32)) % 1024 < 1008 := by omega
    refine (dif_pos ⟨r.isLt, hlt⟩).trans ?_
    exact congrArg (aBm.view.read (Elt Ideal) xBm) (congrArg (ix2 r) (Fin.ext hm))
  have hj : j.val % 32 = (512 * p + j.val) % 32 := by omega
  rw [← hj]
  exact congrArg (fun z => IntOp.cmpi .eq (bitOf z (BitVec.ofNat 32 (j.val % 32))) 1#32) hw

/-- The masked logits at real numbers. -/
theorem mlV_at (r : Fin 3) (v : Fin 32256) :
    mlV c XW xX xWs xBm (ix3 r 0 v)
      = Scalar.select (IntOp.cmpi .eq (bitOf (aBm.view.read (Elt Ideal) xBm (ix2 r ⟨v.val / 32, by omega⟩)) (BitVec.ofNat 32 (v.val % 32))) 1#32)
          ((∑ k : Fin 7168, cdK (xfV c xX) (r.castLE (by decide)) k * aW.view.read (Elt Ideal) XW (ix2 k v))
            * scK (xfV c xX) (r.castLE (by decide)) * aWs.view.read (Elt Ideal) xWs (ix1 v)) 0 := by
  have hv : 512 * (v.val / 512) + v.val % 512 = v.val := Nat.div_add_mod _ _
  have e := mkA_at c xBm (v.val / 512) (by omega) r ⟨v.val % 512, Nat.mod_lt _ (by decide)⟩
  have e' := lgA_at c XW xX xWs (v.val / 512) (by omega) (r.castLE (by decide)) ⟨v.val % 512, Nat.mod_lt _ (by decide)⟩
  simp only [hv] at e e'
  show Scalar.select (mkA c xBm (v.val / 512) (ix2 (r.castLE (by decide) : Fin 8) ⟨v.val % 512, Nat.mod_lt _ (by decide)⟩))
    (lgA c XW xX xWs (v.val / 512) (ix2 (r.castLE (by decide) : Fin 8) ⟨v.val % 512, Nat.mod_lt _ (by decide)⟩)) (Ideal.ofBits .f32 0x00000000#32) = _
  rw [e, e', Ideal.ofBits_zero_f32]
end

end Cert.KernelIdeal.Hand

end
-- ==== Proof.RI.Host.lean ====
/-
  What the reference's host operations hand to its call: the rows as floats, their scales, the column scales, the mask.
-/
module

public import proofs.«01_k».proof.Proof.Gen.ReferenceIdeal.Value

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F]

/-- The rows as floats. -/
def xfR (x : FVec F S3x1x7168 .bf16) : FVec F S3x7168 .f32 := shapeCast S3x7168 (extf .f32 x bitsLt_bf16_f32) shapeCasts_S3x1x7168_S3x7168
/-- What decides the scale: the row's largest magnitude times one over 448. -/
def yR (xf : FVec F S3x7168 .f32) : FVec F S3x1 .f32 :=
  mulf (broadcastInDim S3x1 ![0] bcast_S3_S3x1_0 (Host.reduce FloatOps.maximumf (Host.absf xf) (constant S_ .f32 0xFF800000#32) reducesTo_S3x7168_S3_d1 h_S_))
    (broadcastInDim S3x1 ![] bcast_S_S3x1 (constant S_ .f32 0x3B124925#32))
/-- The powers of two. -/
def powR : FVec F S253 .f32 := fun i => FloatOps.ofBits .f32 (lit0 (S253.rowMajor i))
/-- The scale of each row. -/
def scaleR (y : FVec F S3x1 .f32) : FVec F S3x1 .f32 :=
  select (cmpf .olt y (broadcastInDim S3x1 ![] bcast_S_S3x1 (constant S_ .f32 0x00800000#32)))
    (broadcastInDim S3x1 ![] bcast_S_S3x1 (constant S_ .f32 0x3F800000#32))
    (broadcastInDim S3x1 ![0] bcast_S3_S3x1_0 (Host.reduce FloatOps.minimumf
      (select (cmpf .olt (broadcastInDim S3x253 ![0, 1] bcast_S3x1_S3x253_0_1 y)
          (broadcastInDim S3x253 ![0, 1] bcast_S1x253_S3x253_0_1 (broadcastInDim S1x253 ![1] bcast_S253_S1x253_1 (powR (F := F)))))
        (broadcastInDim S3x253 ![1] bcast_S253_S3x253_1 (powR (F := F)))
        (broadcastInDim S3x253 ![] bcast_S_S3x253 (constant S_ .f32 0x7F800000#32)))
      (constant S_ .f32 0x7F800000#32) reducesTo_S3x253_S3_d1 h_S_))
/-- The mask, a bit for every column. -/
def allowR (bm : IVec S3x1008 32) : IVec S3x32256 1 :=
  shapeCast S3x32256 (cmpi .eq (andi (Host.shrsi (broadcastInDim S3x1008x32 ![0, 1, 2] bcast_S3x1008x1_S3x1008x32_0_1_2
      (broadcastInDim S3x1008x1 ![0, 1] bcast_S3x1008_S3x1008x1_0_1 bm)) (iotaInDim S3x1008x32 32 2))
    (broadcastInDim S3x1008x32 ![] bcast_S_S3x1008x32 (constantI S_ 32 1#32)))
    (broadcastInDim S3x1008x32 ![] bcast_S_S3x1008x32 (constantI S_ 32 1#32))) shapeCasts_S3x1008x32_S3x32256

section
variable (m : (ℓ : Loc nD τ sig) → Buf (Elt F) ℓ) (c : Dev nD)

theorem V_xf : V m c main_v1 = xfR (m ((c : Thread nD τ).loc main_arg0)) := by
  unfold_abbrev_sides
  simp only [hostOps0, hostOps0_1, hostOps0_2, hostOps0_3, hostOps0_4, List.flatten_cons, List.flatten_nil, List.append_nil,
    List.cons_append, List.nil_append]
  after_results_simp
  rfl

theorem V_scale : V m c main_v16 = scaleR (yR (xfR (m ((c : Thread nD τ).loc main_arg0)))) := by
  unfold_abbrev_sides
  simp only [hostOps0, hostOps0_1, hostOps0_2, hostOps0_3, hostOps0_4, List.flatten_cons, List.flatten_nil, List.append_nil,
    List.cons_append, List.nil_append]
  after_results_simp
  rfl

theorem V_scales : V m c main_v27 = shapeCast S1x3 (scaleR (yR (xfR (m ((c : Thread nD τ).loc main_arg0))))) shapeCasts_S3x1_S1x3 := by
  unfold_abbrev_sides
  simp only [hostOps0, hostOps0_1, hostOps0_2, hostOps0_3, hostOps0_4, List.flatten_cons, List.flatten_nil, List.append_nil,
    List.cons_append, List.nil_append]
  after_results_simp
  rfl

theorem V_ws : V m c main_v28 = broadcastInDim S1x32256 ![1] bcast_S32256_S1x32256_1 (m ((c : Thread nD τ).loc main_arg2)) := by
  unfold_abbrev_sides
  simp only [hostOps0, hostOps0_1, hostOps0_2, hostOps0_3, hostOps0_4, List.flatten_cons, List.flatten_nil, List.append_nil,
    List.cons_append, List.nil_append]
  after_results_simp

theorem V_allowed : V m c main_v29 = uitofp .f32 (allowR (m ((c : Thread nD τ).loc main_arg3))) := by
  unfold_abbrev_sides
  simp only [hostOps0, hostOps0_1, hostOps0_2, hostOps0_3, hostOps0_4, List.flatten_cons, List.flatten_nil, List.append_nil,
    List.cons_append, List.nil_append]
  after_results_simp
  rfl
end

end Cert.ReferenceIdeal.Hand

end
-- ==== Proof.RI.Value.lean ====
/-
  What the reference computes at real numbers, entry by entry.
-/
module

public import proofs.«01_k».proof.Proof.RI.Host
public import proofs.«01_k».proof.Proof.Gen.ReferenceIdeal.Value
public import proofs.«01_k».proof.Proof.Quant
public import Idealize.ShloMosaic.Lib.Pointwise
public import Idealize.ShloMosaic.Lib.Pipeline.Value
public import Idealize.ShloMosaic.Lib.KernelVsHost

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

theorem xfR_at (x : FVec Ideal S3x1x7168 .bf16) (b : Fin 3) (k : Fin 7168) : xfR x (ix2 b k) = x (ix3 b 0 k) := by
  pointwise [xfR]

/-- The row's largest magnitude. -/
def aR (xf : FVec Ideal S3x7168 .f32) (b : Fin 3) : EReal :=
  (Finset.univ : Finset (Fin 7168)).fold max (Ideal.ofBits .f32 0xFF800000#32) fun k => max (xf (ix2 b k)) (-(xf (ix2 b k)))

theorem redMax : S3x7168.Reduces [1] S3 := by decide
theorem redMin : S3x253.Reduces [1] S3 := by decide

theorem yR_at (xf : FVec Ideal S3x7168 .f32) (b : Fin 3) : yR xf (ix2 b 0) = aR xf b * Ideal.ofBits .f32 0x3B124925#32 := by
  unfold yR aR
  rw [hostReduce_maximumf_eq_multiReduction (Host.absf xf) 0xFF800000#32 reducesTo_S3x7168_S3_d1 h_S_ redMax (.inl rfl) rfl]
  pointwise []
  rfl

theorem lit_at : ∀ i : Fin 253, lit0 i = BitVec.ofNat 32 (i.val + 2) <<< 23 := by decide +kernel

theorem powR_at (i : Fin 253) : powR (F := Ideal) (ix1 i) = Quant.T (i.val + 2) := by
  rw [← Quant.ofBits_shl (by omega), ← lit_at]
  unfold powR
  refine congrArg (fun z => Ideal.ofBits .f32 (lit0 z)) (Fin.ext ?_)
  rw [Shape.rowMajor_val_one]
  rfl

theorem hostMin_at (x : FVec Ideal S3x253 .f32) (b : Fin 3) :
    Host.reduce FloatOps.minimumf x (constant S_ .f32 0x7F800000#32) reducesTo_S3x253_S3_d1 h_S_ (ix1 b)
      = (Finset.univ : Finset (Fin 253)).fold min (Ideal.ofBits .f32 0x7F800000#32) fun i => x (ix2 b i) := by
  rw [hostReduce_minimumf_eq_multiReduction x 0x7F800000#32 reducesTo_S3x253_S3_d1 h_S_ redMin (.inl rfl) rfl]
  refine (multiReduction_minimumf_eq_fold (F := Ideal) x 0x7F800000#32 redMin (.inl rfl) rfl (ix1 b)).trans ?_
  refine (redMin.fold_filter_drop_single _ _ x (ix1 b)).trans ?_
  refine congrArg (fun f => (Finset.univ : Finset (Fin 253)).fold min (Ideal.ofBits .f32 0x7F800000#32) f) (funext fun i => congrArg x (funext fun a => ?_))
  match a with
  | ⟨0, _⟩ => rfl
  | ⟨1, _⟩ => rfl

theorem T255 : Ideal.ofBits .f32 0x7F800000#32 = ⊤ := (Quant.ofBits_shl (n := 255) (by decide)).trans rfl
theorem bits_T1 : Ideal.ofBits .f32 0x00800000#32 = Quant.T 1 := Quant.ofBits_shl (n := 1) (by decide)
theorem bits_one : Ideal.ofBits .f32 0x3F800000#32 = 1 := (Quant.ofBits_shl (n := 127) (by decide)).trans Quant.T127

theorem scaleR_at (y : FVec Ideal S3x1 .f32) (b : Fin 3) : scaleR y (ix2 b 0) = Quant.sclR (y (ix2 b 0)) := by
  unfold scaleR
  generalize hg : (select (cmpf .olt (broadcastInDim S3x253 ![0, 1] bcast_S3x1_S3x253_0_1 y)
          (broadcastInDim S3x253 ![0, 1] bcast_S1x253_S3x253_0_1 (broadcastInDim S1x253 ![1] bcast_S253_S1x253_1 (powR (F := Ideal)))))
        (broadcastInDim S3x253 ![1] bcast_S253_S3x253_1 (powR (F := Ideal)))
        (broadcastInDim S3x253 ![] bcast_S_S3x253 (constant S_ .f32 0x7F800000#32))) = g
  have hgi : ∀ i : Fin 253, g (ix2 b i) = if y (ix2 b 0) < Quant.T (i.val + 2) then Quant.T (i.val + 2) else ⊤ := by
    intro i
    rw [← hg, ← powR_at, ← T255]
    pointwise []
  have hr := hostMin_at g b
  generalize Host.reduce FloatOps.minimumf g (constant S_ .f32 0x7F800000#32) reducesTo_S3x253_S3_d1 h_S_ = R at hr ⊢
  unfold Quant.sclR
  rw [T255] at hr
  simp only [hgi] at hr
  rw [← hr, ← bits_T1, ← bits_one]
  pointwise []

theorem allowR_at (bm : IVec S3x1008 32) (b : Fin 3) (v : Fin 32256) :
    allowR bm (ix2 b v) = IntOp.cmpi .eq (IntOp.andi (IntOp.shrsi .host (bm (ix2 b ⟨v.val / 32, by omega⟩)) (BitVec.ofNat 32 (v.val % 32))) 1#32) 1#32 := by
  pointwise [allowR]

/-! ## The one block of every operand and result is the whole of it -/

section
variable (m : (ℓ : Loc nD τ sig) → Buf (Elt Ideal) ℓ) (c : Dev nD)

theorem iblk0 : iblk m c 0 t0_0 = V m c main_v1 := by
  funext y
  refine congrArg (V m c main_v1) (funext fun a => Fin.ext ?_)
  match a with
  | ⟨0, _⟩ => show 0 * _ + 1 * (y 0).val = (y 0).val; omega
  | ⟨1, _⟩ => show 0 * _ + 1 * (y 1).val = (y 1).val; omega
theorem iblk1 : iblk m c 1 t0_0 = V m c main_v16 := by
  funext y
  refine congrArg (V m c main_v16) (funext fun a => Fin.ext ?_)
  match a with
  | ⟨0, _⟩ => show 0 * _ + 1 * (y 0).val = (y 0).val; omega
  | ⟨1, _⟩ => show 0 * _ + 1 * (y 1).val = (y 1).val; omega
theorem iblk2 : iblk m c 2 t0_0 = V m c main_arg1 := by
  funext y
  refine congrArg (V m c main_arg1) (funext fun a => Fin.ext ?_)
  match a with
  | ⟨0, _⟩ => show 0 * _ + 1 * (y 0).val = (y 0).val; omega
  | ⟨1, _⟩ => show 0 * _ + 1 * (y 1).val = (y 1).val; omega
theorem iblk3 : iblk m c 3 t0_0 = V m c main_v28 := by
  funext y
  refine congrArg (V m c main_v28) (funext fun a => Fin.ext ?_)
  match a with
  | ⟨0, _⟩ => show 0 * _ + 1 * (y 0).val = (y 0).val; omega
  | ⟨1, _⟩ => show 0 * _ + 1 * (y 1).val = (y 1).val; omega
theorem iblk4 : iblk m c 4 t0_0 = V m c main_v29 := by
  funext y
  refine congrArg (V m c main_v29) (funext fun a => Fin.ext ?_)
  match a with
  | ⟨0, _⟩ => show 0 * _ + 1 * (y 0).val = (y 0).val; omega
  | ⟨1, _⟩ => show 0 * _ + 1 * (y 1).val = (y 1).val; omega

theorem zero2 : (![0, 0] : Fin 2 → Nat) = fun _ => 0 := by decide

theorem out9_at (x0 x1 x2 x3 x4 x5) (y : S3x7168.Idx) : out0_9 (F := Ideal) x0 x1 x2 x3 x4 x5 y = E9 x0 x1 y := by
  unfold_out out0_9
  rw [View.ld_unit_zero zero2 _ x0, View.ld_unit_zero zero2 _ x1]
  exact canon9_eq x0 x1 y

theorem out6_at (x0 x1 x2 x3 x4 x5) (y : S3x1x32256.Idx) : out0_6 (F := Ideal) x0 x1 x2 x3 x4 x5 y = E6 x4 x1 x0 x2 x3 y := by
  unfold_out out0_6
  rw [View.ld_unit_zero zero2 _ x0, View.ld_unit_zero zero2 _ x1, View.ld_unit_zero zero2 _ x2, View.ld_unit_zero zero2 _ x3, View.ld_unit_zero zero2 _ x4]
  exact canon6_eq x4 x1 x0 x2 x3 y

theorem cut9 (f : S3x7168.Idx → Ideal .fp8e4m3) (y : S3x7168.Idx) : (cfg0.win 9).cut (grid0.coords t0_0) f y = f y := rfl
set_option maxRecDepth 8000 in
theorem cut6 (f : S3x1x32256.Idx → Ideal .f32) (y : S3x1x32256.Idx) : (cfg0.win 6).cut (grid0.coords t0_0) f y = f y := rfl

theorem read9 (X : S3x7168.Idx → Ideal .fp8e4m3) (y : S3x7168.Idx) :
    View.read (Elt Ideal) ((cfg0.win 9).blk t0_0).view X y = X y := by
  refine congrArg X (funext fun a => Fin.ext ?_)
  match a with
  | ⟨0, _⟩ => show 0 * _ + 1 * (y 0).val = (y 0).val; omega
  | ⟨1, _⟩ => show 0 * _ + 1 * (y 1).val = (y 1).val; omega

theorem read6 (X : S3x1x32256.Idx → Ideal .f32) (y : S3x1x32256.Idx) :
    View.read (Elt Ideal) ((cfg0.win 6).blk t0_0).view X y = X y := by
  refine congrArg X (funext fun a => Fin.ext ?_)
  match a with
  | ⟨0, _⟩ => show 0 * _ + 1 * (y 0).val = (y 0).val; omega
  | ⟨1, _⟩ => show 0 * _ + 1 * (y 1).val = (y 1).val; omega
  | ⟨2, _⟩ => show 0 * _ + 1 * (y 2).val = (y 2).val; omega

theorem arr9 (y : S3x7168.Idx) : (dats m 0 c).arrAt 9 cfg0.N y = E9 (V m c main_v1) (V m c main_v16) y := by
  have h := congrFun ((blocks9 m c t0_0 rfl).trans (flushed9 m c t0_0)) y
  rw [iblk0, iblk1] at h
  exact (read9 _ y).symm.trans (h.trans ((cut9 _ y).trans (out9_at _ _ _ _ _ _ y)))

theorem arr6 (y : S3x1x32256.Idx) : (dats m 0 c).arrAt 6 cfg0.N y = E6 (V m c main_v29) (V m c main_v16) (V m c main_v1) (V m c main_arg1) (V m c main_v28) y := by
  have h := congrFun ((blocks6 m c t0_0 rfl).trans (flushed6 m c t0_0)) y
  rw [iblk0, iblk1, iblk2, iblk3, iblk4] at h
  exact (read6 _ y).symm.trans (h.trans ((cut6 _ y).trans (out6_at _ _ _ _ _ _ y)))
end

end Cert.ReferenceIdeal.Hand

end
-- ==== Proof.RI.Results.lean ====
/-
  The reference's results 1, 4 and 5 at real numbers, entry by entry, as functions of its arguments.
-/
module

public import proofs.«01_k».proof.Proof.RI.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

/-- The scale of row `b`. -/
def scR (x : FVec Ideal S3x1x7168 .bf16) (b : Fin 3) : EReal :=
  Quant.sclR (aR (xfR x) b * Ideal.ofBits .f32 0x3B124925#32)

/-- The code of row `b` at column `k`. -/
def cdR (x : FVec Ideal S3x1x7168 .bf16) (b : Fin 3) (k : Fin 7168) : EReal :=
  min (Ideal.ofBits .f32 0x43E00000#32) (max (Ideal.ofBits .f32 0xC3E00000#32) (x (ix3 b 0 k) * Ideal.div 1 (scR x b)))

/-- Row `b`'s quantised codes times column `v` of the weights, scaled by the row and by the column. -/
def lgR (x : FVec Ideal S3x1x7168 .bf16) (w : FVec Ideal S7168x32256 .fp8e4m3) (ws : FVec Ideal S32256 .f32)
    (b : Fin 3) (v : Fin 32256) : EReal :=
  (∑ k : Fin 7168, cdR x b k * w (ix2 k v)) * scR x b * ws (ix1 v)

/-- The mask bit of row `b` for column `v`. -/
def bitR (bm : IVec S3x1008 32) (b : Fin 3) (v : Fin 32256) : BitVec 1 :=
  IntOp.cmpi .eq (IntOp.andi (IntOp.shrsi .host (bm (ix2 b ⟨v.val / 32, by omega⟩)) (BitVec.ofNat 32 (v.val % 32))) 1#32) 1#32

theorem E9_at (xf : FVec Ideal S3x7168 .f32) (s : FVec Ideal S3x1 .f32) (b : Fin 3) (k : Fin 7168) :
    (E9 (F := Ideal) xf s (ix2 b k) : EReal) = min (Ideal.ofBits .f32 0x43E00000#32) (max (Ideal.ofBits .f32 0xC3E00000#32)
      (xf (ix2 b k) * Ideal.div (Ideal.ofBits .f32 0x3F800000#32) (s (ix2 b 0)))) := by
  have h0 : ix9_0 (ix2 b k) = ix2 b k := by
    funext a; match a with | ⟨0, _⟩ => rfl | ⟨1, _⟩ => rfl
  have h1 : ix9_1 (ix2 b k) = ix2 b 0 := by
    funext a; match a with | ⟨0, _⟩ => rfl | ⟨1, _⟩ => rfl
  simp only [E9]
  rw [h0, h1]
  rfl

theorem pay3_at (s : FVec Ideal S3x1 .f32) (xf : FVec Ideal S3x7168 .f32) (w : FVec Ideal S7168x32256 .fp8e4m3) (ws : FVec Ideal S1x32256 .f32)
    (b : Fin 3) (v : Fin 32256) :
    (k0_pay3 (F := Ideal) s xf w ws (ix2 b v) : EReal) = (∑ k : Fin 7168, min (Ideal.ofBits .f32 0x43E00000#32) (max (Ideal.ofBits .f32 0xC3E00000#32)
      (xf (ix2 b k) * Ideal.div (Ideal.ofBits .f32 0x3F800000#32) (s (ix2 b 0)))) * w (ix2 k v)) * s (ix2 b 0) * ws (ix2 0 v) := by
  pointwise [k0_pay3, k0_pay2, k0_pay1]

theorem E6_at (al : FVec Ideal S3x32256 .f32) (s : FVec Ideal S3x1 .f32) (xf : FVec Ideal S3x7168 .f32) (w : FVec Ideal S7168x32256 .fp8e4m3)
    (ws : FVec Ideal S1x32256 .f32) (b : Fin 3) (v : Fin 32256) :
    (E6 (F := Ideal) al s xf w ws (ix3 b 0 v) : EReal) = Scalar.select (Ideal.cmp .oeq (al (ix2 b v)) (Ideal.ofBits .f32 0x3F800000#32))
      (k0_pay3 (F := Ideal) s xf w ws (ix2 b v) : EReal) 0 := by
  have h0 : ix6_0 (ix3 b 0 v) = ix2 b v := by
    funext a; match a with | ⟨0, _⟩ => rfl | ⟨1, _⟩ => rfl
  have h1 : ix6_1 (ix3 b 0 v) = ix2 b v := by
    funext a; match a with | ⟨0, _⟩ => rfl | ⟨1, _⟩ => rfl
  simp only [E6]
  rw [h0, h1]
  exact congrArg (Scalar.select _ _) Ideal.ofBits_zero_f32

/-- A bit as a float is one exactly when it is set. -/
theorem bit_eq (b : BitVec 1) : Ideal.cmp .oeq (((b.toNat : ℝ)) : EReal) 1 = b := by
  rcases (show b = 0#1 ∨ b = 1#1 by revert b; decide) with rfl | rfl
  · simp [Ideal.cmp]
  · simp [Ideal.cmp]

section
variable (m : (ℓ : Loc nD τ sig) → Buf (Elt Ideal) ℓ) (c : Dev nD)

theorem scale_at (b : Fin 3) : V m c main_v16 (ix2 b 0) = scR (m ((c : Thread nD τ).loc main_arg0)) b := by
  rw [V_scale, scaleR_at, yR_at]; rfl

theorem xf_at (b : Fin 3) (k : Fin 7168) : V m c main_v1 (ix2 b k) = m ((c : Thread nD τ).loc main_arg0) (ix3 b 0 k) := by
  rw [V_xf, xfR_at]

theorem codes_at (b : Fin 3) (k : Fin 7168) :
    (dats m 0 c).arrAt 9 cfg0.N (ix2 b k) = cdR (m ((c : Thread nD τ).loc main_arg0)) b k := by
  rw [arr9, E9_at, xf_at, scale_at, bits_one]; rfl

theorem scales_at (b : Fin 3) : V m c main_v27 (ix2 0 b) = scR (m ((c : Thread nD τ).loc main_arg0)) b := by
  rw [V_scales, ← scale_at m c b, V_scale]
  pointwise []

theorem ws_at (v : Fin 32256) : V m c main_v28 (ix2 0 v) = m ((c : Thread nD τ).loc main_arg2) (ix1 v) := by
  rw [V_ws]
  pointwise []

theorem allowed_at (b : Fin 3) (v : Fin 32256) :
    Ideal.cmp .oeq (V m c main_v29 (ix2 b v)) (Ideal.ofBits .f32 0x3F800000#32) = bitR (m ((c : Thread nD τ).loc main_arg3)) b v := by
  rw [V_allowed, bits_one]
  refine Eq.trans ?_ (allowR_at (m ((c : Thread nD τ).loc main_arg3)) b v)
  exact bit_eq (allowR (m ((c : Thread nD τ).loc main_arg3)) (ix2 b v))

theorem masked_at (b : Fin 3) (v : Fin 32256) :
    (dats m 0 c).arrAt 6 cfg0.N (ix3 b 0 v) = Scalar.select (bitR (m ((c : Thread nD τ).loc main_arg3)) b v)
      (lgR (m ((c : Thread nD τ).loc main_arg0)) (V m c main_arg1) (m ((c : Thread nD τ).loc main_arg2)) b v) 0 := by
  rw [arr6, E6_at, allowed_at, pay3_at]
  rw [scale_at, ws_at, bits_one]
  refine congrArg (fun z : EReal => Scalar.select (bitR (m ((c : Thread nD τ).loc main_arg3)) b v)
    (z * scR (m ((c : Thread nD τ).loc main_arg0)) b * m ((c : Thread nD τ).loc main_arg2) (ix1 v)) (0 : EReal))
    (Finset.sum_congr rfl fun k _ => ?_)
  rw [xf_at]
  rfl
end

end Cert.ReferenceIdeal.Hand

end
-- ==== Proof.Match.lean ====
/-
  The kernel's quantised rows, scales and masked logits are the reference's, row by row, where every entry of the rows is
  at most the largest finite value of its format in magnitude.
-/
module

public import proofs.«01_k».proof.Proof.KI.Logits
public import proofs.«01_k».proof.Proof.RI.Results
public import proofs.«01_k».proof.Proof.Gen.KernelIdeal.Frame

@[expose] public section

set_option maxRecDepth 16384

noncomputable section

namespace Cert.Match

open Idealize.ShloMosaic Idealize.ShloMosaic.TcCoe Idealize.ShloMosaic.Tactic
open Cert.KernelIdeal.Hand Cert.ReferenceIdeal.Hand

/-! ## The constants -/

theorem negInf : Ideal.ofBits .f32 0xFF800000#32 = ⊥ := by
  show Ideal.ieee 8 23 (0xFF800000#32) = _
  unfold Ideal.ieee
  simp

theorem third : Ideal.ofBits .f32 0x3B124925#32 = (((9586981 : ℝ) * (2 : ℝ) ^ (-32 : ℤ) : ℝ) : EReal) := by
  show Ideal.ieee 8 23 (0x3B124925#32) = _
  unfold Ideal.ieee
  simp

theorem largest : Ideal.ofBits .bf16 0x7F7F#16 = (((255 : ℝ) * (2 : ℝ) ^ (120 : ℤ) : ℝ) : EReal) := by
  show Ideal.ieee 8 7 (0x7F7F#16) = _
  unfold Ideal.ieee
  simp

theorem T253 : Quant.T 253 = (((2 : ℝ) ^ (126 : ℤ) : ℝ) : EReal) := by
  unfold Quant.T
  norm_num

/-- A row's largest magnitude times one over 448 is below the largest power the scale can be. -/
theorem below {a : EReal} (h : a ≤ Ideal.ofBits .bf16 0x7F7F#16) : a * Ideal.ofBits .f32 0x3B124925#32 < Quant.T 253 := by
  have hc : (0 : EReal) ≤ Ideal.ofBits .f32 0x3B124925#32 := by
    rw [third]; exact EReal.coe_nonneg.mpr (by positivity)
  refine (mul_le_mul_of_nonneg_right h hc).trans_lt ?_
  rw [largest, third, T253, ← EReal.coe_mul]
  exact EReal.coe_lt_coe_iff.mpr (by norm_num)

theorem zero_below {a : EReal} (h : a = 0) : a * Ideal.ofBits .f32 0x3B124925#32 < Quant.T 1 := by
  rw [h, zero_mul]
  have := Quant.T_lt (i := 0) (j := 1) (by decide) (by decide)
  simpa [Quant.T] using this

/-! ## The rows -/

/-- Every entry is at most the largest finite value in magnitude. -/
def Bounded (x : FVec Ideal Cert.ReferenceIdeal.S3x1x7168 .bf16) : Prop :=
  ∀ (b : Fin 3) (k : Fin 7168), max (x (ix3 b 0 k) : EReal) (-(x (ix3 b 0 k) : EReal)) ≤ Ideal.ofBits .bf16 0x7F7F#16

section
variable (xf : Vec Ideal Cert.KernelIdeal.S8x7168 .f32) (x : FVec Ideal Cert.ReferenceIdeal.S3x1x7168 .bf16)
  (hrow : ∀ (b : Fin 3) (k : Fin 7168), xf (ix2 (b.castLE (by decide) : Fin 8) k) = x (ix3 b 0 k))
  (hfin : Bounded x)
include hrow

theorem a_eq (b : Fin 3) : aK xf (b.castLE (by decide)) = aR (xfR x) b := by
  unfold aK aR
  refine congrArg (fun f => (Finset.univ : Finset (Fin 7168)).fold max (Ideal.ofBits .f32 0xFF800000#32) f) (funext fun k => ?_)
  rw [hrow, xfR_at]

include hfin

theorem a_le (b : Fin 3) : aK xf (b.castLE (by decide)) ≤ Ideal.ofBits .bf16 0x7F7F#16 := by
  unfold aK
  refine Finset.fold_max_le _ |>.mpr ⟨?_, fun k _ => ?_⟩
  · rw [negInf]; exact bot_le
  · rw [hrow]; exact hfin b k

theorem sc_eq (b : Fin 3) : scK xf (b.castLE (by decide)) = scR x b := by
  unfold scK scR yK
  rw [← a_eq xf x hrow b]
  exact (Quant.main zero_below (below (a_le xf x hrow hfin b))).1

theorem cd_eq (b : Fin 3) (k : Fin 7168) : cdK xf (b.castLE (by decide)) k = cdR x b k := by
  unfold cdK cdR scR
  rw [hrow, ← a_eq xf x hrow b]
  unfold yK
  rw [(Quant.main zero_below (below (a_le xf x hrow hfin b))).2]
end

/-! ## The mask -/

theorem shr_eq (x : BitVec 32) {n : ℕ} (h : n < 32) :
    IntOp.shrsi .vector x (BitVec.ofNat 32 n) = IntOp.shrsi .host x (BitVec.ofNat 32 n) := by
  have hn : (BitVec.ofNat 32 n).toNat < 32 := by
    rw [BitVec.toNat_ofNat, Nat.mod_eq_of_lt (by omega)]; exact h
  unfold IntOp.shrsi
  rw [if_pos hn, if_pos hn]

/-! ## The results -/

section
variable (m : (ℓ : Loc Cert.KernelIdeal.nD Cert.KernelIdeal.τ Cert.KernelIdeal.sig) → Buf (Elt Ideal) ℓ) (c : Dev Cert.KernelIdeal.nD)

theorem V_x : Cert.KernelIdeal.Gen.V m c Cert.KernelIdeal.main_v0
    = shapeCast Cert.KernelIdeal.S3x7168 (m ((c : Thread Cert.KernelIdeal.nD Cert.KernelIdeal.τ).loc Cert.KernelIdeal.main_arg0)) Cert.KernelIdeal.Gen.shapeCasts_S3x1x7168_S3x7168 := by
  unfold_abbrev_sides
  simp only [Cert.KernelIdeal.Gen.hostOps0, List.flatten_cons, List.flatten_nil, List.append_nil, List.cons_append, List.nil_append]
  after_results_simp
  rfl

theorem widen (y : FVec Ideal Cert.KernelIdeal.S3x1x7168 .bf16) (b : Fin 3) (k : Fin 7168) :
    (Cert.KernelIdeal.Gen.k0_pay52 (F := Ideal) (shapeCast Cert.KernelIdeal.S3x7168 y Cert.KernelIdeal.Gen.shapeCasts_S3x1x7168_S3x7168) (ix2 b k) : EReal)
      = y (ix3 b 0 k) := by
  pointwise [Cert.KernelIdeal.Gen.k0_pay52]

theorem row (b : Fin 3) (k : Fin 7168) :
    xfV (F := Ideal) c (Cert.KernelIdeal.Gen.V m c Cert.KernelIdeal.main_v0) (ix2 (b.castLE (by decide) : Fin 8) k)
      = m ((c : Thread Cert.KernelIdeal.nD Cert.KernelIdeal.τ).loc Cert.KernelIdeal.main_arg0) (ix3 b 0 k) := by
  have h : xfV (F := Ideal) c (Cert.KernelIdeal.Gen.V m c Cert.KernelIdeal.main_v0) (ix2 (b.castLE (by decide) : Fin 8) k)
      = Cert.KernelIdeal.Gen.k0_pay52 (xV (F := Ideal) c (Cert.KernelIdeal.Gen.V m c Cert.KernelIdeal.main_v0)) (ix2 b k) := dif_pos b.isLt
  have hx : xV (F := Ideal) c (Cert.KernelIdeal.Gen.V m c Cert.KernelIdeal.main_v0) = Cert.KernelIdeal.Gen.V m c Cert.KernelIdeal.main_v0 := rfl
  rw [h, hx, V_x]
  exact widen _ b k

variable (hfin : Bounded (m ((c : Thread Cert.KernelIdeal.nD Cert.KernelIdeal.τ).loc Cert.KernelIdeal.main_arg0)))
include hfin

theorem codes_eq (b : Fin 3) (k : Fin 7168) :
    codesV (F := Ideal) (xfV c (Cert.KernelIdeal.Gen.V m c Cert.KernelIdeal.main_v0)) (ix2 b k)
      = cdR (m ((c : Thread Cert.KernelIdeal.nD Cert.KernelIdeal.τ).loc Cert.KernelIdeal.main_arg0)) b k :=
  (codesV_at _ b k).trans (cd_eq _ _ (row m c) hfin b k)

theorem scales_eq (b : Fin 3) :
    xsV (F := Ideal) (xfV c (Cert.KernelIdeal.Gen.V m c Cert.KernelIdeal.main_v0)) (ix2 0 b)
      = scR (m ((c : Thread Cert.KernelIdeal.nD Cert.KernelIdeal.τ).loc Cert.KernelIdeal.main_arg0)) b :=
  (xsV_at _ b).trans (sc_eq _ _ (row m c) hfin b)

theorem masked_eq (b : Fin 3) (v : Fin 32256) :
    mlV (F := Ideal) c (Cert.KernelIdeal.Gen.V m c Cert.KernelIdeal.main_arg1) (Cert.KernelIdeal.Gen.V m c Cert.KernelIdeal.main_v0)
        (Cert.KernelIdeal.Gen.V m c Cert.KernelIdeal.main_arg2) (Cert.KernelIdeal.Gen.V m c Cert.KernelIdeal.main_arg3) (ix3 b 0 v)
      = Scalar.select (bitR (m ((c : Thread Cert.KernelIdeal.nD Cert.KernelIdeal.τ).loc Cert.KernelIdeal.main_arg3)) b v)
          (lgR (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)) b v) 0 := by
  refine (mlV_at c _ _ _ _ b v).trans ?_
  rw [Cert.KernelIdeal.Gen.V_main_arg1, Cert.KernelIdeal.Gen.V_main_arg2, Cert.KernelIdeal.Gen.V_main_arg3,
    sc_eq _ _ (row m c) hfin b]
  unfold bitOf
  rw [shr_eq _ (Nat.mod_lt _ (by decide))]
  refine congrArg (fun z : EReal => Scalar.select (bitR (m ((c : Thread Cert.KernelIdeal.nD Cert.KernelIdeal.τ).loc Cert.KernelIdeal.main_arg3)) b v)
    (z * scR (m ((c : Thread Cert.KernelIdeal.nD Cert.KernelIdeal.τ).loc Cert.KernelIdeal.main_arg0)) b
      * m ((c : Thread Cert.KernelIdeal.nD Cert.KernelIdeal.τ).loc Cert.KernelIdeal.main_arg2) (ix1 v)) (0 : EReal))
    (Finset.sum_congr rfl fun k _ => ?_)
  rw [cd_eq _ _ (row m c) hfin b k]
  rfl
end

end Cert.Match

end
-- ==== Proof.Join.lean ====
/-
  The two runs side by side: from memories that agree on the arguments, with every entry of the rows at most the largest
  finite value in magnitude, the kernel and the reference leave the same masked logits, codes and scales.
-/
module

public import proofs.«01_k».proof.Defs
public import proofs.«01_k».proof.Proof.KI.Frame
public import proofs.«01_k».proof.Proof.Match
public import proofs.«01_k».proof.Proof.Gen.ReferenceIdeal.Value

@[expose] public section

set_option maxRecDepth 16384

noncomputable section

namespace Cert.Match

open Idealize.ShloMosaic Idealize.ShloMosaic.TcCoe Idealize.ShloMosaic.Tactic
open Cert.KernelIdeal.Hand Cert.ReferenceIdeal.Hand

theorem preFacts : Cert.Pre_finite.Facts := ⟨by decide⟩

/-- The precondition says that every entry is bounded. -/
theorem bounded_of_pre (x : FVec Ideal Cert.ReferenceIdeal.S3x1x7168 .bf16) (w ws bm ids)
    (h : @Cert.Pre_finite.fn preFacts Ideal _ x w ws bm ids = fun _ => 1#1) : Bounded x := by
  intro b k
  have h' : BitVec.ofBool (decide (max (x (ix3 b 0 k) : EReal) (-(x (ix3 b 0 k) : EReal)) ≤ Ideal.ofBits .bf16 0x7F7F#16)) = 1#1 :=
    congrFun h (ix3 b 0 k)
  by_contra hc
  rw [decide_eq_false hc] at h'
  exact absurd h' (by decide)

section
variable (m : (ℓ : Loc Cert.KernelIdeal.nD Cert.KernelIdeal.τ Cert.KernelIdeal.sig) → Buf (Elt Ideal) ℓ)
  (g : Dev Cert.KernelIdeal.nD → PrngReg)

/-- What the kernel's run leaves. -/
theorem kernel_run : θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1_0) = fin0 m c
      ∧ r.2.mem ((c.tc : Thread Cert.KernelIdeal.nD Cert.KernelIdeal.τ).loc Cert.KernelIdeal.main_v1_3) = fin3 m c
      ∧ r.2.mem ((c.tc : Thread Cert.KernelIdeal.nD Cert.KernelIdeal.τ).loc Cert.KernelIdeal.main_v1_4) = fin4 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun r h c =>
    have k := h.1.toR c
    ⟨(h.1.written c (b := Cert.KernelIdeal.main_v1_0) (by decide)).trans (Gv_0 m c),
      (h.1.written c (b := Cert.KernelIdeal.main_v1_3) (by decide)).trans (Gv_3 m c),
      (h.1.written c (b := Cert.KernelIdeal.main_v1_4) (by decide)).trans (Gv_4 m c),
      (k.2 Cert.KernelIdeal.main_arg0 (Finset.mem_sdiff.mpr ⟨Pipeline.mem_restRefs_of _ (by decide) (by decide), by decide⟩)).trans (Cert.KernelIdeal.Gen.V_main_arg0 m c),
      (k.2 Cert.KernelIdeal.main_arg1 (Finset.mem_sdiff.mpr ⟨Pipeline.mem_restRefs_of _ (by decide) (by decide), by decide⟩)).trans (Cert.KernelIdeal.Gen.V_main_arg1 m c),
      (k.2 Cert.KernelIdeal.main_arg2 (Finset.mem_sdiff.mpr ⟨Pipeline.mem_restRefs_of _ (by decide) (by decide), by decide⟩)).trans (Cert.KernelIdeal.Gen.V_main_arg2 m c),
      (k.2 Cert.KernelIdeal.main_arg3 (Finset.mem_sdiff.mpr ⟨Pipeline.mem_restRefs_of _ (by decide) (by decide), by decide⟩)).trans (Cert.KernelIdeal.Gen.V_main_arg3 m c),
      (k.2 Cert.KernelIdeal.main_arg4 (Finset.mem_sdiff.mpr ⟨Pipeline.mem_restRefs_of _ (by decide) (by decide), by decide⟩)).trans (Cert.KernelIdeal.Gen.V_main_arg4 m c)⟩)
    (run_main m g)

variable (c : Dev Cert.KernelIdeal.nD)

/-- The kernel's result buffers hold what their entries say. -/
theorem fin0_at (b : Fin 3) (v : Fin 32256) : fin0 m c (ix3 b 0 v) = mlV c (Cert.KernelIdeal.Gen.V m c Cert.KernelIdeal.main_arg1)
    (Cert.KernelIdeal.Gen.V m c Cert.KernelIdeal.main_v0) (Cert.KernelIdeal.Gen.V m c Cert.KernelIdeal.main_arg2)
    (Cert.KernelIdeal.Gen.V m c Cert.KernelIdeal.main_arg3) (ix3 b 0 v) :=
  congrFun ((Memref.isWhole_whole _ : oMl.IsWhole).read_unread (mlV (F := Ideal) c (Cert.KernelIdeal.Gen.V m c Cert.KernelIdeal.main_arg1)
    (Cert.KernelIdeal.Gen.V m c Cert.KernelIdeal.main_v0) (Cert.KernelIdeal.Gen.V m c Cert.KernelIdeal.main_arg2)
    (Cert.KernelIdeal.Gen.V m c Cert.KernelIdeal.main_arg3))) (ix3 b 0 v)
theorem fin3_at (b : Fin 3) (k : Fin 7168) : fin3 m c (ix2 b k) = codesV (xfV c (Cert.KernelIdeal.Gen.V m c Cert.KernelIdeal.main_v0)) (ix2 b k) :=
  congrFun ((Memref.isWhole_whole _ : oXc.IsWhole).read_unread (codesV (F := Ideal) (xfV c (Cert.KernelIdeal.Gen.V m c Cert.KernelIdeal.main_v0)))) (ix2 b k)
theorem fin4_at (b : Fin 3) : fin4 m c (ix2 0 b) = xsV (xfV c (Cert.KernelIdeal.Gen.V m c Cert.KernelIdeal.main_v0)) (ix2 0 b) :=
  congrFun ((Memref.isWhole_whole _ : oXs.IsWhole).read_unread (xsV (F := Ideal) (xfV c (Cert.KernelIdeal.Gen.V m c Cert.KernelIdeal.main_v0)))) (ix2 0 b)

variable (m' : (ℓ : Loc Cert.ReferenceIdeal.nD Cert.ReferenceIdeal.τ Cert.ReferenceIdeal.sig) → Buf (Elt Ideal) ℓ)
  (hfin : Bounded (m ((c : Thread Cert.KernelIdeal.nD Cert.KernelIdeal.τ).loc Cert.KernelIdeal.main_arg0)))
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
include hfin h0

theorem codes_agree : (Cert.ReferenceIdeal.Gen.dats m' 0 c).arrAt 9 Cert.ReferenceIdeal.cfg0.N = fin3 m c := by
  funext y
  obtain ⟨b, k, rfl⟩ : ∃ (b : Fin 3) (k : Fin 7168), y = ix2 b k := ⟨y 0, y 1, by funext a; match a with | ⟨0, _⟩ => rfl | ⟨1, _⟩ => rfl⟩
  refine (codes_at m' c b k).trans (Eq.trans ?_ ((fin3_at m c b k).trans (codes_eq m c hfin b k)).symm)
  rw [h0]

theorem scales_agree : Cert.ReferenceIdeal.Gen.V m' c Cert.ReferenceIdeal.main_v27 = fin4 m c := by
  funext y
  obtain ⟨b, rfl⟩ : ∃ (b : Fin 3), y = ix2 0 b :=
    ⟨y 1, by funext a; match a with | ⟨0, _⟩ => exact Subsingleton.elim (α := Fin 1) _ _ | ⟨1, _⟩ => rfl⟩
  refine (scales_at m' c b).trans (Eq.trans ?_ ((fin4_at m c b).trans (scales_eq m c hfin b)).symm)
  rw [h0]

variable (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
include h1 h2 h3

theorem masked_agree : (Cert.ReferenceIdeal.Gen.dats m' 0 c).arrAt 6 Cert.ReferenceIdeal.cfg0.N = fin0 m c := by
  funext y
  obtain ⟨b, v, rfl⟩ : ∃ (b : Fin 3) (v : Fin 32256), y = ix3 b 0 v :=
    ⟨y 0, y 2, by funext a; match a with | ⟨0, _⟩ => rfl | ⟨1, _⟩ => exact Subsingleton.elim (α := Fin 1) _ _ | ⟨2, _⟩ => rfl⟩
  refine (masked_at m' c b v).trans (Eq.trans ?_ ((fin0_at m c b v).trans (masked_eq m c hfin b v)).symm)
  rw [Cert.ReferenceIdeal.Gen.V_main_arg1, h0, h1, h2, h3]
end

/-- The value claim. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  have hfin : ∀ c : Dev Cert.KernelIdeal.nD, Bounded (m ((c : Thread Cert.KernelIdeal.nD Cert.KernelIdeal.τ).loc Cert.KernelIdeal.main_arg0)) :=
    fun c => bounded_of_pre _ _ _ _ _ (hpre c)
  refine ⟨fin0 m, fin3 m, fin4 m, kernel_run m g, ?_⟩
  refine (θ_run _ _ _).mono (fun r h c => ?_) (Cert.ReferenceIdeal.Gen.run_main m' g')
  obtain ⟨a0, a1, a2, a3, a4⟩ := hargs c
  have h27 := (h c).2 Cert.ReferenceIdeal.main_v27 (Pipeline.mem_restRefs_of _ (by decide) (by decide))
  exact ⟨(Cert.ReferenceIdeal.Value.post6 m' r h c).trans (masked_agree m c m' (hfin c) a0 a1 a2 a3),
    (Cert.ReferenceIdeal.Value.post9 m' r h c).trans (codes_agree m c m' (hfin c) a0),
    h27.trans (scales_agree m c m' (hfin c) a0),
    Cert.ReferenceIdeal.Value.kept_main_arg0 m' r h c, Cert.ReferenceIdeal.Value.kept_main_arg1 m' r h c,
    Cert.ReferenceIdeal.Value.kept_main_arg2 m' r h c, Cert.ReferenceIdeal.Value.kept_main_arg3 m' r h c,
    Cert.ReferenceIdeal.Value.kept_main_arg4 m' r h c⟩

end Cert.Match

end
-- ==== Proof.lean ====
/-
  The proof of the claims: both kernels and the reference end with their operands unchanged and their counters at zero, and
  the kernel at real numbers leaves the reference's masked logits, codes and scales.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.K.Frame
public import proofs.«01_k».proof.Proof.KI.Frame
public import proofs.«01_k».proof.Proof.Join

@[expose] public section

/-- Every claim. -/
theorem Cert.Proof.claim : Cert.Claim :=
  ⟨Cert.Kernel.Gen.facts, Cert.KernelIdeal.Gen.facts, Cert.ReferenceIdeal.Gen.facts, Cert.Match.preFacts,
    fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ, trivial, Cert.Match.algebraic⟩

end
